-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12)
      ∧ r.2.mem ((c.tc : Thread Cert.Kernel16.nD Cert.Kernel16.τ).loc Cert.Kernel16.main_arg13) = m ((c.tc : Thread Cert.Kernel16.nD Cert.Kernel16.τ).loc Cert.Kernel16.main_arg13)
      ∧ r.2.mem ((c.tc : Thread Cert.Kernel16.nD Cert.Kernel16.τ).loc Cert.Kernel16.main_arg14) = m ((c.tc : Thread Cert.Kernel16.nD Cert.Kernel16.τ).loc Cert.Kernel16.main_arg14)
      ∧ r.2.mem ((c.tc : Thread Cert.Kernel16.nD Cert.Kernel16.τ).loc Cert.Kernel16.main_arg15) = m ((c.tc : Thread Cert.Kernel16.nD Cert.Kernel16.τ).loc Cert.Kernel16.main_arg15)
      ∧ r.2.mem ((c.tc : Thread Cert.Kernel16.nD Cert.Kernel16.τ).loc Cert.Kernel16.main_arg16) = m ((c.tc : Thread Cert.Kernel16.nD Cert.Kernel16.τ).loc Cert.Kernel16.main_arg16)
      ∧ r.2.mem ((c.tc : Thread Cert.Kernel16.nD Cert.Kernel16.τ).loc Cert.Kernel16.main_arg17) = m ((c.tc : Thread Cert.Kernel16.nD Cert.Kernel16.τ).loc Cert.Kernel16.main_arg17)
      ∧ r.2.mem ((c.tc : Thread Cert.Kernel16.nD Cert.Kernel16.τ).loc Cert.Kernel16.main_arg18) = m ((c.tc : Thread Cert.Kernel16.nD Cert.Kernel16.τ).loc Cert.Kernel16.main_arg18))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
      ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
      ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
      ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15)
      ∧ r.2.mem ((c.tc : Thread Cert.Kernel16Ideal.nD Cert.Kernel16Ideal.τ).loc Cert.Kernel16Ideal.main_arg16) = m ((c.tc : Thread Cert.Kernel16Ideal.nD Cert.Kernel16Ideal.τ).loc Cert.Kernel16Ideal.main_arg16)
      ∧ r.2.mem ((c.tc : Thread Cert.Kernel16Ideal.nD Cert.Kernel16Ideal.τ).loc Cert.Kernel16Ideal.main_arg17) = m ((c.tc : Thread Cert.Kernel16Ideal.nD Cert.Kernel16Ideal.τ).loc Cert.Kernel16Ideal.main_arg17)
      ∧ r.2.mem ((c.tc : Thread Cert.Kernel16Ideal.nD Cert.Kernel16Ideal.τ).loc Cert.Kernel16Ideal.main_arg18) = m ((c.tc : Thread Cert.Kernel16Ideal.nD Cert.Kernel16Ideal.τ).loc Cert.Kernel16Ideal.main_arg18))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11)
      ∧ r.2.mem ((c.tc : Thread Cert.Reference16Ideal.nD Cert.Reference16Ideal.τ).loc Cert.Reference16Ideal.main_arg12) = m ((c.tc : Thread Cert.Reference16Ideal.nD Cert.Reference16Ideal.τ).loc Cert.Reference16Ideal.main_arg12)
      ∧ r.2.mem ((c.tc : Thread Cert.Reference16Ideal.nD Cert.Reference16Ideal.τ).loc Cert.Reference16Ideal.main_arg13) = m ((c.tc : Thread Cert.Reference16Ideal.nD Cert.Reference16Ideal.τ).loc Cert.Reference16Ideal.main_arg13)
      ∧ r.2.mem ((c.tc : Thread Cert.Reference16Ideal.nD Cert.Reference16Ideal.τ).loc Cert.Reference16Ideal.main_arg14) = m ((c.tc : Thread Cert.Reference16Ideal.nD Cert.Reference16Ideal.τ).loc Cert.Reference16Ideal.main_arg14)
      ∧ r.2.mem ((c.tc : Thread Cert.Reference16Ideal.nD Cert.Reference16Ideal.τ).loc Cert.Reference16Ideal.main_arg15) = m ((c.tc : Thread Cert.Reference16Ideal.nD Cert.Reference16Ideal.τ).loc Cert.Reference16Ideal.main_arg15)
      ∧ r.2.mem ((c.tc : Thread Cert.Reference16Ideal.nD Cert.Reference16Ideal.τ).loc Cert.Reference16Ideal.main_arg16) = m ((c.tc : Thread Cert.Reference16Ideal.nD Cert.Reference16Ideal.τ).loc Cert.Reference16Ideal.main_arg16)
      ∧ r.2.mem ((c.tc : Thread Cert.Reference16Ideal.nD Cert.Reference16Ideal.τ).loc Cert.Reference16Ideal.main_arg17) = m ((c.tc : Thread Cert.Reference16Ideal.nD Cert.Reference16Ideal.τ).loc Cert.Reference16Ideal.main_arg17)
      ∧ r.2.mem ((c.tc : Thread Cert.Reference16Ideal.nD Cert.Reference16Ideal.τ).loc Cert.Reference16Ideal.main_arg18) = m ((c.tc : Thread Cert.Reference16Ideal.nD Cert.Reference16Ideal.τ).loc Cert.Reference16Ideal.main_arg18))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v10)) (v1 : (c : Dev Cert.Kernel15Ideal.nD) → Buf (Elt Ideal) ((c.tc : Thread Cert.Kernel15Ideal.nD Cert.Kernel15Ideal.τ).loc Cert.Kernel15Ideal.main_v11)) (v2 : (c : Dev Cert.Kernel15Ideal.nD) → Buf (Elt Ideal) ((c.tc : Thread Cert.Kernel15Ideal.nD Cert.Kernel15Ideal.τ).loc Cert.Kernel15Ideal.main_v12)) (v3 : (c : Dev Cert.Kernel15Ideal.nD) → Buf (Elt Ideal) ((c.tc : Thread Cert.Kernel15Ideal.nD Cert.Kernel15Ideal.τ).loc Cert.Kernel15Ideal.main_v13)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_v11) = v1 c
          ∧ r.2.mem ((c.tc : Thread Cert.Kernel15Ideal.nD Cert.Kernel15Ideal.τ).loc Cert.Kernel15Ideal.main_v12) = v2 c
          ∧ r.2.mem ((c.tc : Thread Cert.Kernel15Ideal.nD Cert.Kernel15Ideal.τ).loc Cert.Kernel15Ideal.main_v13) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)
      ∧ m' ((c.tc : Thread Cert.Reference16Ideal.nD Cert.Reference16Ideal.τ).loc Cert.Reference16Ideal.main_arg12) = m ((c.tc : Thread Cert.Kernel16Ideal.nD Cert.Kernel16Ideal.τ).loc Cert.Kernel16Ideal.main_arg12)
      ∧ m' ((c.tc : Thread Cert.Reference16Ideal.nD Cert.Reference16Ideal.τ).loc Cert.Reference16Ideal.main_arg13) = m ((c.tc : Thread Cert.Kernel16Ideal.nD Cert.Kernel16Ideal.τ).loc Cert.Kernel16Ideal.main_arg13)
      ∧ m' ((c.tc : Thread Cert.Reference16Ideal.nD Cert.Reference16Ideal.τ).loc Cert.Reference16Ideal.main_arg14) = m ((c.tc : Thread Cert.Kernel16Ideal.nD Cert.Kernel16Ideal.τ).loc Cert.Kernel16Ideal.main_arg14)
      ∧ m' ((c.tc : Thread Cert.Reference16Ideal.nD Cert.Reference16Ideal.τ).loc Cert.Reference16Ideal.main_arg15) = m ((c.tc : Thread Cert.Kernel16Ideal.nD Cert.Kernel16Ideal.τ).loc Cert.Kernel16Ideal.main_arg15)
      ∧ m' ((c.tc : Thread Cert.Reference16Ideal.nD Cert.Reference16Ideal.τ).loc Cert.Reference16Ideal.main_arg16) = m ((c.tc : Thread Cert.Kernel16Ideal.nD Cert.Kernel16Ideal.τ).loc Cert.Kernel16Ideal.main_arg16)
      ∧ m' ((c.tc : Thread Cert.Reference16Ideal.nD Cert.Reference16Ideal.τ).loc Cert.Reference16Ideal.main_arg17) = m ((c.tc : Thread Cert.Kernel16Ideal.nD Cert.Kernel16Ideal.τ).loc Cert.Kernel16Ideal.main_arg17)
      ∧ m' ((c.tc : Thread Cert.Reference16Ideal.nD Cert.Reference16Ideal.τ).loc Cert.Reference16Ideal.main_arg18) = m ((c.tc : Thread Cert.Kernel16Ideal.nD Cert.Kernel16Ideal.τ).loc Cert.Kernel16Ideal.main_arg18)) →
    ∃ (v0 : (c : Dev Cert.Kernel16Ideal.nD) → Buf (Elt Ideal) ((c.tc : Thread Cert.Kernel16Ideal.nD Cert.Kernel16Ideal.τ).loc Cert.Kernel16Ideal.main_v2)) (v1 : (c : Dev Cert.Kernel16Ideal.nD) → Buf (Elt Ideal) ((c.tc : Thread Cert.Kernel16Ideal.nD Cert.Kernel16Ideal.τ).loc Cert.Kernel16Ideal.main_v85)) (v2 : (c : Dev Cert.Kernel16Ideal.nD) → Buf (Elt Ideal) ((c.tc : Thread Cert.Kernel16Ideal.nD Cert.Kernel16Ideal.τ).loc Cert.Kernel16Ideal.main_v86)) (v3 : (c : Dev Cert.Kernel16Ideal.nD) → Buf (Elt Ideal) ((c.tc : Thread Cert.Kernel16Ideal.nD Cert.Kernel16Ideal.τ).loc Cert.Kernel16Ideal.main_v87)) (v4 : (c : Dev Cert.Kernel16Ideal.nD) → Buf (Elt Ideal) ((c.tc : Thread Cert.Kernel16Ideal.nD Cert.Kernel16Ideal.τ).loc Cert.Kernel16Ideal.main_v89)) (v5 : (c : Dev Cert.Kernel16Ideal.nD) → Buf (Elt Ideal) ((c.tc : Thread Cert.Kernel16Ideal.nD Cert.Kernel16Ideal.τ).loc Cert.Kernel16Ideal.main_v91)) (v6 : (c : Dev Cert.Kernel16Ideal.nD) → Buf (Elt Ideal) ((c.tc : Thread Cert.Kernel16Ideal.nD Cert.Kernel16Ideal.τ).loc Cert.Kernel16Ideal.main_v93)) (v7 : (c : Dev Cert.Kernel16Ideal.nD) → Buf (Elt Ideal) ((c.tc : Thread Cert.Kernel16Ideal.nD Cert.Kernel16Ideal.τ).loc Cert.Kernel16Ideal.main_v96)) (v8 : (c : Dev Cert.Kernel16Ideal.nD) → Buf (Elt Ideal) ((c.tc : Thread Cert.Kernel16Ideal.nD Cert.Kernel16Ideal.τ).loc Cert.Kernel16Ideal.main_v97)) (v9 : (c : Dev Cert.Kernel16Ideal.nD) → Buf (Elt Ideal) ((c.tc : Thread Cert.Kernel16Ideal.nD Cert.Kernel16Ideal.τ).loc Cert.Kernel16Ideal.main_v98)) (v10 : (c : Dev Cert.Kernel16Ideal.nD) → Buf (Elt Ideal) ((c.tc : Thread Cert.Kernel16Ideal.nD Cert.Kernel16Ideal.τ).loc Cert.Kernel16Ideal.main_v100)) (v11 : (c : Dev Cert.Kernel16Ideal.nD) → Buf (Elt Ideal) ((c.tc : Thread Cert.Kernel16Ideal.nD Cert.Kernel16Ideal.τ).loc Cert.Kernel16Ideal.main_v102)) (v12 : (c : Dev Cert.Kernel16Ideal.nD) → Buf (Elt Ideal) ((c.tc : Thread Cert.Kernel16Ideal.nD Cert.Kernel16Ideal.τ).loc Cert.Kernel16Ideal.main_v104)) (v13 : (c : Dev Cert.Kernel16Ideal.nD) → Buf (Elt Ideal) ((c.tc : Thread Cert.Kernel16Ideal.nD Cert.Kernel16Ideal.τ).loc Cert.Kernel16Ideal.main_v107)) (v14 : (c : Dev Cert.Kernel16Ideal.nD) → Buf (Elt Ideal) ((c.tc : Thread Cert.Kernel16Ideal.nD Cert.Kernel16Ideal.τ).loc Cert.Kernel16Ideal.main_v108)) (v15 : (c : Dev Cert.Kernel16Ideal.nD) → Buf (Elt Ideal) ((c.tc : Thread Cert.Kernel16Ideal.nD Cert.Kernel16Ideal.τ).loc Cert.Kernel16Ideal.main_v109)) (v16 : (c : Dev Cert.Kernel16Ideal.nD) → Buf (Elt Ideal) ((c.tc : Thread Cert.Kernel16Ideal.nD Cert.Kernel16Ideal.τ).loc Cert.Kernel16Ideal.main_v111)) (v17 : (c : Dev Cert.Kernel16Ideal.nD) → Buf (Elt Ideal) ((c.tc : Thread Cert.Kernel16Ideal.nD Cert.Kernel16Ideal.τ).loc Cert.Kernel16Ideal.main_v113)) (v18 : (c : Dev Cert.Kernel16Ideal.nD) → Buf (Elt Ideal) ((c.tc : Thread Cert.Kernel16Ideal.nD Cert.Kernel16Ideal.τ).loc Cert.Kernel16Ideal.main_v115)) (v19 : (c : Dev Cert.Kernel16Ideal.nD) → Buf (Elt Ideal) ((c.tc : Thread Cert.Kernel16Ideal.nD Cert.Kernel16Ideal.τ).loc Cert.Kernel16Ideal.main_v118)) (v20 : (c : Dev Cert.Kernel16Ideal.nD) → Buf (Elt Ideal) ((c.tc : Thread Cert.Kernel16Ideal.nD Cert.Kernel16Ideal.τ).loc Cert.Kernel16Ideal.main_v119)) (v21 : (c : Dev Cert.Kernel16Ideal.nD) → Buf (Elt Ideal) ((c.tc : Thread Cert.Kernel16Ideal.nD Cert.Kernel16Ideal.τ).loc Cert.Kernel16Ideal.main_v120)) (v22 : (c : Dev Cert.Kernel16Ideal.nD) → Buf (Elt Ideal) ((c.tc : Thread Cert.Kernel16Ideal.nD Cert.Kernel16Ideal.τ).loc Cert.Kernel16Ideal.main_v122)) (v23 : (c : Dev Cert.Kernel16Ideal.nD) → Buf (Elt Ideal) ((c.tc : Thread Cert.Kernel16Ideal.nD Cert.Kernel16Ideal.τ).loc Cert.Kernel16Ideal.main_v124)) (v24 : (c : Dev Cert.Kernel16Ideal.nD) → Buf (Elt Ideal) ((c.tc : Thread Cert.Kernel16Ideal.nD Cert.Kernel16Ideal.τ).loc Cert.Kernel16Ideal.main_v126)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_v85) = v1 c
          ∧ r.2.mem ((c.tc : Thread Cert.Kernel16Ideal.nD Cert.Kernel16Ideal.τ).loc Cert.Kernel16Ideal.main_v86) = v2 c
          ∧ r.2.mem ((c.tc : Thread Cert.Kernel16Ideal.nD Cert.Kernel16Ideal.τ).loc Cert.Kernel16Ideal.main_v87) = v3 c
          ∧ r.2.mem ((c.tc : Thread Cert.Kernel16Ideal.nD Cert.Kernel16Ideal.τ).loc Cert.Kernel16Ideal.main_v89) = v4 c
          ∧ r.2.mem ((c.tc : Thread Cert.Kernel16Ideal.nD Cert.Kernel16Ideal.τ).loc Cert.Kernel16Ideal.main_v91) = v5 c
          ∧ r.2.mem ((c.tc : Thread Cert.Kernel16Ideal.nD Cert.Kernel16Ideal.τ).loc Cert.Kernel16Ideal.main_v93) = v6 c
          ∧ r.2.mem ((c.tc : Thread Cert.Kernel16Ideal.nD Cert.Kernel16Ideal.τ).loc Cert.Kernel16Ideal.main_v96) = v7 c
          ∧ r.2.mem ((c.tc : Thread Cert.Kernel16Ideal.nD Cert.Kernel16Ideal.τ).loc Cert.Kernel16Ideal.main_v97) = v8 c
          ∧ r.2.mem ((c.tc : Thread Cert.Kernel16Ideal.nD Cert.Kernel16Ideal.τ).loc Cert.Kernel16Ideal.main_v98) = v9 c
          ∧ r.2.mem ((c.tc : Thread Cert.Kernel16Ideal.nD Cert.Kernel16Ideal.τ).loc Cert.Kernel16Ideal.main_v100) = v10 c
          ∧ r.2.mem ((c.tc : Thread Cert.Kernel16Ideal.nD Cert.Kernel16Ideal.τ).loc Cert.Kernel16Ideal.main_v102) = v11 c
          ∧ r.2.mem ((c.tc : Thread Cert.Kernel16Ideal.nD Cert.Kernel16Ideal.τ).loc Cert.Kernel16Ideal.main_v104) = v12 c
          ∧ r.2.mem ((c.tc : Thread Cert.Kernel16Ideal.nD Cert.Kernel16Ideal.τ).loc Cert.Kernel16Ideal.main_v107) = v13 c
          ∧ r.2.mem ((c.tc : Thread Cert.Kernel16Ideal.nD Cert.Kernel16Ideal.τ).loc Cert.Kernel16Ideal.main_v108) = v14 c
          ∧ r.2.mem ((c.tc : Thread Cert.Kernel16Ideal.nD Cert.Kernel16Ideal.τ).loc Cert.Kernel16Ideal.main_v109) = v15 c
          ∧ r.2.mem ((c.tc : Thread Cert.Kernel16Ideal.nD Cert.Kernel16Ideal.τ).loc Cert.Kernel16Ideal.main_v111) = v16 c
          ∧ r.2.mem ((c.tc : Thread Cert.Kernel16Ideal.nD Cert.Kernel16Ideal.τ).loc Cert.Kernel16Ideal.main_v113) = v17 c
          ∧ r.2.mem ((c.tc : Thread Cert.Kernel16Ideal.nD Cert.Kernel16Ideal.τ).loc Cert.Kernel16Ideal.main_v115) = v18 c
          ∧ r.2.mem ((c.tc : Thread Cert.Kernel16Ideal.nD Cert.Kernel16Ideal.τ).loc Cert.Kernel16Ideal.main_v118) = v19 c
          ∧ r.2.mem ((c.tc : Thread Cert.Kernel16Ideal.nD Cert.Kernel16Ideal.τ).loc Cert.Kernel16Ideal.main_v119) = v20 c
          ∧ r.2.mem ((c.tc : Thread Cert.Kernel16Ideal.nD Cert.Kernel16Ideal.τ).loc Cert.Kernel16Ideal.main_v120) = v21 c
          ∧ r.2.mem ((c.tc : Thread Cert.Kernel16Ideal.nD Cert.Kernel16Ideal.τ).loc Cert.Kernel16Ideal.main_v122) = v22 c
          ∧ r.2.mem ((c.tc : Thread Cert.Kernel16Ideal.nD Cert.Kernel16Ideal.τ).loc Cert.Kernel16Ideal.main_v124) = v23 c
          ∧ r.2.mem ((c.tc : Thread Cert.Kernel16Ideal.nD Cert.Kernel16Ideal.τ).loc Cert.Kernel16Ideal.main_v126) = v24 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
          ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
          ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
          ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
          ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15)
          ∧ r.2.mem ((c.tc : Thread Cert.Kernel16Ideal.nD Cert.Kernel16Ideal.τ).loc Cert.Kernel16Ideal.main_arg16) = m ((c.tc : Thread Cert.Kernel16Ideal.nD Cert.Kernel16Ideal.τ).loc Cert.Kernel16Ideal.main_arg16)
          ∧ r.2.mem ((c.tc : Thread Cert.Kernel16Ideal.nD Cert.Kernel16Ideal.τ).loc Cert.Kernel16Ideal.main_arg17) = m ((c.tc : Thread Cert.Kernel16Ideal.nD Cert.Kernel16Ideal.τ).loc Cert.Kernel16Ideal.main_arg17)
          ∧ r.2.mem ((c.tc : Thread Cert.Kernel16Ideal.nD Cert.Kernel16Ideal.τ).loc Cert.Kernel16Ideal.main_arg18) = m ((c.tc : Thread Cert.Kernel16Ideal.nD Cert.Kernel16Ideal.τ).loc Cert.Kernel16Ideal.main_arg18))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v166) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_v39) = v2 c
          ∧ r.2.mem ((c.tc : Thread Cert.Reference16Ideal.nD Cert.Reference16Ideal.τ).loc Cert.Reference16Ideal.main_v64) = v3 c
          ∧ r.2.mem ((c.tc : Thread Cert.Reference16Ideal.nD Cert.Reference16Ideal.τ).loc Cert.Reference16Ideal.main_v89) = v4 c
          ∧ r.2.mem ((c.tc : Thread Cert.Reference16Ideal.nD Cert.Reference16Ideal.τ).loc Cert.Reference16Ideal.main_v114) = v5 c
          ∧ r.2.mem ((c.tc : Thread Cert.Reference16Ideal.nD Cert.Reference16Ideal.τ).loc Cert.Reference16Ideal.main_v139) = v6 c
          ∧ r.2.mem ((c.tc : Thread Cert.Reference16Ideal.nD Cert.Reference16Ideal.τ).loc Cert.Reference16Ideal.main_v38) = v7 c
          ∧ r.2.mem ((c.tc : Thread Cert.Reference16Ideal.nD Cert.Reference16Ideal.τ).loc Cert.Reference16Ideal.main_v63) = v8 c
          ∧ r.2.mem ((c.tc : Thread Cert.Reference16Ideal.nD Cert.Reference16Ideal.τ).loc Cert.Reference16Ideal.main_v88) = v9 c
          ∧ r.2.mem ((c.tc : Thread Cert.Reference16Ideal.nD Cert.Reference16Ideal.τ).loc Cert.Reference16Ideal.main_v113) = v10 c
          ∧ r.2.mem ((c.tc : Thread Cert.Reference16Ideal.nD Cert.Reference16Ideal.τ).loc Cert.Reference16Ideal.main_v138) = v11 c
          ∧ r.2.mem ((c.tc : Thread Cert.Reference16Ideal.nD Cert.Reference16Ideal.τ).loc Cert.Reference16Ideal.main_v163) = v12 c
          ∧ r.2.mem ((c.tc : Thread Cert.Reference16Ideal.nD Cert.Reference16Ideal.τ).loc Cert.Reference16Ideal.main_v19) = v13 c
          ∧ r.2.mem ((c.tc : Thread Cert.Reference16Ideal.nD Cert.Reference16Ideal.τ).loc Cert.Reference16Ideal.main_v44) = v14 c
          ∧ r.2.mem ((c.tc : Thread Cert.Reference16Ideal.nD Cert.Reference16Ideal.τ).loc Cert.Reference16Ideal.main_v69) = v15 c
          ∧ r.2.mem ((c.tc : Thread Cert.Reference16Ideal.nD Cert.Reference16Ideal.τ).loc Cert.Reference16Ideal.main_v94) = v16 c
          ∧ r.2.mem ((c.tc : Thread Cert.Reference16Ideal.nD Cert.Reference16Ideal.τ).loc Cert.Reference16Ideal.main_v119) = v17 c
          ∧ r.2.mem ((c.tc : Thread Cert.Reference16Ideal.nD Cert.Reference16Ideal.τ).loc Cert.Reference16Ideal.main_v144) = v18 c
          ∧ r.2.mem ((c.tc : Thread Cert.Reference16Ideal.nD Cert.Reference16Ideal.τ).loc Cert.Reference16Ideal.main_v25) = v19 c
          ∧ r.2.mem ((c.tc : Thread Cert.Reference16Ideal.nD Cert.Reference16Ideal.τ).loc Cert.Reference16Ideal.main_v50) = v20 c
          ∧ r.2.mem ((c.tc : Thread Cert.Reference16Ideal.nD Cert.Reference16Ideal.τ).loc Cert.Reference16Ideal.main_v75) = v21 c
          ∧ r.2.mem ((c.tc : Thread Cert.Reference16Ideal.nD Cert.Reference16Ideal.τ).loc Cert.Reference16Ideal.main_v100) = v22 c
          ∧ r.2.mem ((c.tc : Thread Cert.Reference16Ideal.nD Cert.Reference16Ideal.τ).loc Cert.Reference16Ideal.main_v125) = v23 c
          ∧ r.2.mem ((c.tc : Thread Cert.Reference16Ideal.nD Cert.Reference16Ideal.τ).loc Cert.Reference16Ideal.main_v150) = v24 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11)
          ∧ r.2.mem ((c.tc : Thread Cert.Reference16Ideal.nD Cert.Reference16Ideal.τ).loc Cert.Reference16Ideal.main_arg12) = m' ((c.tc : Thread Cert.Reference16Ideal.nD Cert.Reference16Ideal.τ).loc Cert.Reference16Ideal.main_arg12)
          ∧ r.2.mem ((c.tc : Thread Cert.Reference16Ideal.nD Cert.Reference16Ideal.τ).loc Cert.Reference16Ideal.main_arg13) = m' ((c.tc : Thread Cert.Reference16Ideal.nD Cert.Reference16Ideal.τ).loc Cert.Reference16Ideal.main_arg13)
          ∧ r.2.mem ((c.tc : Thread Cert.Reference16Ideal.nD Cert.Reference16Ideal.τ).loc Cert.Reference16Ideal.main_arg14) = m' ((c.tc : Thread Cert.Reference16Ideal.nD Cert.Reference16Ideal.τ).loc Cert.Reference16Ideal.main_arg14)
          ∧ r.2.mem ((c.tc : Thread Cert.Reference16Ideal.nD Cert.Reference16Ideal.τ).loc Cert.Reference16Ideal.main_arg15) = m' ((c.tc : Thread Cert.Reference16Ideal.nD Cert.Reference16Ideal.τ).loc Cert.Reference16Ideal.main_arg15)
          ∧ r.2.mem ((c.tc : Thread Cert.Reference16Ideal.nD Cert.Reference16Ideal.τ).loc Cert.Reference16Ideal.main_arg16) = m' ((c.tc : Thread Cert.Reference16Ideal.nD Cert.Reference16Ideal.τ).loc Cert.Reference16Ideal.main_arg16)
          ∧ r.2.mem ((c.tc : Thread Cert.Reference16Ideal.nD Cert.Reference16Ideal.τ).loc Cert.Reference16Ideal.main_arg17) = m' ((c.tc : Thread Cert.Reference16Ideal.nD Cert.Reference16Ideal.τ).loc Cert.Reference16Ideal.main_arg17)
          ∧ r.2.mem ((c.tc : Thread Cert.Reference16Ideal.nD Cert.Reference16Ideal.τ).loc Cert.Reference16Ideal.main_arg18) = m' ((c.tc : Thread Cert.Reference16Ideal.nD Cert.Reference16Ideal.τ).loc Cert.Reference16Ideal.main_arg18))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_v18) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v2_0)) (v1 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2_0) = v0 c
          ∧ r.2.mem ((c.tc : Thread Cert.Kernel21Ideal.nD Cert.Kernel21Ideal.τ).loc Cert.Kernel21Ideal.main_v4) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_v10) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v3) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v3) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v38) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v11_0)) (v1 : (c : Dev Cert.Kernel24Ideal.nD) → Buf (Elt Ideal) ((c.tc : Thread Cert.Kernel24Ideal.nD Cert.Kernel24Ideal.τ).loc Cert.Kernel24Ideal.main_v11_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v11_0) = v0 c
          ∧ r.2.mem ((c.tc : Thread Cert.Kernel24Ideal.nD Cert.Kernel24Ideal.τ).loc Cert.Kernel24Ideal.main_v11_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v32) = v0 c
          ∧ r.2.mem ((c.tc : Thread Cert.Reference24Ideal.nD Cert.Reference24Ideal.τ).loc Cert.Reference24Ideal.main_v34) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v11_0)) (v1 : (c : Dev Cert.Kernel25Ideal.nD) → Buf (Elt Ideal) ((c.tc : Thread Cert.Kernel25Ideal.nD Cert.Kernel25Ideal.τ).loc Cert.Kernel25Ideal.main_v13)) (v2 : (c : Dev Cert.Kernel25Ideal.nD) → Buf (Elt Ideal) ((c.tc : Thread Cert.Kernel25Ideal.nD Cert.Kernel25Ideal.τ).loc Cert.Kernel25Ideal.main_v15)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v11_0) = v0 c
          ∧ r.2.mem ((c.tc : Thread Cert.Kernel25Ideal.nD Cert.Kernel25Ideal.τ).loc Cert.Kernel25Ideal.main_v13) = v1 c
          ∧ r.2.mem ((c.tc : Thread Cert.Kernel25Ideal.nD Cert.Kernel25Ideal.τ).loc Cert.Kernel25Ideal.main_v15) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v50) = v0 c
          ∧ r.2.mem ((c.tc : Thread Cert.Reference25Ideal.nD Cert.Reference25Ideal.τ).loc Cert.Reference25Ideal.main_v51) = v1 c
          ∧ r.2.mem ((c.tc : Thread Cert.Reference25Ideal.nD Cert.Reference25Ideal.τ).loc Cert.Reference25Ideal.main_v44) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Kernel.lean ====
abbrev S9x4096x1024 : Shape := ⟨3, ![9, 4096, 1024]⟩
abbrev S4096x1024 : Shape := ⟨2, ![4096, 1024]⟩
abbrev S1024x10240 : Shape := ⟨2, ![1024, 10240]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S9x4096x1024, .f32⟩
  | .hbm, ⟨1, _⟩ => ⟨S4096x1024, .f32⟩
  | .hbm, ⟨2, _⟩ => ⟨S1024x10240, .f32⟩
  | .hbm, ⟨3, _⟩ => ⟨S1024x10240, .bf16⟩
  | .hbm, ⟨4, _⟩ => ⟨S4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .f32⟩
  | .local _ .vmem, ⟨7, _⟩ => ⟨S2048x1024, .f32⟩
  | _, _ => ⟨S9x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg1 : BitVec 32 := BitVec.ofNat 32 (i 1).val
  let c9_i32 : BitVec 32 := 9#32
  let v0 : BitVec 1 := Scalar.cmpi .slt arg1 c9_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c0_i32_6 : BitVec 32 := 0#32
  let v12 : BitVec 1 := Scalar.cmpi .eq arg1 c0_i32_6
  let v13 : BitVec 32 := Scalar.extui v12
  let c0_i32_7 : BitVec 32 := 0#32
  let v14 : BitVec 1 := Scalar.cmpi .ne v13 c0_i32_7
  v14

def k0_cond3 (i : grid0.Coords) : BitVec 1 :=
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .ne v16 c0_i32_9
  v17

def k0_cond4 (i : grid0.Coords) : BitVec 1 :=
  let arg1 : BitVec 32 := BitVec.ofNat 32 (i 1).val
  let c9_i32_0 : BitVec 32 := 9#32
  let v3 : BitVec 1 := Scalar.cmpi .eq arg1 c9_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

def k0_cond6 (i : grid0.Coords) : BitVec 1 :=
  let arg1 : BitVec 32 := BitVec.ofNat 32 (i 1).val
  let c0_i32_7 : BitVec 32 := 0#32
  let v14 : BitVec 1 := Scalar.cmpi .sgt arg1 c0_i32_7
  let v15 : BitVec 32 := Scalar.extui v14
  let c0_i32_8 : BitVec 32 := 0#32
  let v16 : BitVec 1 := Scalar.cmpi .ne v15 c0_i32_8
  v16

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.muli v10 c3_i32_3
  let c3_i32_4 : BitVec 32 := 3#32
  let v12 : BitVec 32 := Scalar.divsi arg1 c3_i32_4
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .slt arg1 c0_i32_6
  let v16 : BitVec 32 := Scalar.extui v15
  let v17 : BitVec 32 := Scalar.subi v14 v16
  let c0_i32_7 : BitVec 32 := 0#32
  let v18 : BitVec 1 := Scalar.cmpi .sgt c3_i32_4 c0_i32_7
  let v19 : BitVec 32 := Scalar.extui v18
  let c0_i32_8 : BitVec 32 := 0#32
  let v20 : BitVec 1 := Scalar.cmpi .slt c3_i32_4 c0_i32_8
  let v21 : BitVec 32 := Scalar.extui v20
  let v22 : BitVec 32 := Scalar.subi v19 v21
  let v23 : BitVec 1 := Scalar.cmpi .ne v17 v22
  let v24 : BitVec 32 := Scalar.remsi arg1 c3_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c9_i32_11 : BitVec 32 := 9#32
  let v30 : BitVec 32 := Scalar.select v0 v29 c9_i32_11
  let c0_i32_12 : BitVec 32 := 0#32
  let c0_i32_13 : BitVec 32 := 0#32
  ![c0_i32_12.toNat, v30.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S9x4096x1024 : Shape := ⟨3, ![9, 4096, 1024]⟩
abbrev S4096x1024 : Shape := ⟨2, ![4096, 1024]⟩
abbrev S1024x10240 : Shape := ⟨2, ![1024, 10240]⟩
abbrev S3x3x4096x1024 : Shape := ⟨4, ![3, 3, 4096, 1024]⟩
abbrev S4096x3x3x1024 : Shape := ⟨4, ![4096, 3, 3, 1024]⟩
abbrev S4096x9216 : Shape := ⟨2, ![4096, 9216]⟩
abbrev S4096x10240 : Shape := ⟨2, ![4096, 10240]⟩

abbrev nBuf : Space → Nat
  | .hbm => 8
  | .vmem => 0
  | .smem => 0
  | _ => 0

abbrev bufTy : (tb : Table) → Fin (tcTables nBuf tb) → BufTy
  | .hbm, ⟨0, _⟩ => ⟨S9x4096x1024, .f32⟩
  | .hbm, ⟨1, _⟩ => ⟨S4096x1024, .f32⟩
  | .hbm, ⟨2, _⟩ => ⟨S1024x10240, .f32⟩
  | .hbm, ⟨3, _⟩ => ⟨S3x3x4096x1024, .f32⟩
  | .hbm, ⟨4, _⟩ => ⟨S4096x3x3x1024, .f32⟩
  | .hbm, ⟨5, _⟩ => ⟨S4096x9216, .f32⟩
  | .hbm, ⟨6, _⟩ => ⟨S4096x10240, .f32⟩
  | .hbm, ⟨7, _⟩ => ⟨S4096x1024, .f32⟩
  | _, _ => ⟨S9x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel2.lean ====
abbrev S4096x1024 : Shape := ⟨2, ![4096, 1024]⟩
abbrev S9x4096x1024 : Shape := ⟨3, ![9, 4096, 1024]⟩
abbrev S1024x4096 : Shape := ⟨2, ![1024, 4096]⟩
abbrev S8x1024x1280 : Shape := ⟨3, ![8, 1024, 1280]⟩
abbrev S1x4096x256 : Shape := ⟨3, ![1, 4096, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S9x4096x1024, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S8x1024x1280, .bf16⟩
  | .local _ .vmem, ⟨0, _⟩ => ⟨S1024x4096, .bf16⟩
  | .local _ .vmem, ⟨1, _⟩ => ⟨S1x4096x256, .f32⟩
  | .local _ .vmem, ⟨2, _⟩ => ⟨S1x4096x256, .f32⟩
  | .local _ .vmem, ⟨3, _⟩ => ⟨S4096x256, .f32⟩
  | .local _ .vmem, ⟨4, _⟩ => ⟨S4096x256, .f32⟩
  | .local _ .vmem, ⟨5, _⟩ => ⟨S1x1024x256, .bf16⟩
  | .local _ .vmem, ⟨6, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c36_i32 : BitVec 32 := 36#32
  let v0 : BitVec 1 := Scalar.cmpi .slt arg0 c36_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c36_i32_0 : BitVec 32 := 36#32
  let v3 : BitVec 1 := Scalar.cmpi .sge arg0 c36_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c3_i32 : BitVec 32 := 3#32
  let c0_i32_4 : BitVec 32 := 0#32
  let v18 : BitVec 1 := Scalar.cmpi .eq c3_i32 c0_i32_4
  let c1_i32_5 : BitVec 32 := 1#32
  let v19 : BitVec 32 := Scalar.select v18 c1_i32_5 c3_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c3_i32_9 : BitVec 32 := 3#32
  let v28 : BitVec 32 := Scalar.muli v27 c3_i32_9
  let c3_i32_10 : BitVec 32 := 3#32
  let v29 : BitVec 32 := Scalar.divsi v17 c3_i32_10
  let c0_i32_11 : BitVec 32 := 0#32
  let v30 : BitVec 1 := Scalar.cmpi .sgt v17 c0_i32_11
  let v31 : BitVec 32 := Scalar.extui v30
  let c0_i32_12 : BitVec 32 := 0#32
  let v32 : BitVec 1 := Scalar.cmpi .slt v17 c0_i32_12
  let v33 : BitVec 32 := Scalar.extui v32
  let v34 : BitVec 32 := Scalar.subi v31 v33
  let c0_i32_13 : BitVec 32 := 0#32
  let v35 : BitVec 1 := Scalar.cmpi .sgt c3_i32_10 c0_i32_13
  let v36 : BitVec 32 := Scalar.extui v35
  let c0_i32_14 : BitVec 32 := 0#32
  let v37 : BitVec 1 := Scalar.cmpi .slt c3_i32_10 c0_i32_14
  let v38 : BitVec 32 := Scalar.extui v37
  let v39 : BitVec 32 := Scalar.subi v36 v38
  let v40 : BitVec 1 := Scalar.cmpi .ne v34 v39
  let v41 : BitVec 32 := Scalar.remsi v17 c3_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let v46 : BitVec 32 := Scalar.addi v28 v45
  let c4_i32_17 : BitVec 32 := 4#32
  let c0_i32_18 : BitVec 32 := 0#32
  let v47 : BitVec 1 := Scalar.cmpi .eq c4_i32_17 c0_i32_18
  let c1_i32_19 : BitVec 32 := 1#32
  let v48 : BitVec 32 := Scalar.select v47 c1_i32_19 c4_i32_17
  let v49 : BitVec 32 := Scalar.remsi arg0 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  let c0_i32_24 : BitVec 32 := 0#32
  ![v46.toNat, c0_i32_23.toNat, v56.toNat]

def cc0_transform_2 (i : grid0.Coords) : Fin 2 → Nat :=
  let arg0 : BitVec 32 := BitVec.ofNat 32 (i 0).val
  let c36_i32 : BitVec 32 := 36#32
  let v0 : BitVec 1 := Scalar.cmpi .slt arg0 c36_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.select v0 c0_i32_3 v10
  let c0_i32_4 : BitVec 32 := 0#32
  let c0_i32_5 : BitVec 32 := 0#32
  ![c0_i32_4.toNat, v11.toNat]

def cc0_transform_3 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S9x4096x1024 : Shape := ⟨3, ![9, 4096, 1024]⟩
abbrev S3x3x4096x1024 : Shape := ⟨4, ![3, 3, 4096, 1024]⟩
abbrev S4096x3x3x1024 : Shape := ⟨4, ![4096, 3, 3, 1024]⟩
abbrev S4096x9216 : Shape := ⟨2, ![4096, 9216]⟩
abbrev S4096x10240 : Shape := ⟨2, ![4096, 10240]⟩
abbrev S10240x1024 : Shape := ⟨2, ![10240, 1024]⟩
abbrev S1024x10240 : Shape := ⟨2, ![1024, 10240]⟩
abbrev S1024x8x1280 : Shape := ⟨3, ![1024, 8, 1280]⟩
abbrev S8x1024x1280 : Shape := ⟨3, ![8, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S9x4096x1024, .f32⟩
  | .hbm, ⟨2, _⟩ => ⟨S4096x1024, .f32⟩
  | .hbm, ⟨3, _⟩ => ⟨S3x3x4096x1024, .f32⟩
  | .hbm, ⟨4, _⟩ => ⟨S4096x3x3x1024, .f32⟩
  | .hbm, ⟨5, _⟩ => ⟨S4096x9216, .f32⟩
  | .hbm, ⟨6, _⟩ => ⟨S4096x10240, .f32⟩
  | .hbm, ⟨7, _⟩ => ⟨S10240x1024, .f32⟩
  | .hbm, ⟨8, _⟩ => ⟨S1024x10240, .f32⟩
  | .hbm, ⟨9, _⟩ => ⟨S1024x8x1280, .f32⟩
  | .hbm, ⟨10, _⟩ => ⟨S8x1024x1280, .f32⟩
  | .hbm, ⟨11, _⟩ => ⟨S8x1024x1280, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x1024 : Shape := ⟨2, ![4096, 1024]⟩
abbrev S4096x2048 : Shape := ⟨2, ![4096, 2048]⟩
abbrev S1024x6272 : Shape := ⟨2, ![1024, 6272]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S1024x6272, .f32⟩
  | .hbm, ⟨5, _⟩ => ⟨S1024x6272, .bf16⟩
  | .hbm, ⟨6, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_10 : BitVec 32 := 0#32
  let v25 : BitVec 1 := Scalar.cmpi .eq arg1 c0_i32_10
  let v26 : BitVec 32 := Scalar.extui v25
  let c0_i32_11 : BitVec 32 := 0#32
  let v27 : BitVec 1 := Scalar.cmpi .ne v26 c0_i32_11
  v27

def k0_cond3 (i : grid0.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .ne v29 c0_i32_13
  v30

def k0_cond4 (i : grid0.Coords) : BitVec 1 :=
  let arg1 : BitVec 32 := BitVec.ofNat 32 (i 1).val
  let c1_i32_1 : BitVec 32 := 1#32
  let v5 : BitVec 1 := Scalar.cmpi .sge arg1 c1_i32_1
  let c2_i32 : BitVec 32 := 2#32
  let v6 : BitVec 1 := Scalar.cmpi .slt arg1 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond5 (i : grid0.Coords) : BitVec 1 :=
  let arg1 : BitVec 32 := BitVec.ofNat 32 (i 1).val
  let c0_i32_10 : BitVec 32 := 0#32
  let v25 : BitVec 1 := Scalar.cmpi .eq arg1 c0_i32_10
  let v26 : BitVec 32 := Scalar.extui v25
  let c0_i32_11 : BitVec 32 := 0#32
  let v27 : BitVec 1 := Scalar.cmpi .ne v26 c0_i32_11
  v27

def k0_cond6 (i : grid0.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .ne v29 c0_i32_13
  v30

def k0_cond7 (i : grid0.Coords) : BitVec 1 :=
  let arg1 : BitVec 32 := BitVec.ofNat 32 (i 1).val
  let c2_i32_3 : BitVec 32 := 2#32
  let v10 : BitVec 1 := Scalar.cmpi .sge arg1 c2_i32_3
  let c4_i32 : BitVec 32 := 4#32
  let v11 : BitVec 1 := Scalar.cmpi .slt arg1 c4_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond8 (i : grid0.Coords) : BitVec 1 :=
  let arg1 : BitVec 32 := BitVec.ofNat 32 (i 1).val
  let c0_i32_10 : BitVec 32 := 0#32
  let v25 : BitVec 1 := Scalar.cmpi .eq arg1 c0_i32_10
  let v26 : BitVec 32 := Scalar.extui v25
  let c0_i32_11 : BitVec 32 := 0#32
  let v27 : BitVec 1 := Scalar.cmpi .ne v26 c0_i32_11
  v27

def k0_cond9 (i : grid0.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .ne v29 c0_i32_13
  v30

def k0_cond10 (i : grid0.Coords) : BitVec 1 :=
  let arg1 : BitVec 32 := BitVec.ofNat 32 (i 1).val
  let c4_i32_5 : BitVec 32 := 4#32
  let v15 : BitVec 1 := Scalar.cmpi .sge arg1 c4_i32_5
  let c6_i32 : BitVec 32 := 6#32
  let v16 : BitVec 1 := Scalar.cmpi .slt arg1 c6_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond11 (i : grid0.Coords) : BitVec 1 :=
  let arg1 : BitVec 32 := BitVec.ofNat 32 (i 1).val
  let c0_i32_10 : BitVec 32 := 0#32
  let v25 : BitVec 1 := Scalar.cmpi .eq arg1 c0_i32_10
  let v26 : BitVec 32 := Scalar.extui v25
  let c0_i32_11 : BitVec 32 := 0#32
  let v27 : BitVec 1 := Scalar.cmpi .ne v26 c0_i32_11
  v27

def k0_cond12 (i : grid0.Coords) : BitVec 1 :=
  let arg1 : BitVec 32 := BitVec.ofNat 32 (i 1).val
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4096x1024 : Shape := ⟨2, ![4096, 1024]⟩
abbrev S4096x2048 : Shape := ⟨2, ![4096, 2048]⟩
abbrev S1024x6272 : Shape := ⟨2, ![1024, 6272]⟩
abbrev S1024x6144 : Shape := ⟨2, ![1024, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S1024x6272, .f32⟩
  | .hbm, ⟨5, _⟩ => ⟨S1024x6144, .f32⟩
  | .hbm, ⟨6, _⟩ => ⟨S4096x6144, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S1024x4096 : Shape := ⟨2, ![1024, 4096]⟩
abbrev S1024x6144 : Shape := ⟨2, ![1024, 6144]⟩
abbrev S4096x256 : Shape := ⟨2, ![4096, 256]⟩
abbrev S1024x256 : Shape := ⟨2, ![1024, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x2048, .f32⟩
  | .hbm, ⟨5, _⟩ => ⟨S1024x4096, .f32⟩
  | .hbm, ⟨6, _⟩ => ⟨S1024x4096, .bf16⟩
  | .hbm, ⟨7, _⟩ => ⟨S1024x6144, .bf16⟩
  | .local _ .vmem, ⟨0, _⟩ => ⟨S1024x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S1024x256, .bf16⟩
  | .local _ .vmem, ⟨10, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c8_i32_3 : BitVec 32 := 8#32
  let v10 : BitVec 1 := Scalar.cmpi .sge arg0 c8_i32_3
  let c16_i32 : BitVec 32 := 16#32
  let v11 : BitVec 1 := Scalar.cmpi .slt arg0 c16_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c16_i32_5 : BitVec 32 := 16#32
  let v15 : BitVec 1 := Scalar.cmpi .sge arg0 c16_i32_5
  let c24_i32 : BitVec 32 := 24#32
  let v16 : BitVec 1 := Scalar.cmpi .slt arg0 c24_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4096x1024 : Shape := ⟨2, ![4096, 1024]⟩
abbrev S4096x2048 : Shape := ⟨2, ![4096, 2048]⟩
abbrev S4096x6144 : Shape := ⟨2, ![4096, 6144]⟩
abbrev S6144x1024 : Shape := ⟨2, ![6144, 1024]⟩
abbrev S1024x6144 : Shape := ⟨2, ![1024, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x2048, .f32⟩
  | .hbm, ⟨5, _⟩ => ⟨S4096x6144, .f32⟩
  | .hbm, ⟨6, _⟩ => ⟨S6144x1024, .f32⟩
  | .hbm, ⟨7, _⟩ => ⟨S1024x6144, .f32⟩
  | .hbm, ⟨8, _⟩ => ⟨S1024x6144, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .bf16⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S2048x1024 : Shape := ⟨2, ![2048, 1024]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S4096x2048 : Shape := ⟨2, ![4096, 2048]⟩
abbrev S4096x1024 : Shape := ⟨2, ![4096, 1024]⟩
abbrev S2048x1024 : Shape := ⟨2, ![2048, 1024]⟩
abbrev S4096x256 : Shape := ⟨2, ![4096, 256]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S2048x1024, .bf16⟩
  | .local _ .vmem, ⟨0, _⟩ => ⟨S4096x2048, .bf16⟩
  | .local _ .vmem, ⟨1, _⟩ => ⟨S4096x256, .f32⟩
  | .local _ .vmem, ⟨2, _⟩ => ⟨S4096x256, .f32⟩
  | .local _ .vmem, ⟨3, _⟩ => ⟨S2048x256, .bf16⟩
  | .local _ .vmem, ⟨4, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x2048 : Shape := ⟨2, ![4096, 2048]⟩
abbrev S4096x1024 : Shape := ⟨2, ![4096, 1024]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1024x2048, .f32⟩
  | .hbm, ⟨3, _⟩ => ⟨S2048x1024, .f32⟩
  | .hbm, ⟨4, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S4096x1024, .bf16⟩
  | .local _ .vmem, ⟨1, _⟩ => ⟨S4096x256, .f32⟩
  | .local _ .vmem, ⟨2, _⟩ => ⟨S4096x256, .f32⟩
  | .local _ .vmem, ⟨3, _⟩ => ⟨S1024x256, .bf16⟩
  | .local _ .vmem, ⟨4, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x6272 : Shape := ⟨2, ![1024, 6272]⟩
abbrev S4096x6272 : Shape := ⟨2, ![4096, 6272]⟩
abbrev S1024x896 : Shape := ⟨2, ![1024, 896]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6272, .f32⟩
  | .hbm, ⟨2, _⟩ => ⟨S4096x1024, .bf16⟩
  | .hbm, ⟨3, _⟩ => ⟨S1024x6272, .bf16⟩
  | .hbm, ⟨4, _⟩ => ⟨S4096x6272, .f32⟩
  | .local _ .vmem, ⟨0, _⟩ => ⟨S4096x1024, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .f32⟩
  | .local _ .vmem, ⟨4, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![7, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x6272 : Shape := ⟨2, ![1024, 6272]⟩
abbrev S4096x6272 : Shape := ⟨2, ![4096, 6272]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6272, .f32⟩
  | .hbm, ⟨2, _⟩ => ⟨S4096x6272, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x1024 : Shape := ⟨2, ![4096, 1024]⟩
abbrev S1024x10240 : Shape := ⟨2, ![1024, 10240]⟩
abbrev S10x4096x1024 : Shape := ⟨3, ![10, 4096, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x10240, .bf16⟩
  | .hbm, ⟨4, _⟩ => ⟨S10x4096x1024, .f32⟩
  | .local _ .vmem, ⟨0, _⟩ => ⟨S4096x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![10, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.muli v10 c3_i32_3
  let c3_i32_4 : BitVec 32 := 3#32
  let v12 : BitVec 32 := Scalar.divsi arg0 c3_i32_4
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c0_i32_7 : BitVec 32 := 0#32
  let v18 : BitVec 1 := Scalar.cmpi .sgt c3_i32_4 c0_i32_7
  let v19 : BitVec 32 := Scalar.extui v18
  let c0_i32_8 : BitVec 32 := 0#32
  let v20 : BitVec 1 := Scalar.cmpi .slt c3_i32_4 c0_i32_8
  let v21 : BitVec 32 := Scalar.extui v20
  let v22 : BitVec 32 := Scalar.subi v19 v21
  let v23 : BitVec 1 := Scalar.cmpi .ne v17 v22
  let v24 : BitVec 32 := Scalar.remsi arg0 c3_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let v29 : BitVec 32 := Scalar.addi v11 v28
  let c9_i32_11 : BitVec 32 := 9#32
  let v30 : BitVec 32 := Scalar.select v0 v29 c9_i32_11
  let c0_i32_12 : BitVec 32 := 0#32
  let c0_i32_13 : BitVec 32 := 0#32
  ![c0_i32_12.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x10240 : Shape := ⟨2, ![1024, 10240]⟩
abbrev S4096x10240 : Shape := ⟨2, ![4096, 10240]⟩
abbrev S4096x10x1024 : Shape := ⟨3, ![4096, 10, 1024]⟩
abbrev S4096x9x1024 : Shape := ⟨3, ![4096, 9, 1024]⟩
abbrev S4096x3x3x1024 : Shape := ⟨4, ![4096, 3, 3, 1024]⟩
abbrev S3x3x4096x1024 : Shape := ⟨4, ![3, 3, 4096, 1024]⟩
abbrev S9x4096x1024 : Shape := ⟨3, ![9, 4096, 1024]⟩
abbrev S4096x1x1024 : Shape := ⟨3, ![4096, 1, 1024]⟩
abbrev S1x4096x1024 : Shape := ⟨3, ![1, 4096, 1024]⟩
abbrev S10x4096x1024 : Shape := ⟨3, ![10, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x10240, .f32⟩
  | .hbm, ⟨3, _⟩ => ⟨S4096x10x1024, .f32⟩
  | .hbm, ⟨4, _⟩ => ⟨S4096x9x1024, .f32⟩
  | .hbm, ⟨5, _⟩ => ⟨S4096x3x3x1024, .f32⟩
  | .hbm, ⟨6, _⟩ => ⟨S3x3x4096x1024, .f32⟩
  | .hbm, ⟨7, _⟩ => ⟨S9x4096x1024, .f32⟩
  | .hbm, ⟨8, _⟩ => ⟨S4096x1x1024, .f32⟩
  | .hbm, ⟨9, _⟩ => ⟨S1x4096x1024, .f32⟩
  | .hbm, ⟨10, _⟩ => ⟨S10x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel11.lean ====
abbrev S8x1024x1280 : Shape := ⟨3, ![8, 1024, 1280]⟩
abbrev S1x1024x1280 : Shape := ⟨3, ![1, 1024, 1280]⟩
abbrev S8x256x1280 : Shape := ⟨3, ![8, 256, 1280]⟩
abbrev S1x256x1280 : Shape := ⟨3, ![1, 256, 1280]⟩
abbrev S256x1280 : Shape := ⟨2, ![256, 1280]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x1280, .f32⟩
  | .hbm, ⟨1, _⟩ => ⟨S1x1024x1280, .f32⟩
  | .hbm, ⟨2, _⟩ => ⟨S1x1024x1280, .f32⟩
  | .hbm, ⟨3, _⟩ => ⟨S1x1024x1280, .f32⟩
  | .hbm, ⟨4, _⟩ => ⟨S8x1024x1280, .bf16⟩
  | .hbm, ⟨5, _⟩ => ⟨S1x1024x1280, .f32⟩
  | .hbm, ⟨6, _⟩ => ⟨S1x1024x1280, .f32⟩
  | .hbm, ⟨7, _⟩ => ⟨S1x1024x1280, .f32⟩
  | .hbm, ⟨8, _⟩ => ⟨S1x1024x1280, .f32⟩
  | .local _ .vmem, ⟨0, _⟩ => ⟨S8x256x1280, .bf16⟩
  | .local _ .vmem, ⟨1, _⟩ => ⟨S8x256x1280, .bf16⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | _, _ => ⟨S8x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x1024x1280 : Shape := ⟨3, ![8, 1024, 1280]⟩
abbrev S1x1024x1280 : Shape := ⟨3, ![1, 1024, 1280]⟩
abbrev S_ : Shape := ⟨0, ![]⟩
abbrev S1024x1280 : Shape := ⟨2, ![1024, 1280]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1280, .f32⟩
  | .hbm, ⟨1, _⟩ => ⟨S1x1024x1280, .f32⟩
  | .hbm, ⟨2, _⟩ => ⟨S1x1024x1280, .f32⟩
  | .hbm, ⟨3, _⟩ => ⟨S1x1024x1280, .f32⟩
  | .hbm, ⟨4, _⟩ => ⟨S_, .f32⟩
  | .hbm, ⟨5, _⟩ => ⟨S1024x1280, .f32⟩
  | .hbm, ⟨6, _⟩ => ⟨S1x1024x1280, .f32⟩
  | .hbm, ⟨7, _⟩ => ⟨S_, .f32⟩
  | .hbm, ⟨8, _⟩ => ⟨S1x1024x1280, .f32⟩
  | .hbm, ⟨9, _⟩ => ⟨S1x1024x1280, .f32⟩
  | .hbm, ⟨10, _⟩ => ⟨S_, .f32⟩
  | .hbm, ⟨11, _⟩ => ⟨S1x1024x1280, .f32⟩
  | .hbm, ⟨12, _⟩ => ⟨S1x1024x1280, .f32⟩
  | .hbm, ⟨13, _⟩ => ⟨S1x1024x1280, .f32⟩
  | .hbm, ⟨14, _⟩ => ⟨S_, .f32⟩
  | .hbm, ⟨15, _⟩ => ⟨S1x1024x1280, .f32⟩
  | .hbm, ⟨16, _⟩ => ⟨S1x1024x1280, .f32⟩
  | .hbm, ⟨17, _⟩ => ⟨S1x1024x1280, .f32⟩
  | .hbm, ⟨18, _⟩ => ⟨S_, .f32⟩
  | .hbm, ⟨19, _⟩ => ⟨S1x1024x1280, .f32⟩
  | .hbm, ⟨20, _⟩ => ⟨S1x1024x1280, .f32⟩
  | .hbm, ⟨21, _⟩ => ⟨S1x1024x1280, .f32⟩
  | .hbm, ⟨22, _⟩ => ⟨S_, .f32⟩
  | .hbm, ⟨23, _⟩ => ⟨S1x1024x1280, .f32⟩
  | .hbm, ⟨24, _⟩ => ⟨S1x1024x1280, .f32⟩
  | .hbm, ⟨25, _⟩ => ⟨S_, .f32⟩
  | .hbm, ⟨26, _⟩ => ⟨S1x1024x1280, .f32⟩
  | .hbm, ⟨27, _⟩ => ⟨S1x1024x1280, .f32⟩
  | .hbm, ⟨28, _⟩ => ⟨S1x1024x1280, .f32⟩
  | .hbm, ⟨29, _⟩ => ⟨S_, .f32⟩
  | .hbm, ⟨30, _⟩ => ⟨S1x1024x1280, .f32⟩
  | .hbm, ⟨31, _⟩ => ⟨S1x1024x1280, .f32⟩
  | .hbm, ⟨32, _⟩ => ⟨S1x1024x1280, .f32⟩
  | .hbm, ⟨33, _⟩ => ⟨S_, .f32⟩
  | .hbm, ⟨34, _⟩ => ⟨S1x1024x1280, .f32⟩
  | .hbm, ⟨35, _⟩ => ⟨S1x1024x1280, .f32⟩
  | .hbm, ⟨36, _⟩ => ⟨S1x1024x1280, .f32⟩
  | .hbm, ⟨37, _⟩ => ⟨S_, .f32⟩
  | .hbm, ⟨38, _⟩ => ⟨S1x1024x1280, .f32⟩
  | .hbm, ⟨39, _⟩ => ⟨S1x1024x1280, .f32⟩
  | _, _ => ⟨S8x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x1024x770 : Shape := ⟨3, ![8, 1024, 770]⟩
abbrev S1x1024x770 : Shape := ⟨3, ![1, 1024, 770]⟩
abbrev S8x256x770 : Shape := ⟨3, ![8, 256, 770]⟩
abbrev S1x256x770 : Shape := ⟨3, ![1, 256, 770]⟩
abbrev S256x770 : Shape := ⟨2, ![256, 770]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x770, .f32⟩
  | .hbm, ⟨1, _⟩ => ⟨S1x1024x770, .f32⟩
  | .hbm, ⟨2, _⟩ => ⟨S1x1024x770, .f32⟩
  | .hbm, ⟨3, _⟩ => ⟨S1x1024x770, .f32⟩
  | .hbm, ⟨4, _⟩ => ⟨S8x1024x770, .bf16⟩
  | .hbm, ⟨5, _⟩ => ⟨S1x1024x770, .f32⟩
  | .hbm, ⟨6, _⟩ => ⟨S1x1024x770, .f32⟩
  | .hbm, ⟨7, _⟩ => ⟨S1x1024x770, .f32⟩
  | .hbm, ⟨8, _⟩ => ⟨S1x1024x770, .f32⟩
  | .local _ .vmem, ⟨0, _⟩ => ⟨S8x256x770, .bf16⟩
  | .local _ .vmem, ⟨1, _⟩ => ⟨S8x256x770, .bf16⟩
  | .local _ .vmem, ⟨2, _⟩ => ⟨S1x256x770, .f32⟩
  | .local _ .vmem, ⟨3, _⟩ => ⟨S1x256x770, .f32⟩
  | .local _ .vmem, ⟨4, _⟩ => ⟨S1x256x770, .f32⟩
  | .local _ .vmem, ⟨5, _⟩ => ⟨S1x256x770, .f32⟩
  | .local _ .vmem, ⟨6, _⟩ => ⟨S1x256x770, .f32⟩
  | .local _ .vmem, ⟨7, _⟩ => ⟨S1x256x770, .f32⟩
  | .local _ .vmem, ⟨8, _⟩ => ⟨S1x256x770, .f32⟩
  | .local _ .vmem, ⟨9, _⟩ => ⟨S1x256x770, .f32⟩
  | .local _ .vmem, ⟨10, _⟩ => ⟨S1x256x770, .f32⟩
  | .local _ .vmem, ⟨11, _⟩ => ⟨S1x256x770, .f32⟩
  | .local _ .vmem, ⟨12, _⟩ => ⟨S1x256x770, .f32⟩
  | .local _ .vmem, ⟨13, _⟩ => ⟨S1x256x770, .f32⟩
  | .local _ .vmem, ⟨14, _⟩ => ⟨S1x256x770, .f32⟩
  | .local _ .vmem, ⟨15, _⟩ => ⟨S1x256x770, .f32⟩
  | _, _ => ⟨S8x1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x770 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x1024x770 : Shape := ⟨3, ![8, 1024, 770]⟩
abbrev S1x1024x770 : Shape := ⟨3, ![1, 1024, 770]⟩
abbrev S_ : Shape := ⟨0, ![]⟩
abbrev S1024x770 : Shape := ⟨2, ![1024, 770]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x770, .f32⟩
  | .hbm, ⟨1, _⟩ => ⟨S1x1024x770, .f32⟩
  | .hbm, ⟨2, _⟩ => ⟨S1x1024x770, .f32⟩
  | .hbm, ⟨3, _⟩ => ⟨S1x1024x770, .f32⟩
  | .hbm, ⟨4, _⟩ => ⟨S_, .f32⟩
  | .hbm, ⟨5, _⟩ => ⟨S1024x770, .f32⟩
  | .hbm, ⟨6, _⟩ => ⟨S1x1024x770, .f32⟩
  | .hbm, ⟨7, _⟩ => ⟨S_, .f32⟩
  | .hbm, ⟨8, _⟩ => ⟨S1x1024x770, .f32⟩
  | .hbm, ⟨9, _⟩ => ⟨S1x1024x770, .f32⟩
  | .hbm, ⟨10, _⟩ => ⟨S_, .f32⟩
  | .hbm, ⟨11, _⟩ => ⟨S1x1024x770, .f32⟩
  | .hbm, ⟨12, _⟩ => ⟨S1x1024x770, .f32⟩
  | .hbm, ⟨13, _⟩ => ⟨S1x1024x770, .f32⟩
  | .hbm, ⟨14, _⟩ => ⟨S_, .f32⟩
  | .hbm, ⟨15, _⟩ => ⟨S1x1024x770, .f32⟩
  | .hbm, ⟨16, _⟩ => ⟨S1x1024x770, .f32⟩
  | .hbm, ⟨17, _⟩ => ⟨S1x1024x770, .f32⟩
  | .hbm, ⟨18, _⟩ => ⟨S_, .f32⟩
  | .hbm, ⟨19, _⟩ => ⟨S1x1024x770, .f32⟩
  | .hbm, ⟨20, _⟩ => ⟨S1x1024x770, .f32⟩
  | .hbm, ⟨21, _⟩ => ⟨S1x1024x770, .f32⟩
  | .hbm, ⟨22, _⟩ => ⟨S_, .f32⟩
  | .hbm, ⟨23, _⟩ => ⟨S1x1024x770, .f32⟩
  | .hbm, ⟨24, _⟩ => ⟨S1x1024x770, .f32⟩
  | .hbm, ⟨25, _⟩ => ⟨S_, .f32⟩
  | .hbm, ⟨26, _⟩ => ⟨S1x1024x770, .f32⟩
  | .hbm, ⟨27, _⟩ => ⟨S1x1024x770, .f32⟩
  | .hbm, ⟨28, _⟩ => ⟨S1x1024x770, .f32⟩
  | .hbm, ⟨29, _⟩ => ⟨S_, .f32⟩
  | .hbm, ⟨30, _⟩ => ⟨S1x1024x770, .f32⟩
  | .hbm, ⟨31, _⟩ => ⟨S1x1024x770, .f32⟩
  | .hbm, ⟨32, _⟩ => ⟨S1x1024x770, .f32⟩
  | .hbm, ⟨33, _⟩ => ⟨S_, .f32⟩
  | .hbm, ⟨34, _⟩ => ⟨S1x1024x770, .f32⟩
  | .hbm, ⟨35, _⟩ => ⟨S1x1024x770, .f32⟩
  | .hbm, ⟨36, _⟩ => ⟨S1x1024x770, .f32⟩
  | .hbm, ⟨37, _⟩ => ⟨S_, .f32⟩
  | .hbm, ⟨38, _⟩ => ⟨S1x1024x770, .f32⟩
  | .hbm, ⟨39, _⟩ => ⟨S1x1024x770, .f32⟩
  | _, _ => ⟨S8x1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .bf16⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x8x512 : Shape := ⟨3, ![8, 8, 512]⟩
abbrev S1x4x512 : Shape := ⟨3, ![1, 4, 512]⟩
abbrev S4x512 : Shape := ⟨2, ![4, 512]⟩
abbrev S_ : Shape := ⟨0, ![]⟩
abbrev S8x512 : Shape := ⟨2, ![8, 512]⟩
abbrev S1x8x512 : Shape := ⟨3, ![1, 8, 512]⟩

abbrev nBuf : Space → Nat
  | .hbm => 27
  | .vmem => 8
  | .smem => 0
  | _ => 0

abbrev bufTy : (tb : Table) → Fin (tcTables nBuf tb) → BufTy
  | .hbm, ⟨0, _⟩ => ⟨S8x8x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S4x512, .f32⟩
  | .hbm, ⟨5, _⟩ => ⟨S_, .i32⟩
  | .hbm, ⟨6, _⟩ => ⟨S_, .f32⟩
  | .hbm, ⟨7, _⟩ => ⟨S8x512, .f32⟩
  | .hbm, ⟨8, _⟩ => ⟨S1x8x512, .f32⟩
  | .hbm, ⟨9, _⟩ => ⟨S4x512, .f32⟩
  | .hbm, ⟨10, _⟩ => ⟨S_, .i32⟩
  | .hbm, ⟨11, _⟩ => ⟨S_, .f32⟩
  | .hbm, ⟨12, _⟩ => ⟨S8x512, .f32⟩
  | .hbm, ⟨13, _⟩ => ⟨S1x8x512, .f32⟩
  | .hbm, ⟨14, _⟩ => ⟨S4x512, .f32⟩
  | .hbm, ⟨15, _⟩ => ⟨S_, .i32⟩
  | .hbm, ⟨16, _⟩ => ⟨S_, .f32⟩
  | .hbm, ⟨17, _⟩ => ⟨S8x512, .f32⟩
  | .hbm, ⟨18, _⟩ => ⟨S1x8x512, .f32⟩
  | .hbm, ⟨19, _⟩ => ⟨S1x8x512, .f32⟩
  | .hbm, ⟨20, _⟩ => ⟨S1x8x512, .f32⟩
  | .hbm, ⟨21, _⟩ => ⟨S1x8x512, .f32⟩
  | .hbm, ⟨22, _⟩ => ⟨S1x8x512, .f32⟩
  | .hbm, ⟨23, _⟩ => ⟨S1x4x512, .f32⟩
  | .hbm, ⟨24, _⟩ => ⟨S1x4x512, .f32⟩
  | .hbm, ⟨25, _⟩ => ⟨S1x4x512, .f32⟩
  | .hbm, ⟨26, _⟩ => ⟨S1x4x512, .f32⟩
  | .local _ .vmem, ⟨0, _⟩ => ⟨S8x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | _, _ => ⟨S8x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x8x512 : Shape := ⟨3, ![8, 8, 512]⟩
abbrev S1x4x512 : Shape := ⟨3, ![1, 4, 512]⟩
abbrev S8x4x512 : Shape := ⟨3, ![8, 4, 512]⟩
abbrev S_ : Shape := ⟨0, ![]⟩
abbrev S4x512 : Shape := ⟨2, ![4, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x8x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S8x4x512, .f32⟩
  | .hbm, ⟨5, _⟩ => ⟨S_, .f32⟩
  | .hbm, ⟨6, _⟩ => ⟨S4x512, .f32⟩
  | .hbm, ⟨7, _⟩ => ⟨S1x4x512, .f32⟩
  | .hbm, ⟨8, _⟩ => ⟨S_, .f32⟩
  | .hbm, ⟨9, _⟩ => ⟨S1x4x512, .f32⟩
  | .hbm, ⟨10, _⟩ => ⟨S1x4x512, .f32⟩
  | .hbm, ⟨11, _⟩ => ⟨S_, .f32⟩
  | .hbm, ⟨12, _⟩ => ⟨S1x4x512, .f32⟩
  | .hbm, ⟨13, _⟩ => ⟨S1x4x512, .f32⟩
  | .hbm, ⟨14, _⟩ => ⟨S1x4x512, .f32⟩
  | .hbm, ⟨15, _⟩ => ⟨S_, .f32⟩
  | .hbm, ⟨16, _⟩ => ⟨S1x4x512, .f32⟩
  | .hbm, ⟨17, _⟩ => ⟨S1x4x512, .f32⟩
  | .hbm, ⟨18, _⟩ => ⟨S1x4x512, .f32⟩
  | .hbm, ⟨19, _⟩ => ⟨S_, .f32⟩
  | .hbm, ⟨20, _⟩ => ⟨S1x4x512, .f32⟩
  | .hbm, ⟨21, _⟩ => ⟨S1x4x512, .f32⟩
  | .hbm, ⟨22, _⟩ => ⟨S1x4x512, .f32⟩
  | .hbm, ⟨23, _⟩ => ⟨S_, .f32⟩
  | .hbm, ⟨24, _⟩ => ⟨S1x4x512, .f32⟩
  | .hbm, ⟨25, _⟩ => ⟨S1x4x512, .f32⟩
  | .hbm, ⟨26, _⟩ => ⟨S_, .f32⟩
  | .hbm, ⟨27, _⟩ => ⟨S1x4x512, .f32⟩
  | .hbm, ⟨28, _⟩ => ⟨S1x4x512, .f32⟩
  | .hbm, ⟨29, _⟩ => ⟨S1x4x512, .f32⟩
  | .hbm, ⟨30, _⟩ => ⟨S_, .f32⟩
  | .hbm, ⟨31, _⟩ => ⟨S1x4x512, .f32⟩
  | .hbm, ⟨32, _⟩ => ⟨S1x4x512, .f32⟩
  | .hbm, ⟨33, _⟩ => ⟨S1x4x512, .f32⟩
  | .hbm, ⟨34, _⟩ => ⟨S_, .f32⟩
  | .hbm, ⟨35, _⟩ => ⟨S1x4x512, .f32⟩
  | .hbm, ⟨36, _⟩ => ⟨S1x4x512, .f32⟩
  | .hbm, ⟨37, _⟩ => ⟨S1x4x512, .f32⟩
  | .hbm, ⟨38, _⟩ => ⟨S_, .f32⟩
  | .hbm, ⟨39, _⟩ => ⟨S1x4x512, .f32⟩
  | .hbm, ⟨40, _⟩ => ⟨S1x4x512, .f32⟩
  | _, _ => ⟨S8x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x48x128 : Shape := ⟨3, ![8, 48, 128]⟩
abbrev S2x1024 : Shape := ⟨2, ![2, 1024]⟩
abbrev S1x8 : Shape := ⟨2, ![1, 8]⟩
abbrev S1x256 : Shape := ⟨2, ![1, 256]⟩
abbrev S1x3x128 : Shape := ⟨3, ![1, 3, 128]⟩
abbrev S8x1x1 : Shape := ⟨3, ![8, 1, 1]⟩
abbrev S8 : Shape := ⟨1, ![8]⟩
abbrev S_ : Shape := ⟨0, ![]⟩
abbrev S1x1024 : Shape := ⟨2, ![1, 1024]⟩
abbrev S1024 : Shape := ⟨1, ![1024]⟩
abbrev S8x128 : Shape := ⟨2, ![8, 128]⟩
abbrev S1 : Shape := ⟨1, ![1]⟩
abbrev S2 : Shape := ⟨1, ![2]⟩
abbrev S256 : Shape := ⟨1, ![256]⟩
abbrev S2x128 : Shape := ⟨2, ![2, 128]⟩
abbrev S3x128 : Shape := ⟨2, ![3, 128]⟩
abbrev S6x128 : Shape := ⟨2, ![6, 128]⟩
abbrev S40x128 : Shape := ⟨2, ![40, 128]⟩
abbrev S1x40x128 : Shape := ⟨3, ![1, 40, 128]⟩
abbrev S8x40x128 : Shape := ⟨3, ![8, 40, 128]⟩
abbrev S16x128 : Shape := ⟨2, ![16, 128]⟩

abbrev nBuf : Space → Nat
  | .hbm => 177
  | .vmem => 8
  | .smem => 0
  | _ => 0

abbrev hbmTy0_0 (i : Nat) : BufTy := match i % 128 with
  | 0 => ⟨S8x48x128, .f32⟩
  | 1 => ⟨S2x1024, .f32⟩
  | 2 => ⟨S1x8, .f32⟩
  | 3 => ⟨S1x8, .f32⟩
  | 4 => ⟨S1x256, .f32⟩
  | 5 => ⟨S1x3x128, .f32⟩
  | 6 => ⟨S1x3x128, .f32⟩
  | 7 => ⟨S2x1024, .f32⟩
  | 8 => ⟨S1x8, .f32⟩
  | 9 => ⟨S1x8, .f32⟩
  | 10 => ⟨S1x256, .f32⟩
  | 11 => ⟨S1x3x128, .f32⟩
  | 12 => ⟨S1x3x128, .f32⟩
  | 13 => ⟨S2x1024, .f32⟩
  | 14 => ⟨S1x8, .f32⟩
  | 15 => ⟨S1x8, .f32⟩
  | 16 => ⟨S1x256, .f32⟩
  | 17 => ⟨S1x3x128, .f32⟩
  | 18 => ⟨S1x3x128, .f32⟩
  | 19 => ⟨S8x1x1, .f32⟩
  | 20 => ⟨S8, .f32⟩
  | 21 => ⟨S_, .f32⟩
  | 22 => ⟨S_, .f32⟩
  | 23 => ⟨S1x1024, .f32⟩
  | 24 => ⟨S1024, .f32⟩
  | 25 => ⟨S8x128, .f32⟩
  | 26 => ⟨S1x1024, .f32⟩
  | 27 => ⟨S1024, .f32⟩
  | 28 => ⟨S8x128, .f32⟩
  | 29 => ⟨S_, .f32⟩
  | 30 => ⟨S8x128, .f32⟩
  | 31 => ⟨S8, .f32⟩
  | 32 => ⟨S_, .i32⟩
  | 33 => ⟨S1, .i32⟩
  | 34 => ⟨S_, .i32⟩
  | 35 => ⟨S1, .i32⟩
  | 36 => ⟨S2, .i32⟩
  | 37 => ⟨S8x128, .f32⟩
  | 38 => ⟨S8, .f32⟩
  | 39 => ⟨S_, .i32⟩
  | 40 => ⟨S1, .i32⟩
  | 41 => ⟨S_, .i32⟩
  | 42 => ⟨S1, .i32⟩
  | 43 => ⟨S2, .i32⟩
  | 44 => ⟨S8x128, .f32⟩
  | 45 => ⟨S256, .f32⟩
  | 46 => ⟨S2x128, .f32⟩
  | 47 => ⟨S_, .i32⟩
  | 48 => ⟨S_, .f32⟩
  | 49 => ⟨S8x128, .f32⟩
  | 50 => ⟨S3x128, .f32⟩
  | 51 => ⟨S3x128, .f32⟩
  | 52 => ⟨S6x128, .f32⟩
  | 53 => ⟨S_, .i32⟩
  | 54 => ⟨S_, .f32⟩
  | 55 => ⟨S8x128, .f32⟩
  | 56 => ⟨S40x128, .f32⟩
  | 57 => ⟨S1x40x128, .f32⟩
  | 58 => ⟨S1x1024, .f32⟩
  | 59 => ⟨S1024, .f32⟩
  | 60 => ⟨S8x128, .f32⟩
  | 61 => ⟨S1x1024, .f32⟩
  | 62 => ⟨S1024, .f32⟩
  | 63 => ⟨S8x128, .f32⟩
  | 64 => ⟨S_, .f32⟩
  | 65 => ⟨S8x128, .f32⟩
  | 66 => ⟨S8, .f32⟩
  | 67 => ⟨S_, .i32⟩
  | 68 => ⟨S1, .i32⟩
  | 69 => ⟨S_, .i32⟩
  | 70 => ⟨S1, .i32⟩
  | 71 => ⟨S2, .i32⟩
  | 72 => ⟨S8x128, .f32⟩
  | 73 => ⟨S8, .f32⟩
  | 74 => ⟨S_, .i32⟩
  | 75 => ⟨S1, .i32⟩
  | 76 => ⟨S_, .i32⟩
  | 77 => ⟨S1, .i32⟩
  | 78 => ⟨S2, .i32⟩
  | 79 => ⟨S8x128, .f32⟩
  | 80 => ⟨S256, .f32⟩
  | 81 => ⟨S2x128, .f32⟩
  | 82 => ⟨S_, .i32⟩
  | 83 => ⟨S_, .f32⟩
  | 84 => ⟨S8x128, .f32⟩
  | 85 => ⟨S3x128, .f32⟩
  | 86 => ⟨S3x128, .f32⟩
  | 87 => ⟨S6x128, .f32⟩
  | 88 => ⟨S_, .i32⟩
  | 89 => ⟨S_, .f32⟩
  | 90 => ⟨S8x128, .f32⟩
  | 91 => ⟨S40x128, .f32⟩
  | 92 => ⟨S1x40x128, .f32⟩
  | 93 => ⟨S1x1024, .f32⟩
  | 94 => ⟨S1024, .f32⟩
  | 95 => ⟨S8x128, .f32⟩
  | 96 => ⟨S1x1024, .f32⟩
  | 97 => ⟨S1024, .f32⟩
  | 98 => ⟨S8x128, .f32⟩
  | 99 => ⟨S_, .f32⟩
  | 100 => ⟨S8x128, .f32⟩
  | 101 => ⟨S8, .f32⟩
  | 102 => ⟨S_, .i32⟩
  | 103 => ⟨S1, .i32⟩
  | 104 => ⟨S_, .i32⟩
  | 105 => ⟨S1, .i32⟩
  | 106 => ⟨S2, .i32⟩
  | 107 => ⟨S8x128, .f32⟩
  | 108 => ⟨S8, .f32⟩
  | 109 => ⟨S_, .i32⟩
  | 110 => ⟨S1, .i32⟩
  | 111 => ⟨S_, .i32⟩
  | 112 => ⟨S1, .i32⟩
  | 113 => ⟨S2, .i32⟩
  | 114 => ⟨S8x128, .f32⟩
  | 115 => ⟨S256, .f32⟩
  | 116 => ⟨S2x128, .f32⟩
  | 117 => ⟨S_, .i32⟩
  | 118 => ⟨S_, .f32⟩
  | 119 => ⟨S8x128, .f32⟩
  | 120 => ⟨S3x128, .f32⟩
  | 121 => ⟨S3x128, .f32⟩
  | 122 => ⟨S6x128, .f32⟩
  | 123 => ⟨S_, .i32⟩
  | 124 => ⟨S_, .f32⟩
  | 125 => ⟨S8x128, .f32⟩
  | 126 => ⟨S40x128, .f32⟩
  | 127 => ⟨S1x40x128, .f32⟩
  | _ => ⟨S8x48x128, .f32⟩

abbrev hbmTy0_1 (i : Nat) : BufTy := match i % 128 with
  | 0 => ⟨S8x40x128, .f32⟩
  | 1 => ⟨S1x40x128, .f32⟩
  | 2 => ⟨S1x40x128, .f32⟩
  | 3 => ⟨S1x40x128, .f32⟩
  | 4 => ⟨S1x40x128, .f32⟩
  | 5 => ⟨S40x128, .f32⟩
  | 6 => ⟨S16x128, .f32⟩
  | 7 => ⟨S2x1024, .f32⟩
  | 8 => ⟨S1x8, .f32⟩
  | 9 => ⟨S1x8, .f32⟩
  | 10 => ⟨S2x128, .f32⟩
  | 11 => ⟨S1x256, .f32⟩
  | 12 => ⟨S3x128, .f32⟩
  | 13 => ⟨S1x3x128, .f32⟩
  | 14 => ⟨S3x128, .f32⟩
  | 15 => ⟨S1x3x128, .f32⟩
  | 16 => ⟨S40x128, .f32⟩
  | 17 => ⟨S16x128, .f32⟩
  | 18 => ⟨S2x1024, .f32⟩
  | 19 => ⟨S1x8, .f32⟩
  | 20 => ⟨S1x8, .f32⟩
  | 21 => ⟨S2x128, .f32⟩
  | 22 => ⟨S1x256, .f32⟩
  | 23 => ⟨S3x128, .f32⟩
  | 24 => ⟨S1x3x128, .f32⟩
  | 25 => ⟨S3x128, .f32⟩
  | 26 => ⟨S1x3x128, .f32⟩
  | 27 => ⟨S40x128, .f32⟩
  | 28 => ⟨S16x128, .f32⟩
  | 29 => ⟨S2x1024, .f32⟩
  | 30 => ⟨S1x8, .f32⟩
  | 31 => ⟨S1x8, .f32⟩
  | 32 => ⟨S2x128, .f32⟩
  | 33 => ⟨S1x256, .f32⟩
  | 34 => ⟨S3x128, .f32⟩
  | 35 => ⟨S1x3x128, .f32⟩
  | 36 => ⟨S3x128, .f32⟩
  | 37 => ⟨S1x3x128, .f32⟩
  | 38 => ⟨S40x128, .f32⟩
  | 39 => ⟨S16x128, .f32⟩
  | 40 => ⟨S2x1024, .f32⟩
  | 41 => ⟨S1x8, .f32⟩
  | 42 => ⟨S1x8, .f32⟩
  | 43 => ⟨S2x128, .f32⟩
  | 44 => ⟨S1x256, .f32⟩
  | 45 => ⟨S3x128, .f32⟩
  | 46 => ⟨S1x3x128, .f32⟩
  | 47 => ⟨S3x128, .f32⟩
  | 48 => ⟨S1x3x128, .f32⟩
  | _ => ⟨S8x48x128, .f32⟩

abbrev hbmTy (i : Nat) : BufTy := match i / 128 with
  | 0 => hbmTy0_0 i
  | 1 => hbmTy0_1 i
  | _ => ⟨S8x48x128, .f32⟩

abbrev bufTy : (tb : Table) → Fin (tcTables nBuf tb) → BufTy
  | .hbm, ⟨i, _⟩ => hbmTy i
  | .local _ .vmem, ⟨0, _⟩ => ⟨S8x40x128, .f32⟩
  | .local _ .vmem, ⟨1, _⟩ => ⟨S1x40x128, .f32⟩
  | .local _ .vmem, ⟨2, _⟩ => ⟨S1x40x128, .f32⟩
  | .local _ .vmem, ⟨3, _⟩ => ⟨S1x40x128, .f32⟩
  | .local _ .vmem, ⟨4, _⟩ => ⟨S1x40x128, .f32⟩
  | .local _ .vmem, ⟨5, _⟩ => ⟨S1x40x128, .f32⟩
  | .local _ .vmem, ⟨6, _⟩ => ⟨S1x40x128, .f32⟩
  | .local _ .vmem, ⟨7, _⟩ => ⟨S1x40x128, .f32⟩
  | _, _ => ⟨S8x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_call0_v0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_call1_v0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_c_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_11 : Ref sig .tc := ⟨.hbm, 82, rfl⟩
abbrev main_call2_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_call3_v0 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_13 : Ref sig .tc := ⟨.hbm, 99, rfl⟩
abbrev main_v61 : Ref sig .tc := ⟨.hbm, 100, rfl⟩
abbrev main_v62 : Ref sig .tc := ⟨.hbm, 101, rfl⟩
abbrev main_c_14 : Ref sig .tc := ⟨.hbm, 102, rfl⟩
abbrev main_v63 : Ref sig .tc := ⟨.hbm, 103, rfl⟩
abbrev main_c_15 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_16 : Ref sig .tc := ⟨.hbm, 109, rfl⟩
abbrev main_v68 : Ref sig .tc := ⟨.hbm, 110, rfl⟩
abbrev main_c_17 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_18 : Ref sig .tc := ⟨.hbm, 117, rfl⟩
abbrev main_call4_v0 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_19 : Ref sig .tc := ⟨.hbm, 123, rfl⟩
abbrev main_call5_v0 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82_0 : Ref sig .tc := ⟨.hbm, 129, rfl⟩
abbrev main_v82_1 : Ref sig .tc := ⟨.hbm, 130, rfl⟩
abbrev main_v82_2 : Ref sig .tc := ⟨.hbm, 131, rfl⟩
abbrev main_v82_3 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x48x128 : Shape := ⟨3, ![8, 48, 128]⟩
abbrev S2x1024 : Shape := ⟨2, ![2, 1024]⟩
abbrev S1x8 : Shape := ⟨2, ![1, 8]⟩
abbrev S1x256 : Shape := ⟨2, ![1, 256]⟩
abbrev S1x3x128 : Shape := ⟨3, ![1, 3, 128]⟩
abbrev S8x16x128 : Shape := ⟨3, ![8, 16, 128]⟩
abbrev S8x2x1024 : Shape := ⟨3, ![8, 2, 1024]⟩
abbrev S8x1x8 : Shape := ⟨3, ![8, 1, 8]⟩
abbrev S8x8 : Shape := ⟨2, ![8, 8]⟩
abbrev S8x2x128 : Shape := ⟨3, ![8, 2, 128]⟩
abbrev S8x1x256 : Shape := ⟨3, ![8, 1, 256]⟩
abbrev S8x3x128 : Shape := ⟨3, ![8, 3, 128]⟩
abbrev S8x1x3x128 : Shape := ⟨4, ![8, 1, 3, 128]⟩
abbrev S_ : Shape := ⟨0, ![]⟩
abbrev S8x1x1 : Shape := ⟨3, ![8, 1, 1]⟩
abbrev S8 : Shape := ⟨1, ![8]⟩

abbrev nBuf : Space → Nat
  | .hbm => 247
  | .vmem => 0
  | .smem => 0
  | _ => 0

abbrev hbmTy0_0 (i : Nat) : BufTy := match i % 128 with
  | 0 => ⟨S8x48x128, .f32⟩
  | 1 => ⟨S2x1024, .f32⟩
  | 2 => ⟨S1x8, .f32⟩
  | 3 => ⟨S1x8, .f32⟩
  | 4 => ⟨S1x256, .f32⟩
  | 5 => ⟨S1x3x128, .f32⟩
  | 6 => ⟨S1x3x128, .f32⟩
  | 7 => ⟨S2x1024, .f32⟩
  | 8 => ⟨S1x8, .f32⟩
  | 9 => ⟨S1x8, .f32⟩
  | 10 => ⟨S1x256, .f32⟩
  | 11 => ⟨S1x3x128, .f32⟩
  | 12 => ⟨S1x3x128, .f32⟩
  | 13 => ⟨S2x1024, .f32⟩
  | 14 => ⟨S1x8, .f32⟩
  | 15 => ⟨S1x8, .f32⟩
  | 16 => ⟨S1x256, .f32⟩
  | 17 => ⟨S1x3x128, .f32⟩
  | 18 => ⟨S1x3x128, .f32⟩
  | 19 => ⟨S8x16x128, .f32⟩
  | 20 => ⟨S8x2x1024, .f32⟩
  | 21 => ⟨S8x1x8, .f32⟩
  | 22 => ⟨S8x8, .f32⟩
  | 23 => ⟨S8x1x8, .f32⟩
  | 24 => ⟨S8x1x8, .f32⟩
  | 25 => ⟨S8x8, .f32⟩
  | 26 => ⟨S8x1x8, .f32⟩
  | 27 => ⟨S8x2x128, .f32⟩
  | 28 => ⟨S8x1x256, .f32⟩
  | 29 => ⟨S8x3x128, .f32⟩
  | 30 => ⟨S8x1x3x128, .f32⟩
  | 31 => ⟨S8x3x128, .f32⟩
  | 32 => ⟨S8x1x3x128, .f32⟩
  | 33 => ⟨S_, .f32⟩
  | 34 => ⟨S2x1024, .f32⟩
  | 35 => ⟨S_, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S_, .f32⟩
  | 69 => ⟨S1x8, .f32⟩
  | 70 => ⟨S_, .f32⟩
  | 71 => ⟨S1x8, .f32⟩
  | 72 => ⟨S1x8, .f32⟩
  | 73 => ⟨S_, .f32⟩
  | 74 => ⟨S1x8, .f32⟩
  | 75 => ⟨S1x8, .f32⟩
  | 76 => ⟨S1x8, .f32⟩
  | 77 => ⟨S_, .f32⟩
  | 78 => ⟨S1x8, .f32⟩
  | 79 => ⟨S1x8, .f32⟩
  | 80 => ⟨S1x8, .f32⟩
  | 81 => ⟨S_, .f32⟩
  | 82 => ⟨S1x8, .f32⟩
  | 83 => ⟨S1x8, .f32⟩
  | 84 => ⟨S1x8, .f32⟩
  | 85 => ⟨S_, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S1x8, .f32⟩
  | 96 => ⟨S_, .f32⟩
  | 97 => ⟨S1x8, .f32⟩
  | 98 => ⟨S1x8, .f32⟩
  | 99 => ⟨S1x8, .f32⟩
  | 100 => ⟨S_, .f32⟩
  | 101 => ⟨S1x8, .f32⟩
  | 102 => ⟨S1x8, .f32⟩
  | 103 => ⟨S_, .f32⟩
  | 104 => ⟨S1x8, .f32⟩
  | 105 => ⟨S_, .f32⟩
  | 106 => ⟨S1x8, .f32⟩
  | 107 => ⟨S1x8, .f32⟩
  | 108 => ⟨S_, .f32⟩
  | 109 => ⟨S1x8, .f32⟩
  | 110 => ⟨S1x8, .f32⟩
  | 111 => ⟨S1x8, .f32⟩
  | 112 => ⟨S_, .f32⟩
  | 113 => ⟨S1x8, .f32⟩
  | 114 => ⟨S1x8, .f32⟩
  | 115 => ⟨S1x8, .f32⟩
  | 116 => ⟨S_, .f32⟩
  | 117 => ⟨S1x8, .f32⟩
  | 118 => ⟨S1x8, .f32⟩
  | 119 => ⟨S1x8, .f32⟩
  | 120 => ⟨S_, .f32⟩
  | 121 => ⟨S1x8, .f32⟩
  | 122 => ⟨S1x8, .f32⟩
  | 123 => ⟨S_, .f32⟩
  | 124 => ⟨S1x8, .f32⟩
  | 125 => ⟨S1x8, .f32⟩
  | 126 => ⟨S1x8, .f32⟩
  | 127 => ⟨S_, .f32⟩
  | _ => ⟨S8x48x128, .f32⟩

abbrev hbmTy0_1 (i : Nat) : BufTy := match i % 128 with
  | 0 => ⟨S1x8, .f32⟩
  | 1 => ⟨S1x8, .f32⟩
  | 2 => ⟨S1x8, .f32⟩
  | 3 => ⟨S_, .f32⟩
  | 4 => ⟨S1x8, .f32⟩
  | 5 => ⟨S1x8, .f32⟩
  | 6 => ⟨S1x8, .f32⟩
  | 7 => ⟨S_, .f32⟩
  | 8 => ⟨S1x8, .f32⟩
  | 9 => ⟨S1x8, .f32⟩
  | 10 => ⟨S_, .f32⟩
  | 11 => ⟨S1x256, .f32⟩
  | 12 => ⟨S_, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S1x256, .f32⟩
  | 19 => ⟨S_, .f32⟩
  | 20 => ⟨S1x256, .f32⟩
  | 21 => ⟨S1x256, .f32⟩
  | 22 => ⟨S1x256, .f32⟩
  | 23 => ⟨S_, .f32⟩
  | 24 => ⟨S1x256, .f32⟩
  | 25 => ⟨S1x256, .f32⟩
  | 26 => ⟨S1x256, .f32⟩
  | 27 => ⟨S_, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S1x256, .f32⟩
  | 42 => ⟨S_, .f32⟩
  | 43 => ⟨S1x256, .f32⟩
  | 44 => ⟨S1x256, .f32⟩
  | 45 => ⟨S_, .f32⟩
  | 46 => ⟨S1x3x128, .f32⟩
  | 47 => ⟨S_, .f32⟩
  | 48 => ⟨S1x3x128, .f32⟩
  | 49 => ⟨S1x3x128, .f32⟩
  | 50 => ⟨S_, .f32⟩
  | 51 => ⟨S1x3x128, .f32⟩
  | 52 => ⟨S1x3x128, .f32⟩
  | 53 => ⟨S1x3x128, .f32⟩
  | 54 => ⟨S_, .f32⟩
  | 55 => ⟨S1x3x128, .f32⟩
  | 56 => ⟨S1x3x128, .f32⟩
  | 57 => ⟨S1x3x128, .f32⟩
  | 58 => ⟨S_, .f32⟩
  | 59 => ⟨S1x3x128, .f32⟩
  | 60 => ⟨S1x3x128, .f32⟩
  | 61 => ⟨S1x3x128, .f32⟩
  | 62 => ⟨S_, .f32⟩
  | 63 => ⟨S1x3x128, .f32⟩
  | 64 => ⟨S1x3x128, .f32⟩
  | 65 => ⟨S_, .f32⟩
  | 66 => ⟨S1x3x128, .f32⟩
  | 67 => ⟨S1x3x128, .f32⟩
  | 68 => ⟨S1x3x128, .f32⟩
  | 69 => ⟨S_, .f32⟩
  | 70 => ⟨S1x3x128, .f32⟩
  | 71 => ⟨S1x3x128, .f32⟩
  | 72 => ⟨S1x3x128, .f32⟩
  | 73 => ⟨S_, .f32⟩
  | 74 => ⟨S1x3x128, .f32⟩
  | 75 => ⟨S1x3x128, .f32⟩
  | 76 => ⟨S1x3x128, .f32⟩
  | 77 => ⟨S_, .f32⟩
  | 78 => ⟨S1x3x128, .f32⟩
  | 79 => ⟨S1x3x128, .f32⟩
  | 80 => ⟨S_, .f32⟩
  | 81 => ⟨S1x3x128, .f32⟩
  | 82 => ⟨S_, .f32⟩
  | 83 => ⟨S1x3x128, .f32⟩
  | 84 => ⟨S1x3x128, .f32⟩
  | 85 => ⟨S_, .f32⟩
  | 86 => ⟨S1x3x128, .f32⟩
  | 87 => ⟨S1x3x128, .f32⟩
  | 88 => ⟨S1x3x128, .f32⟩
  | 89 => ⟨S_, .f32⟩
  | 90 => ⟨S1x3x128, .f32⟩
  | 91 => ⟨S1x3x128, .f32⟩
  | 92 => ⟨S1x3x128, .f32⟩
  | 93 => ⟨S_, .f32⟩
  | 94 => ⟨S1x3x128, .f32⟩
  | 95 => ⟨S1x3x128, .f32⟩
  | 96 => ⟨S1x3x128, .f32⟩
  | 97 => ⟨S_, .f32⟩
  | 98 => ⟨S1x3x128, .f32⟩
  | 99 => ⟨S1x3x128, .f32⟩
  | 100 => ⟨S_, .f32⟩
  | 101 => ⟨S1x3x128, .f32⟩
  | 102 => ⟨S1x3x128, .f32⟩
  | 103 => ⟨S1x3x128, .f32⟩
  | 104 => ⟨S_, .f32⟩
  | 105 => ⟨S1x3x128, .f32⟩
  | 106 => ⟨S1x3x128, .f32⟩
  | 107 => ⟨S1x3x128, .f32⟩
  | 108 => ⟨S_, .f32⟩
  | 109 => ⟨S1x3x128, .f32⟩
  | 110 => ⟨S1x3x128, .f32⟩
  | 111 => ⟨S1x3x128, .f32⟩
  | 112 => ⟨S_, .f32⟩
  | 113 => ⟨S1x3x128, .f32⟩
  | 114 => ⟨S1x3x128, .f32⟩
  | 115 => ⟨S8x1x1, .f32⟩
  | 116 => ⟨S8, .f32⟩
  | 117 => ⟨S_, .f32⟩
  | 118 => ⟨S_, .f32⟩
  | _ => ⟨S8x48x128, .f32⟩

abbrev hbmTy (i : Nat) : BufTy := match i / 128 with
  | 0 => hbmTy0_0 i
  | 1 => hbmTy0_1 i
  | _ => ⟨S8x48x128, .f32⟩

abbrev bufTy : (tb : Table) → Fin (tcTables nBuf tb) → BufTy
  | .hbm, ⟨i, _⟩ => hbmTy i
  | _, _ => ⟨S8x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_13 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_cst_15 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_16 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_18 : Ref sig .tc := ⟨.hbm, 100, rfl⟩
abbrev main_v62 : Ref sig .tc := ⟨.hbm, 101, rfl⟩
abbrev main_v63 : Ref sig .tc := ⟨.hbm, 102, rfl⟩
abbrev main_cst_19 : Ref sig .tc := ⟨.hbm, 103, rfl⟩
abbrev main_v64 : Ref sig .tc := ⟨.hbm, 104, rfl⟩
abbrev main_cst_20 : Ref sig .tc := ⟨.hbm, 105, rfl⟩
abbrev main_v65 : Ref sig .tc := ⟨.hbm, 106, rfl⟩
abbrev main_v66 : Ref sig .tc := ⟨.hbm, 107, rfl⟩
abbrev main_cst_21 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_22 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_23 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_24 : Ref sig .tc := ⟨.hbm, 120, rfl⟩
abbrev main_v76 : Ref sig .tc := ⟨.hbm, 121, rfl⟩
abbrev main_v77 : Ref sig .tc := ⟨.hbm, 122, rfl⟩
abbrev main_cst_25 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_26 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_27 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_28 : Ref sig .tc := ⟨.hbm, 135, rfl⟩
abbrev main_v87 : Ref sig .tc := ⟨.hbm, 136, rfl⟩
abbrev main_v88 : Ref sig .tc := ⟨.hbm, 137, rfl⟩
abbrev main_cst_29 : Ref sig .tc := ⟨.hbm, 138, rfl⟩
abbrev main_v89 : Ref sig .tc := ⟨.hbm, 139, rfl⟩
abbrev main_cst_30 : Ref sig .tc := ⟨.hbm, 140, rfl⟩
abbrev main_v90 : Ref sig .tc := ⟨.hbm, 141, rfl⟩
abbrev main_v91 : Ref sig .tc := ⟨.hbm, 142, rfl⟩
abbrev main_cst_31 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_32 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_33 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_34 : Ref sig .tc := ⟨.hbm, 155, rfl⟩
abbrev main_v101 : Ref sig .tc := ⟨.hbm, 156, rfl⟩
abbrev main_v102 : Ref sig .tc := ⟨.hbm, 157, rfl⟩
abbrev main_cst_35 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_36 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_37 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_38 : Ref sig .tc := ⟨.hbm, 170, rfl⟩
abbrev main_v112 : Ref sig .tc := ⟨.hbm, 171, rfl⟩
abbrev main_v113 : Ref sig .tc := ⟨.hbm, 172, rfl⟩
abbrev main_cst_39 : Ref sig .tc := ⟨.hbm, 173, rfl⟩
abbrev main_v114 : Ref sig .tc := ⟨.hbm, 174, rfl⟩
abbrev main_cst_40 : Ref sig .tc := ⟨.hbm, 175, rfl⟩
abbrev main_v115 : Ref sig .tc := ⟨.hbm, 176, rfl⟩
abbrev main_v116 : Ref sig .tc := ⟨.hbm, 177, rfl⟩
abbrev main_cst_41 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_42 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_43 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_44 : Ref sig .tc := ⟨.hbm, 190, rfl⟩
abbrev main_v126 : Ref sig .tc := ⟨.hbm, 191, rfl⟩
abbrev main_v127 : Ref sig .tc := ⟨.hbm, 192, rfl⟩
abbrev main_cst_45 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_46 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_47 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_48 : Ref sig .tc := ⟨.hbm, 205, rfl⟩
abbrev main_v137 : Ref sig .tc := ⟨.hbm, 206, rfl⟩
abbrev main_v138 : Ref sig .tc := ⟨.hbm, 207, rfl⟩
abbrev main_cst_49 : Ref sig .tc := ⟨.hbm, 208, rfl⟩
abbrev main_v139 : Ref sig .tc := ⟨.hbm, 209, rfl⟩
abbrev main_cst_50 : Ref sig .tc := ⟨.hbm, 210, rfl⟩
abbrev main_v140 : Ref sig .tc := ⟨.hbm, 211, rfl⟩
abbrev main_v141 : Ref sig .tc := ⟨.hbm, 212, rfl⟩
abbrev main_cst_51 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_cst_52 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_53 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_cst_54 : Ref sig .tc := ⟨.hbm, 225, rfl⟩
abbrev main_v151 : Ref sig .tc := ⟨.hbm, 226, rfl⟩
abbrev main_v152 : Ref sig .tc := ⟨.hbm, 227, rfl⟩
abbrev main_cst_55 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_cst_56 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_cst_57 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_cst_58 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_cst_59 : Ref sig .tc := ⟨.hbm, 245, rfl⟩
abbrev main_v166 : Ref sig .tc := ⟨.hbm, 246, rfl⟩

abbrev nD : Nat := 1
abbrev τ : Topo := Topo.v7x

variable {F : FTy → Type} [FloatOps F]
-- ==== Kernel17.lean ====
abbrev S4096x2048 : Shape := ⟨2, ![4096, 2048]⟩
abbrev S2048x1024 : Shape := ⟨2, ![2048, 1024]⟩
abbrev S4096x1024 : Shape := ⟨2, ![4096, 1024]⟩
abbrev S2x1024 : Shape := ⟨2, ![2, 1024]⟩
abbrev S_ : Shape := ⟨0, ![]⟩
abbrev S8x1024 : Shape := ⟨2, ![8, 1024]⟩
abbrev S1024x4096 : Shape := ⟨2, ![1024, 4096]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S2x1024, .f32⟩
  | .hbm, ⟨4, _⟩ => ⟨S4096x2048, .bf16⟩
  | .hbm, ⟨5, _⟩ => ⟨S2048x1024, .bf16⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4096x2048 : Shape := ⟨2, ![4096, 2048]⟩
abbrev S2048x1024 : Shape := ⟨2, ![2048, 1024]⟩
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S2x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel18.lean ====
abbrev S4096x1024 : Shape := ⟨2, ![4096, 1024]⟩
abbrev S2x1024 : Shape := ⟨2, ![2, 1024]⟩
abbrev S_ : Shape := ⟨0, ![]⟩
abbrev S8x1024 : Shape := ⟨2, ![8, 1024]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S4096x1024, .bf16⟩
  | .hbm, ⟨6, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel19.lean ====
abbrev S4096x1024 : Shape := ⟨2, ![4096, 1024]⟩
abbrev S4096x128 : Shape := ⟨2, ![4096, 128]⟩
abbrev S1024x4096 : Shape := ⟨2, ![1024, 4096]⟩
abbrev S1024x128 : Shape := ⟨2, ![1024, 128]⟩

abbrev nBuf : Space → Nat
  | .hbm => 6
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S1024x4096, .f32⟩
  | .hbm, ⟨3, _⟩ => ⟨S1024x4096, .bf16⟩
  | .hbm, ⟨4, _⟩ => ⟨S4096x128, .bf16⟩
  | .hbm, ⟨5, _⟩ => ⟨S1024x128, .bf16⟩
  | .local _ .vmem, ⟨0, _⟩ => ⟨S1024x4096, .bf16⟩
  | .local _ .vmem, ⟨1, _⟩ => ⟨S4096x128, .bf16⟩
  | .local _ .vmem, ⟨2, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S4096x1024 : Shape := ⟨2, ![4096, 1024]⟩
abbrev S4096x128 : Shape := ⟨2, ![4096, 128]⟩
abbrev S128x1024 : Shape := ⟨2, ![128, 1024]⟩
abbrev S1024x128 : Shape := ⟨2, ![1024, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S128x1024, .f32⟩
  | .hbm, ⟨3, _⟩ => ⟨S1024x128, .f32⟩
  | .hbm, ⟨4, _⟩ => ⟨S1024x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x128 : Shape := ⟨2, ![4096, 128]⟩
abbrev S1024x6272 : Shape := ⟨2, ![1024, 6272]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1024x6272, .f32⟩
  | .hbm, ⟨2, _⟩ => ⟨S4096x1024, .f32⟩
  | .hbm, ⟨3, _⟩ => ⟨S4096x128, .bf16⟩
  | .hbm, ⟨4, _⟩ => ⟨S1024x6272, .bf16⟩
  | .hbm, ⟨5, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference20Ideal.lean ====
abbrev S4096x128 : Shape := ⟨2, ![4096, 128]⟩
abbrev S1024x6272 : Shape := ⟨2, ![1024, 6272]⟩
abbrev S4096x1024 : Shape := ⟨2, ![4096, 1024]⟩
abbrev S1024x128 : Shape := ⟨2, ![1024, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x6272, .f32⟩
  | .hbm, ⟨2, _⟩ => ⟨S4096x1024, .f32⟩
  | .hbm, ⟨3, _⟩ => ⟨S1024x128, .f32⟩
  | .hbm, ⟨4, _⟩ => ⟨S4096x1024, .f32⟩
  | .hbm, ⟨5, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S8x128 : Shape := ⟨2, ![8, 128]⟩
abbrev S1x1024 : Shape := ⟨2, ![1, 1024]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S8x128, .f32⟩
  | .hbm, ⟨8, _⟩ => ⟨S1x1, .f32⟩
  | .hbm, ⟨9, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S4096x1024 : Shape := ⟨2, ![4096, 1024]⟩
abbrev S1024x1024 : Shape := ⟨2, ![1024, 1024]⟩
abbrev S_ : Shape := ⟨0, ![]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel22.lean ====
abbrev S4096x1024 : Shape := ⟨2, ![4096, 1024]⟩
abbrev S2x1024 : Shape := ⟨2, ![2, 1024]⟩
abbrev S_ : Shape := ⟨0, ![]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S4096x1024, .f32⟩
  | .hbm, ⟨8, _⟩ => ⟨S8x1024, .f32⟩
  | .hbm, ⟨9, _⟩ => ⟨S1x1024, .f32⟩
  | .hbm, ⟨10, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel23.lean ====
abbrev S4096x1024 : Shape := ⟨2, ![4096, 1024]⟩
abbrev S2x1024 : Shape := ⟨2, ![2, 1024]⟩
abbrev S_ : Shape := ⟨0, ![]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S4096x1024, .f32⟩
  | .hbm, ⟨8, _⟩ => ⟨S8x1024, .f32⟩
  | .hbm, ⟨9, _⟩ => ⟨S1x1024, .f32⟩
  | .hbm, ⟨10, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel24.lean ====
abbrev S4096x6272 : Shape := ⟨2, ![4096, 6272]⟩
abbrev S1x8 : Shape := ⟨2, ![1, 8]⟩
abbrev S_ : Shape := ⟨0, ![]⟩
abbrev S8x128 : Shape := ⟨2, ![8, 128]⟩
abbrev S8 : Shape := ⟨1, ![8]⟩
abbrev S1 : Shape := ⟨1, ![1]⟩
abbrev S2 : Shape := ⟨1, ![2]⟩
abbrev S4096x128 : Shape := ⟨2, ![4096, 128]⟩
abbrev S2x16x2048 : Shape := ⟨3, ![2, 16, 2048]⟩
abbrev S512x128 : Shape := ⟨2, ![512, 128]⟩
abbrev S1x16x512 : Shape := ⟨3, ![1, 16, 512]⟩
abbrev S1x128 : Shape := ⟨2, ![1, 128]⟩
abbrev S512x1 : Shape := ⟨2, ![512, 1]⟩
abbrev S128x512 : Shape := ⟨2, ![128, 512]⟩
abbrev S16x512 : Shape := ⟨2, ![16, 512]⟩

abbrev nBuf : Space → Nat
  | .hbm => 21
  | .vmem => 7
  | .smem => 0
  | _ => 0

abbrev bufTy : (tb : Table) → Fin (tcTables nBuf tb) → BufTy
  | .hbm, ⟨0, _⟩ => ⟨S4096x6272, .f32⟩
  | .hbm, ⟨1, _⟩ => ⟨S1x8, .f32⟩
  | .hbm, ⟨2, _⟩ => ⟨S1x8, .f32⟩
  | .hbm, ⟨3, _⟩ => ⟨S_, .f32⟩
  | .hbm, ⟨4, _⟩ => ⟨S8x128, .f32⟩
  | .hbm, ⟨5, _⟩ => ⟨S8, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S8x128, .f32⟩
  | .hbm, ⟨12, _⟩ => ⟨S8, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x128, .f32⟩
  | .hbm, ⟨19, _⟩ => ⟨S4096x128, .f32⟩
  | .hbm, ⟨20, _⟩ => ⟨S2x16x2048, .f32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S512x128, .f32⟩
  | .local _ .vmem, ⟨4, _⟩ => ⟨S512x128, .f32⟩
  | .local _ .vmem, ⟨5, _⟩ => ⟨S1x16x512, .f32⟩
  | .local _ .vmem, ⟨6, _⟩ => ⟨S1x16x512, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c48_i32 : BitVec 32 := 48#32
  let c0_i32 : BitVec 32 := 0#32
  ![v1.toNat, c48_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S4096x6272 : Shape := ⟨2, ![4096, 6272]⟩
abbrev S1x8 : Shape := ⟨2, ![1, 8]⟩
abbrev S4096x8 : Shape := ⟨2, ![4096, 8]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x8 : Shape := ⟨3, ![64, 64, 8]⟩
abbrev S64x8x64 : Shape := ⟨3, ![64, 8, 64]⟩
abbrev S4096x16 : Shape := ⟨2, ![4096, 16]⟩
abbrev S4096x128 : Shape := ⟨2, ![4096, 128]⟩
abbrev S2x2048x16 : Shape := ⟨3, ![2, 2048, 16]⟩
abbrev S2x16x2048 : Shape := ⟨3, ![2, 16, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S1x8, .f32⟩
  | .hbm, ⟨2, _⟩ => ⟨S1x8, .f32⟩
  | .hbm, ⟨3, _⟩ => ⟨S4096x8, .f32⟩
  | .hbm, ⟨4, _⟩ => ⟨S4096x8, .f32⟩
  | .hbm, ⟨5, _⟩ => ⟨S8, .f32⟩
  | .hbm, ⟨6, _⟩ => ⟨S8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S8, .f32⟩
  | .hbm, ⟨16, _⟩ => ⟨S8, .f32⟩
  | .hbm, ⟨17, _⟩ => ⟨S1x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .i1⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S1x8, .f32⟩
  | .hbm, ⟨35, _⟩ => ⟨S4096x8, .f32⟩
  | .hbm, ⟨36, _⟩ => ⟨S4096x8, .f32⟩
  | .hbm, ⟨37, _⟩ => ⟨S64, .i32⟩
  | .hbm, ⟨38, _⟩ => ⟨S64x1, .i32⟩
  | .hbm, ⟨39, _⟩ => ⟨S64, .i32⟩
  | .hbm, ⟨40, _⟩ => ⟨S1x64, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S64x64x8, .f32⟩
  | .hbm, ⟨45, _⟩ => ⟨S64x64, .f32⟩
  | .hbm, ⟨46, _⟩ => ⟨S64x8x64, .f32⟩
  | .hbm, ⟨47, _⟩ => ⟨S64x64x8, .f32⟩
  | .hbm, ⟨48, _⟩ => ⟨S4096x8, .f32⟩
  | .hbm, ⟨49, _⟩ => ⟨S4096x16, .f32⟩
  | .hbm, ⟨50, _⟩ => ⟨S_, .i32⟩
  | .hbm, ⟨51, _⟩ => ⟨S_, .f32⟩
  | .hbm, ⟨52, _⟩ => ⟨S4096x128, .f32⟩
  | .hbm, ⟨53, _⟩ => ⟨S2x2048x16, .f32⟩
  | .hbm, ⟨54, _⟩ => ⟨S2x16x2048, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel25.lean ====
abbrev S4096x6272 : Shape := ⟨2, ![4096, 6272]⟩
abbrev S1x8 : Shape := ⟨2, ![1, 8]⟩
abbrev S4096x128 : Shape := ⟨2, ![4096, 128]⟩
abbrev S_ : Shape := ⟨0, ![]⟩
abbrev S8x128 : Shape := ⟨2, ![8, 128]⟩
abbrev S8 : Shape := ⟨1, ![8]⟩
abbrev S1 : Shape := ⟨1, ![1]⟩
abbrev S2 : Shape := ⟨1, ![2]⟩
abbrev S512x128 : Shape := ⟨2, ![512, 128]⟩
abbrev S1x128 : Shape := ⟨2, ![1, 128]⟩
abbrev S512x1 : Shape := ⟨2, ![512, 1]⟩
abbrev S128 : Shape := ⟨1, ![128]⟩

abbrev nBuf : Space → Nat
  | .hbm => 26
  | .vmem => 8
  | .smem => 0
  | _ => 0

abbrev bufTy : (tb : Table) → Fin (tcTables nBuf tb) → BufTy
  | .hbm, ⟨0, _⟩ => ⟨S4096x6272, .f32⟩
  | .hbm, ⟨1, _⟩ => ⟨S1x8, .f32⟩
  | .hbm, ⟨2, _⟩ => ⟨S1x8, .f32⟩
  | .hbm, ⟨3, _⟩ => ⟨S4096x128, .f32⟩
  | .hbm, ⟨4, _⟩ => ⟨S_, .f32⟩
  | .hbm, ⟨5, _⟩ => ⟨S8x128, .f32⟩
  | .hbm, ⟨6, _⟩ => ⟨S8, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8x128, .f32⟩
  | .hbm, ⟨13, _⟩ => ⟨S8, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x128, .f32⟩
  | .hbm, ⟨20, _⟩ => ⟨S4096x128, .bf16⟩
  | .hbm, ⟨21, _⟩ => ⟨S8x128, .f32⟩
  | .hbm, ⟨22, _⟩ => ⟨S1x8, .f32⟩
  | .hbm, ⟨23, _⟩ => ⟨S8, .f32⟩
  | .hbm, ⟨24, _⟩ => ⟨S1x8, .f32⟩
  | .hbm, ⟨25, _⟩ => ⟨S8, .f32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S512x128, .f32⟩
  | .local _ .vmem, ⟨4, _⟩ => ⟨S512x128, .f32⟩
  | .local _ .vmem, ⟨5, _⟩ => ⟨S512x128, .bf16⟩
  | .local _ .vmem, ⟨6, _⟩ => ⟨S512x128, .bf16⟩
  | .local _ .vmem, ⟨7, _⟩ => ⟨S8x128, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c48_i32 : BitVec 32 := 48#32
  let c0_i32 : BitVec 32 := 0#32
  ![v1.toNat, c48_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference25Ideal.lean ====
abbrev S4096x6272 : Shape := ⟨2, ![4096, 6272]⟩
abbrev S1x8 : Shape := ⟨2, ![1, 8]⟩
abbrev S4096x128 : Shape := ⟨2, ![4096, 128]⟩
abbrev S4096x8 : Shape := ⟨2, ![4096, 8]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x8 : Shape := ⟨3, ![64, 64, 8]⟩
abbrev S64x8x64 : Shape := ⟨3, ![64, 8, 64]⟩
abbrev S4096x16 : Shape := ⟨2, ![4096, 16]⟩

abbrev nBuf : Space → Nat
  | .hbm => 109
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S1x8, .f32⟩
  | .hbm, ⟨2, _⟩ => ⟨S1x8, .f32⟩
  | .hbm, ⟨3, _⟩ => ⟨S4096x128, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S8, .f32⟩
  | .hbm, ⟨10, _⟩ => ⟨S4096x8, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S_, .f32⟩
  | .hbm, ⟨16, _⟩ => ⟨S4096x8, .f32⟩
  | .hbm, ⟨17, _⟩ => ⟨S4096x8, .f32⟩
  | .hbm, ⟨18, _⟩ => ⟨S_, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S1x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .i1⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S4096x8, .f32⟩
  | .hbm, ⟨41, _⟩ => ⟨S_, .f32⟩
  | .hbm, ⟨42, _⟩ => ⟨S4096x8, .f32⟩
  | .hbm, ⟨43, _⟩ => ⟨S4096x8, .i1⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S_, .f32⟩
  | .hbm, ⟨48, _⟩ => ⟨S4096x8, .f32⟩
  | .hbm, ⟨49, _⟩ => ⟨S4096x8, .i1⟩
  | .hbm, ⟨50, _⟩ => ⟨S_, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x8, .f32⟩
  | .hbm, ⟨63, _⟩ => ⟨S4096x8, .i1⟩
  | .hbm, ⟨64, _⟩ => ⟨S_, .f32⟩
  | .hbm, ⟨65, _⟩ => ⟨S4096x8, .f32⟩
  | .hbm, ⟨66, _⟩ => ⟨S4096x8, .f32⟩
  | .hbm, ⟨67, _⟩ => ⟨S4096x8, .f32⟩
  | .hbm, ⟨68, _⟩ => ⟨S4096x8, .f32⟩
  | .hbm, ⟨69, _⟩ => ⟨S4096x8, .f32⟩
  | .hbm, ⟨70, _⟩ => ⟨S_, .f32⟩
  | .hbm, ⟨71, _⟩ => ⟨S4096x8, .f32⟩
  | .hbm, ⟨72, _⟩ => ⟨S4096x8, .f32⟩
  | .hbm, ⟨73, _⟩ => ⟨S4096x8, .f32⟩
  | .hbm, ⟨74, _⟩ => ⟨S64, .i32⟩
  | .hbm, ⟨75, _⟩ => ⟨S64x1, .i32⟩
  | .hbm, ⟨76, _⟩ => ⟨S64, .i32⟩
  | .hbm, ⟨77, _⟩ => ⟨S1x64, .i32⟩
  | .hbm, ⟨78, _⟩ => ⟨S64x64, .i32⟩
  | .hbm, ⟨79, _⟩ => ⟨S64x64, .i32⟩
  | .hbm, ⟨80, _⟩ => ⟨S64x64, .i1⟩
  | .hbm, ⟨81, _⟩ => ⟨S64x64x8, .f32⟩
  | .hbm, ⟨82, _⟩ => ⟨S64x64, .f32⟩
  | .hbm, ⟨83, _⟩ => ⟨S64x8x64, .f32⟩
  | .hbm, ⟨84, _⟩ => ⟨S64x64x8, .f32⟩
  | .hbm, ⟨85, _⟩ => ⟨S4096x8, .f32⟩
  | .hbm, ⟨86, _⟩ => ⟨S64x64x8, .f32⟩
  | .hbm, ⟨87, _⟩ => ⟨S64x8x64, .f32⟩
  | .hbm, ⟨88, _⟩ => ⟨S64x8x64, .f32⟩
  | .hbm, ⟨89, _⟩ => ⟨S64x64x8, .f32⟩
  | .hbm, ⟨90, _⟩ => ⟨S4096x8, .f32⟩
  | .hbm, ⟨91, _⟩ => ⟨S4096x8, .f32⟩
  | .hbm, ⟨92, _⟩ => ⟨S4096x8, .f32⟩
  | .hbm, ⟨93, _⟩ => ⟨S4096x8, .f32⟩
  | .hbm, ⟨94, _⟩ => ⟨S_, .f32⟩
  | .hbm, ⟨95, _⟩ => ⟨S8, .f32⟩
  | .hbm, ⟨96, _⟩ => ⟨S1x8, .f32⟩
  | .hbm, ⟨97, _⟩ => ⟨S_, .f32⟩
  | .hbm, ⟨98, _⟩ => ⟨S8, .f32⟩
  | .hbm, ⟨99, _⟩ => ⟨S4096x8, .f32⟩
  | .hbm, ⟨100, _⟩ => ⟨S4096x8, .f32⟩
  | .hbm, ⟨101, _⟩ => ⟨S4096x8, .f32⟩
  | .hbm, ⟨102, _⟩ => ⟨S4096x16, .f32⟩
  | .hbm, ⟨103, _⟩ => ⟨S4096x16, .bf16⟩
  | .hbm, ⟨104, _⟩ => ⟨S_, .i32⟩
  | .hbm, ⟨105, _⟩ => ⟨S_, .bf16⟩
  | .hbm, ⟨106, _⟩ => ⟨S4096x128, .bf16⟩
  | .hbm, ⟨107, _⟩ => ⟨S_, .f32⟩
  | .hbm, ⟨108, _⟩ => ⟨S8, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v20_0 : Ref sig .tc := ⟨.hbm, 40, rfl⟩
abbrev main_call0_cst_0 : Ref sig .tc := ⟨.hbm, 41, rfl⟩
abbrev main_call0_v13 : Ref sig .tc := ⟨.hbm, 42, rfl⟩
abbrev main_call0_v14 : Ref sig .tc := ⟨.hbm, 43, rfl⟩
abbrev main_call0_cst_1 : Ref sig .tc := ⟨.hbm, 44, rfl⟩
abbrev main_call0_v15 : Ref sig .tc := ⟨.hbm, 45, rfl⟩
abbrev main_call0_v16 : Ref sig .tc := ⟨.hbm, 46, rfl⟩
abbrev main_call0_cst_2 : Ref sig .tc := ⟨.hbm, 47, rfl⟩
abbrev main_call0_v17 : Ref sig .tc := ⟨.hbm, 48, rfl⟩
abbrev main_call0_v18 : Ref sig .tc := ⟨.hbm, 49, rfl⟩
abbrev main_call0_cst_3 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_v20_1 : Ref sig .tc := ⟨.hbm, 54, rfl⟩
abbrev main_call0_cst_4 : Ref sig .tc := ⟨.hbm, 55, rfl⟩
abbrev main_call0_cst_5 : Ref sig .tc := ⟨.hbm, 56, rfl⟩
abbrev main_call0_v23 : Ref sig .tc := ⟨.hbm, 57, rfl⟩
abbrev main_call0_cst_6 : Ref sig .tc := ⟨.hbm, 58, rfl⟩
abbrev main_call0_cst_7 : Ref sig .tc := ⟨.hbm, 59, rfl⟩
abbrev main_call0_v24 : Ref sig .tc := ⟨.hbm, 60, rfl⟩
abbrev main_call0_cst_8 : Ref sig .tc := ⟨.hbm, 61, rfl⟩
abbrev main_call0_v25 : Ref sig .tc := ⟨.hbm, 62, rfl⟩
abbrev main_call0_v26 : Ref sig .tc := ⟨.hbm, 63, rfl⟩
abbrev main_call0_cst_9 : Ref sig .tc := ⟨.hbm, 64, rfl⟩
abbrev main_call0_v27 : Ref sig .tc := ⟨.hbm, 65, rfl⟩
abbrev main_call0_v28 : Ref sig .tc := ⟨.hbm, 66, rfl⟩
abbrev main_call0_v29 : Ref sig .tc := ⟨.hbm, 67, rfl⟩
abbrev main_call0_v30 : Ref sig .tc := ⟨.hbm, 68, rfl⟩
abbrev main_call0_v31 : Ref sig .tc := ⟨.hbm, 69, rfl⟩
abbrev main_call0_cst_10 : Ref sig .tc := ⟨.hbm, 70, rfl⟩
abbrev main_call0_v32 : Ref sig .tc := ⟨.hbm, 71, rfl⟩
abbrev main_v20_2 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_2 : Ref sig .tc := ⟨.hbm, 94, rfl⟩
abbrev main_v42 : Ref sig .tc := ⟨.hbm, 95, rfl⟩
abbrev main_v43 : Ref sig .tc := ⟨.hbm, 96, rfl⟩
abbrev main_cst_3 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c : Ref sig .tc := ⟨.hbm, 104, rfl⟩
abbrev main_call2_v0 : Ref sig .tc := ⟨.hbm, 105, rfl⟩
abbrev main_v50 : Ref sig .tc := ⟨.hbm, 106, rfl⟩
abbrev main_cst_4 : Ref sig .tc := ⟨.hbm, 107, rfl⟩
abbrev main_v51 : Ref sig .tc := ⟨.hbm, 108, rfl⟩

abbrev nD : Nat := 1
abbrev τ : Topo := Topo.v7x

variable {F : FTy → Type} [FloatOps F]
-- ==== Proof.DH1.lean ====
module
public import proofs.«01_k».proof.Proof.Gen.KernelIdeal.Frame
public import proofs.«01_k».proof.Proof.Gen.ReferenceIdeal
public import Idealize.ShloMosaic.Lib.Pipeline.ValueKit

/-! The gradient of the attention layer's input projection with respect to its input: nine pieces and the gate against the weight's column blocks, summed along the grid. -/

set_option maxRecDepth 16384

@[expose] public section

noncomputable section

open Idealize.ShloMosaic Idealize.ShloMosaic.TcCoe Idealize.SL.Sem
open Idealize.ShloMosaic.Pipeline (Dat)
open scoped BigOperators

namespace Cert.KernelIdeal.DH1

open Cert.KernelIdeal Cert.KernelIdeal.Gen

variable (m : (ℓ : Loc nD τ sig) → Buf (Elt Ideal) ℓ)

/-- the pieces' gradient in the order of the weight's columns, the gate's last -/
def natural (aQ : FVec Ideal Cert.ReferenceIdeal.S9x4096x1024 .f32) (aZ : FVec Ideal Cert.ReferenceIdeal.S4096x1024 .f32) :
    FVec Ideal Cert.ReferenceIdeal.S4096x10240 .f32 :=
  concatenate Cert.ReferenceIdeal.S4096x10240 1
      [⟨Cert.ReferenceIdeal.S4096x9216, shapeCast _ (transpose Cert.ReferenceIdeal.S4096x3x3x1024 [2, 1, 0, 3]
          (shapeCast _ aQ Cert.ReferenceIdeal.Gen.shapeCasts_S9x4096x1024_S3x3x4096x1024)
          Cert.ReferenceIdeal.Gen.transposes_S3x3x4096x1024_S4096x3x3x1024_2_1_0_3)
          Cert.ReferenceIdeal.Gen.shapeCasts_S4096x3x3x1024_S4096x9216⟩, ⟨Cert.ReferenceIdeal.S4096x1024, aZ⟩]
      Cert.ReferenceIdeal.Gen.concatenates_S4096x9216_S4096x1024_S4096x10240_d1

theorem natural_piece (aQ : FVec Ideal Cert.ReferenceIdeal.S9x4096x1024 .f32) (aZ : FVec Ideal Cert.ReferenceIdeal.S4096x1024 .f32)
    (k : Fin 4096) (col : Fin 10240) (p : Fin 9) (r : Fin 1024) (h : col.val = (p.val % 3 * 3 + p.val / 3) * 1024 + r.val) :
    natural aQ aZ (ix2 k col) = aQ (ix3 p k r) := by
  have hp := p.isLt
  have hr := r.isLt
  have hlt : col.val < 9216 := by omega
  have h1 : col.val / 1024 = p.val % 3 * 3 + p.val / 3 := by omega
  have h2 : col.val / 3072 = p.val % 3 := by omega
  have h3 : col.val / 1024 % 3 = p.val / 3 := by omega
  pointwise [natural]
  blk_point [hlt]
  all_goals omega

theorem natural_gate (aQ : FVec Ideal Cert.ReferenceIdeal.S9x4096x1024 .f32) (aZ : FVec Ideal Cert.ReferenceIdeal.S4096x1024 .f32)
    (k : Fin 4096) (col : Fin 10240) (r : Fin 1024) (h : col.val = 9216 + r.val) :
    natural aQ aZ (ix2 k col) = aZ (ix2 k r) := by
  have hr := r.isLt
  have hlt : ¬ col.val < 9216 := by omega
  pointwise [natural]
  blk_point [hlt]
  all_goals omega

/-- the reference's result as one term over its arguments -/
abbrev REF (a0 : FVec Ideal Cert.ReferenceIdeal.S9x4096x1024 .f32) (a1 : FVec Ideal Cert.ReferenceIdeal.S4096x1024 .f32) (a2 : FVec Ideal Cert.ReferenceIdeal.S1024x10240 .f32) :
    FVec Ideal Cert.ReferenceIdeal.S4096x1024 .f32 :=
  Host.dotGeneral Cert.ReferenceIdeal.dot_S4096x10240_S1024x10240_S4096x1024_1_1_0_0_n_n none (natural a0 a1) a2

/-- the block of natural columns that a piece holds -/
def ord (p : Fin 10) : Fin 10 := if h : p.val < 9 then ⟨p.val % 3 * 3 + p.val / 3, by omega⟩ else p

/-- the order of the pieces is a permutation of the column blocks -/
def ordPerm : Equiv.Perm (Fin 10) := ⟨ord, ord, by decide, by decide⟩

theorem ord_val (p : Fin 10) (h : p.val < 9) : (ord p).val = p.val % 3 * 3 + p.val / 3 := by
  unfold ord; rw [dif_pos h]

theorem ord_gate (p : Fin 10) (h : p.val = 9) : (ord p).val = 9 := by
  unfold ord; rw [dif_neg (by omega)]; exact h

section
variable (a0 : FVec Ideal Cert.ReferenceIdeal.S9x4096x1024 .f32) (a1 : FVec Ideal Cert.ReferenceIdeal.S4096x1024 .f32) (a2 : FVec Ideal Cert.ReferenceIdeal.S1024x10240 .f32)

/-- the product of row `i` of the gradients and row `j` of the weight over the columns of block `s` -/
def blockSum (s : Fin 10) (i : Fin 4096) (j : Fin 1024) : EReal :=
  ∑ k : Fin 1024, natural a0 a1 (ix2 i (⟨s.val * 1024 + k.val, by omega⟩ : Fin 10240))
    * a2 (ix2 j (⟨s.val * 1024 + k.val, by omega⟩ : Fin 10240))

theorem REF_blocks (i : Fin 4096) (j : Fin 1024) :
    REF a0 a1 a2 (ix2 i j) = ∑ s : Fin 10, blockSum a0 a1 a2 (ord s) i j := by
  have h : REF a0 a1 a2 (ix2 i j) = ∑ l : Fin 10240, natural a0 a1 (ix2 i l) * a2 (ix2 j l) := by
    pointwise [REF]
  rw [h]
  refine Eq.trans ?_ (Equiv.sum_comp ordPerm fun s => blockSum a0 a1 a2 s i j).symm
  unfold blockSum
  exact (Fin.sum_mul_add_congr fun s k hl => rfl).symm

theorem blockSum_piece (p : Fin 10) (h : p.val < 9) (i : Fin 4096) (j : Fin 1024) :
    blockSum a0 a1 a2 (ord p) i j = ∑ k : Fin 1024, a0 (ix3 (⟨p.val, h⟩ : Fin 9) i k)
      * a2 (ix2 j (⟨(p.val % 3 * 3 + p.val / 3) * 1024 + k.val, by omega⟩ : Fin 10240)) := by
  have e := ord_val p h
  refine Finset.sum_congr rfl fun k _ => ?_
  rw [natural_piece a0 a1 i _ (⟨p.val, h⟩ : Fin 9) k (by dsimp only; omega)]
  simp only [e]

theorem blockSum_gate (p : Fin 10) (h : p.val = 9) (i : Fin 4096) (j : Fin 1024) :
    blockSum a0 a1 a2 (ord p) i j = ∑ k : Fin 1024, a1 (ix2 i k)
      * a2 (ix2 j (⟨9 * 1024 + k.val, by omega⟩ : Fin 10240)) := by
  have e := ord_gate p h
  refine Finset.sum_congr rfl fun k _ => ?_
  rw [natural_gate a0 a1 i _ k (by dsimp only; omega)]
  simp only [e]

end

/-- the block every window shows at a point of the grid -/
theorem idx : ∀ t : Fin cfg0.N, win0_1.index t = ![t.val / 10, 0]
    ∧ win0_3.index t = ![t.val / 10, 0] :=
  (by decide +kernel : ∀ t : Fin grid0.N, _)

theorem idx_piece : ∀ t : Fin cfg0.N, t.val % 10 ≤ 8 → win0_0.index t = ![t.val % 10, t.val / 10, 0]
    ∧ win0_2.index t = ![0, t.val % 10 % 3 * 3 + t.val % 10 / 3] :=
  (by decide +kernel : ∀ t : Fin grid0.N, _)

theorem idx_gate : ∀ t : Fin cfg0.N, t.val % 10 = 9 → win0_2.index t = ![0, 9] :=
  (by decide +kernel : ∀ t : Fin grid0.N, _)

/-- what a point adds to its block -/
def part (c : Dev nD) (t : Fin cfg0.N) (y : S2048x1024.Idx) : EReal :=
  blockSum (m ((c : Thread nD τ).loc main_arg0)) (m ((c : Thread nD τ).loc main_arg1)) (m ((c : Thread nD τ).loc main_arg2)) (ord (⟨t.val % 10, by omega⟩ : Fin 10))
    (⟨t.val / 10 * 2048 + (y 0).val, by have ht : t.val < 20 := t.isLt; have h0 : (y 0).val < 2048 := (y 0).isLt; omega⟩ : Fin 4096)
    (⟨(y 1).val, (y 1).isLt⟩ : Fin 1024)

theorem part_piece (c : Dev nD) (t : Fin cfg0.N) (h : t.val % 10 ≤ 8) (y) :
    k0_pay1 (iblk m c 0 t) (iblk m c 2 t) y = part m c t y := by
  have hy0 : (y 0).val < 2048 := (y 0).isLt
  have hy1 : (y 1).val < 1024 := (y 1).isLt
  have ht : t.val < 20 := t.isLt
  refine Eq.trans ?_ (blockSum_piece _ _ _ _ (by dsimp only; omega) _ _).symm
  pointwise [k0_pay1]
  blk_point [iblk, V, idx t, idx_piece t h]

theorem part_gate (c : Dev nD) (t : Fin cfg0.N) (h : t.val % 10 = 9) (y) :
    k0_pay3 (iblk m c 1 t) (iblk m c 2 t) y = part m c t y := by
  have hy0 : (y 0).val < 2048 := (y 0).isLt
  have hy1 : (y 1).val < 1024 := (y 1).isLt
  have ht : t.val < 20 := t.isLt
  refine Eq.trans ?_ (blockSum_gate _ _ _ _ (by dsimp only; omega) _ _).symm
  pointwise [k0_pay3]
  blk_point [iblk, V, idx t, idx_gate t h]

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 10 (fun _ => 0) (part m c)
    (fun t h i => by
      rw [outsAt0_A m c t (by omega) h (by omega) (by omega)]; frame_out
      rw [part_piece m c t (by omega), zero_add])
    (fun t h i => by
      by_cases h' : t.val % 10 ≤ 8
      · rw [outsAt0_B m c t h' h (by omega) (by omega)]; frame_out
        rw [← part_piece m c t h']; pointwise [k0_pay2]
      · rw [outsAt0_C m c t h' (by omega) h (by omega)]; frame_out
        rw [← part_gate m c t (by omega)]; pointwise [k0_pay4])
    t ((flush0_3 t).mp hf) _, zero_add]
  have ht : t.val < 20 := t.isLt
  have hy0 : (y 0).val < 2048 := (y 0).isLt
  have hy1 : (y 1).val < 1024 := (y 1).isLt
  have hemb : ((cfg0.win 3).blk t).view.emb y
      = ix2 (⟨t.val / 10 * 2048 + (y 0).val, by omega⟩ : Fin 4096) (⟨(y 1).val, hy1⟩ : Fin 1024) := by
    blk_ext [idx t]
  refine Eq.trans ?_ (congrArg _ hemb.symm)
  refine Eq.trans ?_ (REF_blocks _ _ _ _ _).symm
  change @Eq EReal _ _
  refine Finset.sum_congr rfl fun s _ => ?_
  have h1 : (10 * (t.val / 10) + s.val) % 10 = s.val := by omega
  have h2 : (10 * (t.val / 10) + s.val) / 10 = t.val / 10 := by omega
  simp only [part, h1, h2]

end Cert.KernelIdeal.DH1

end
-- ==== Proof.DWBIn.lean ====
module
public import proofs.«01_k».proof.Proof.Gen.Kernel2Ideal.Frame
public import proofs.«01_k».proof.Proof.Gen.Reference2Ideal
public import Idealize.ShloMosaic.Lib.Pipeline.ValueKit

/-! The gradient of the second layer's input projection with respect to its weight: every unit of natural columns is taken from the piece that holds it. -/

set_option maxRecDepth 16384

@[expose] public section

noncomputable section

open Idealize.ShloMosaic Idealize.ShloMosaic.TcCoe Idealize.SL.Sem
open Idealize.ShloMosaic.Pipeline (Dat)
open scoped BigOperators

namespace Cert.Kernel2Ideal.DWBIn

open Cert.Kernel2Ideal Cert.Kernel2Ideal.Gen

variable (m : (ℓ : Loc nD τ sig) → Buf (Elt Ideal) ℓ)

/-- the pieces' gradient in the order of the weight's columns, the gate's last -/
def natural (aQ : FVec Ideal Cert.Reference2Ideal.S9x4096x1024 .f32) (aZ : FVec Ideal Cert.Reference2Ideal.S4096x1024 .f32) :
    FVec Ideal Cert.Reference2Ideal.S4096x10240 .f32 :=
  concatenate Cert.Reference2Ideal.S4096x10240 1
      [⟨Cert.Reference2Ideal.S4096x9216, shapeCast _ (transpose Cert.Reference2Ideal.S4096x3x3x1024 [2, 1, 0, 3]
          (shapeCast _ aQ Cert.Reference2Ideal.Gen.shapeCasts_S9x4096x1024_S3x3x4096x1024)
          Cert.Reference2Ideal.Gen.transposes_S3x3x4096x1024_S4096x3x3x1024_2_1_0_3)
          Cert.Reference2Ideal.Gen.shapeCasts_S4096x3x3x1024_S4096x9216⟩, ⟨Cert.Reference2Ideal.S4096x1024, aZ⟩]
      Cert.Reference2Ideal.Gen.concatenates_S4096x9216_S4096x1024_S4096x10240_d1

theorem natural_piece (aQ : FVec Ideal Cert.Reference2Ideal.S9x4096x1024 .f32) (aZ : FVec Ideal Cert.Reference2Ideal.S4096x1024 .f32)
    (k : Fin 4096) (col : Fin 10240) (p : Fin 9) (r : Fin 1024) (h : col.val = (p.val % 3 * 3 + p.val / 3) * 1024 + r.val) :
    natural aQ aZ (ix2 k col) = aQ (ix3 p k r) := by
  have hp := p.isLt
  have hr := r.isLt
  have hlt : col.val < 9216 := by omega
  have h1 : col.val / 1024 = p.val % 3 * 3 + p.val / 3 := by omega
  have h2 : col.val / 3072 = p.val % 3 := by omega
  have h3 : col.val / 1024 % 3 = p.val / 3 := by omega
  pointwise [natural]
  blk_point [hlt]
  all_goals omega

theorem natural_gate (aQ : FVec Ideal Cert.Reference2Ideal.S9x4096x1024 .f32) (aZ : FVec Ideal Cert.Reference2Ideal.S4096x1024 .f32)
    (k : Fin 4096) (col : Fin 10240) (r : Fin 1024) (h : col.val = 9216 + r.val) :
    natural aQ aZ (ix2 k col) = aZ (ix2 k r) := by
  have hr := r.isLt
  have hlt : ¬ col.val < 9216 := by omega
  pointwise [natural]
  blk_point [hlt]
  all_goals omega

/-- the reference's result as one term over its arguments -/
abbrev REF (a0 : FVec Ideal Cert.Reference2Ideal.S4096x1024 .f32) (a1 : FVec Ideal Cert.Reference2Ideal.S9x4096x1024 .f32) (a2 : FVec Ideal Cert.Reference2Ideal.S4096x1024 .f32) :
    FVec Ideal Cert.Reference2Ideal.S8x1024x1280 .bf16 :=
  truncf .bf16 (transpose Cert.Reference2Ideal.S8x1024x1280 [1, 0, 2] (shapeCast _ (transpose Cert.Reference2Ideal.S1024x10240 [1, 0]
    (Host.dotGeneral Cert.Reference2Ideal.dot_S4096x10240_S4096x1024_S10240x1024_0_0_1_1_n_n none (natural a1 a2) a0)
    Cert.Reference2Ideal.Gen.transposes_S10240x1024_S1024x10240_1_0) Cert.Reference2Ideal.Gen.shapeCasts_S1024x10240_S1024x8x1280)
    Cert.Reference2Ideal.Gen.transposes_S1024x8x1280_S8x1024x1280_1_0_2) Cert.Reference2Ideal.Gen.bitsLt_bf16_f32

theorem REF_apply (a0 : FVec Ideal Cert.Reference2Ideal.S4096x1024 .f32) (a1 : FVec Ideal Cert.Reference2Ideal.S9x4096x1024 .f32)
    (a2 : FVec Ideal Cert.Reference2Ideal.S4096x1024 .f32) (s : Fin 8) (i : Fin 1024) (u : Fin 1280) :
    REF a0 a1 a2 (ix3 s i u) = ∑ k : Fin 4096, natural a1 a2 (ix2 k ⟨s.val * 1280 + u.val, by omega⟩) * a0 (ix2 k i) := by
  pointwise [REF]

theorem REF_piece (a0 : FVec Ideal Cert.Reference2Ideal.S4096x1024 .f32) (a1 : FVec Ideal Cert.Reference2Ideal.S9x4096x1024 .f32)
    (a2 : FVec Ideal Cert.Reference2Ideal.S4096x1024 .f32) (s : Fin 8) (i : Fin 1024) (u : Fin 1280) (p : Fin 9) (r : Fin 1024)
    (h : s.val * 1280 + u.val = (p.val % 3 * 3 + p.val / 3) * 1024 + r.val) :
    REF a0 a1 a2 (ix3 s i u) = ∑ k : Fin 4096, a0 (ix2 k i) * a1 (ix3 p k r) :=
  (REF_apply a0 a1 a2 s i u).trans (Finset.sum_congr rfl fun k _ => by rw [natural_piece a1 a2 k _ p r h, mul_comm])

theorem REF_gate (a0 : FVec Ideal Cert.Reference2Ideal.S4096x1024 .f32) (a1 : FVec Ideal Cert.Reference2Ideal.S9x4096x1024 .f32)
    (a2 : FVec Ideal Cert.Reference2Ideal.S4096x1024 .f32) (s : Fin 8) (i : Fin 1024) (u : Fin 1280) (r : Fin 1024)
    (h : s.val * 1280 + u.val = 9216 + r.val) :
    REF a0 a1 a2 (ix3 s i u) = ∑ k : Fin 4096, a0 (ix2 k i) * a2 (ix2 k r) :=
  (REF_apply a0 a1 a2 s i u).trans (Finset.sum_congr rfl fun k _ => by rw [natural_gate a1 a2 k _ r h, mul_comm])

/-- the block every window shows at a point of the grid: of the nine pieces the one that holds the natural columns -/
theorem idx : ∀ t : Fin cfg0.N, win0_0.index t = ![0, 0]
    ∧ win0_3.index t = ![t.val / 5, 0, t.val % 5] :=
  (by decide +kernel : ∀ t : Fin grid0.N, _)

theorem idx_1 : ∀ t : Fin cfg0.N, t.val < 36 → win0_1.index t = ![t.val / 4 % 3 * 3 + t.val / 4 / 3, 0, t.val % 4] :=
  (by decide +kernel : ∀ t : Fin grid0.N, _)

theorem idx_2 : ∀ t : Fin cfg0.N, 36 ≤ t.val → win0_2.index t = ![0, t.val % 4] :=
  (by decide +kernel : ∀ t : Fin grid0.N, _)

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  have ht : t.val < 40 := t.isLt
  have hy1 : (y 1).val < 1024 := (y 1).isLt
  have hy2 : (y 2).val < 256 := (y 2).isLt
  have hemb : ((cfg0.win 3).blk t).view.emb y
      = ix3 (⟨t.val / 5, by omega⟩ : Fin 8) (⟨(y 1).val, hy1⟩ : Fin 1024) (⟨t.val % 5 * 256 + (y 2).val, by omega⟩ : Fin 1280) := by
    blk_ext [idx t]
  refine Eq.trans ?_ (congrArg _ hemb.symm)
  by_cases h : t.val < 36
  · rw [outsAt0_A m c t h (by omega)]; frame_out
    refine Eq.trans ?_ (REF_piece _ _ _ _ _ _ (⟨t.val / 4 % 3 * 3 + t.val / 4 / 3, by omega⟩ : Fin 9)
      (⟨t.val % 4 * 256 + (y 2).val, by omega⟩ : Fin 1024) (by dsimp only; omega)).symm
    pointwise [k0_pay1]
    blk_point [iblk, V, idx t, idx_1 t h]
  · rw [outsAt0_B m c t h (by omega)]; frame_out
    refine Eq.trans ?_ (REF_gate _ _ _ _ _ _ (⟨t.val % 4 * 256 + (y 2).val, by omega⟩ : Fin 1024) (by dsimp only; omega)).symm
    pointwise [k0_pay2]
    blk_point [iblk, V, idx t, idx_2 t (by omega)]

end Cert.Kernel2Ideal.DWBIn

end
-- ==== Proof.DH0.lean ====
module
public import proofs.«01_k».proof.Proof.Gen.Kernel3Ideal.Frame
public import proofs.«01_k».proof.Proof.Gen.Reference3Ideal
public import Idealize.ShloMosaic.Lib.Pipeline.ValueKit

/-! The gradient of the recurrent layer's input projection with respect to its input: four gradients against the weight's column blocks, summed along the grid. -/

set_option maxRecDepth 16384

@[expose] public section

noncomputable section

open Idealize.ShloMosaic Idealize.ShloMosaic.TcCoe Idealize.SL.Sem
open Idealize.ShloMosaic.Pipeline (Dat)
open scoped BigOperators

namespace Cert.Kernel3Ideal.DH0

open Cert.Kernel3Ideal Cert.Kernel3Ideal.Gen

variable (m : (ℓ : Loc nD τ sig) → Buf (Elt Ideal) ℓ)

/-- the four gradients side by side, in the order of the weight's columns -/
def joined (aQ : FVec Ideal Cert.Reference3Ideal.S4096x1024 .f32) (aK : FVec Ideal Cert.Reference3Ideal.S4096x1024 .f32) (aV : FVec Ideal Cert.Reference3Ideal.S4096x2048 .f32) (aZ : FVec Ideal Cert.Reference3Ideal.S4096x2048 .f32) :
    FVec Ideal Cert.Reference3Ideal.S4096x6144 .f32 :=
  concatenate Cert.Reference3Ideal.S4096x6144 1 [⟨Cert.Reference3Ideal.S4096x1024, aQ⟩, ⟨Cert.Reference3Ideal.S4096x1024, aK⟩, ⟨Cert.Reference3Ideal.S4096x2048, aV⟩, ⟨Cert.Reference3Ideal.S4096x2048, aZ⟩]
    Cert.Reference3Ideal.Gen.concatenates_S4096x1024_S4096x1024_S4096x2048_S4096x2048_S4096x6144_d1

section
variable (aQ : FVec Ideal Cert.Reference3Ideal.S4096x1024 .f32) (aK : FVec Ideal Cert.Reference3Ideal.S4096x1024 .f32) (aV : FVec Ideal Cert.Reference3Ideal.S4096x2048 .f32) (aZ : FVec Ideal Cert.Reference3Ideal.S4096x2048 .f32)

theorem joined_q (k : Fin 4096) (col : Fin 6144) (r : Fin 1024) (h : col.val = 0 + r.val) :
    joined aQ aK aV aZ (ix2 k col) = aQ (ix2 k r) := by
  have hr := r.isLt
  pointwise [joined]
  blk_point
  all_goals omega

theorem joined_k (k : Fin 4096) (col : Fin 6144) (r : Fin 1024) (h : col.val = 1024 + r.val) :
    joined aQ aK aV aZ (ix2 k col) = aK (ix2 k r) := by
  have hr := r.isLt
  pointwise [joined]
  blk_point
  all_goals omega

theorem joined_v (k : Fin 4096) (col : Fin 6144) (r : Fin 2048) (h : col.val = 2048 + r.val) :
    joined aQ aK aV aZ (ix2 k col) = aV (ix2 k r) := by
  have hr := r.isLt
  pointwise [joined]
  blk_point
  all_goals omega

theorem joined_z (k : Fin 4096) (col : Fin 6144) (r : Fin 2048) (h : col.val = 4096 + r.val) :
    joined aQ aK aV aZ (ix2 k col) = aZ (ix2 k r) := by
  have hr := r.isLt
  pointwise [joined]
  blk_point
  all_goals omega

end

/-- the reference's result as one term over its arguments -/
abbrev REF (a0 : FVec Ideal Cert.Reference3Ideal.S4096x1024 .f32) (a1 : FVec Ideal Cert.Reference3Ideal.S4096x1024 .f32) (a2 : FVec Ideal Cert.Reference3Ideal.S4096x2048 .f32) (a3 : FVec Ideal Cert.Reference3Ideal.S4096x2048 .f32) (a4 : FVec Ideal Cert.Reference3Ideal.S1024x6272 .f32) :
    FVec Ideal Cert.Reference3Ideal.S4096x1024 .f32 :=
  Host.dotGeneral Cert.Reference3Ideal.dot_S4096x6144_S1024x6144_S4096x1024_1_1_0_0_n_n none (joined a0 a1 a2 a3)
    (extractStridedSlice Cert.Reference3Ideal.S1024x6144 ![0, 0] a4 Cert.Reference3Ideal.Gen.slices_S1024x6272_S1024x6144_0_0)

section
variable (a0 : FVec Ideal Cert.Reference3Ideal.S4096x1024 .f32) (a1 : FVec Ideal Cert.Reference3Ideal.S4096x1024 .f32) (a2 : FVec Ideal Cert.Reference3Ideal.S4096x2048 .f32) (a3 : FVec Ideal Cert.Reference3Ideal.S4096x2048 .f32) (a4 : FVec Ideal Cert.Reference3Ideal.S1024x6272 .f32)

/-- the product of row `i` of the gradients and row `j` of the weight over the columns of block `s` -/
def blockSum (s : ℕ) (hs : s < 6) (i : Fin 4096) (j : Fin 1024) : EReal :=
  ∑ k : Fin 1024, joined a0 a1 a2 a3 (ix2 i (⟨s * 1024 + k.val, by omega⟩ : Fin 6144))
    * a4 (ix2 j (⟨s * 1024 + k.val, by omega⟩ : Fin 6272))

theorem REF_blocks (i : Fin 4096) (j : Fin 1024) :
    REF a0 a1 a2 a3 a4 (ix2 i j) = ∑ s : Fin 6, blockSum a0 a1 a2 a3 a4 s.val s.isLt i j := by
  have h : REF a0 a1 a2 a3 a4 (ix2 i j) = ∑ l : Fin 6144, joined a0 a1 a2 a3 (ix2 i l) * a4 (ix2 j (⟨l.val, by omega⟩ : Fin 6272)) := by
    pointwise [REF]
  rw [h]
  unfold blockSum
  exact (Fin.sum_mul_add_congr fun s k hl => rfl).symm

theorem blockSum_q (s : ℕ) (hs : s < 6) (i : Fin 4096) (j : Fin 1024) (s' : ℕ) (h : s = 0 + s') (h' : s' * 1024 + 1024 ≤ 1024) :
    blockSum a0 a1 a2 a3 a4 s hs i j = ∑ k : Fin 1024, a0 (ix2 i (⟨s' * 1024 + k.val, by omega⟩ : Fin 1024))
      * a4 (ix2 j (⟨s * 1024 + k.val, by omega⟩ : Fin 6272)) := by
  refine Finset.sum_congr rfl fun k _ => ?_
  rw [joined_q a0 a1 a2 a3 i _ (⟨s' * 1024 + k.val, by omega⟩ : Fin 1024) (by dsimp only; omega)]

theorem blockSum_k (s : ℕ) (hs : s < 6) (i : Fin 4096) (j : Fin 1024) (s' : ℕ) (h : s = 1 + s') (h' : s' * 1024 + 1024 ≤ 1024) :
    blockSum a0 a1 a2 a3 a4 s hs i j = ∑ k : Fin 1024, a1 (ix2 i (⟨s' * 1024 + k.val, by omega⟩ : Fin 1024))
      * a4 (ix2 j (⟨s * 1024 + k.val, by omega⟩ : Fin 6272)) := by
  refine Finset.sum_congr rfl fun k _ => ?_
  rw [joined_k a0 a1 a2 a3 i _ (⟨s' * 1024 + k.val, by omega⟩ : Fin 1024) (by dsimp only; omega)]

theorem blockSum_v (s : ℕ) (hs : s < 6) (i : Fin 4096) (j : Fin 1024) (s' : ℕ) (h : s = 2 + s') (h' : s' * 1024 + 1024 ≤ 2048) :
    blockSum a0 a1 a2 a3 a4 s hs i j = ∑ k : Fin 1024, a2 (ix2 i (⟨s' * 1024 + k.val, by omega⟩ : Fin 2048))
      * a4 (ix2 j (⟨s * 1024 + k.val, by omega⟩ : Fin 6272)) := by
  refine Finset.sum_congr rfl fun k _ => ?_
  rw [joined_v a0 a1 a2 a3 i _ (⟨s' * 1024 + k.val, by omega⟩ : Fin 2048) (by dsimp only; omega)]

theorem blockSum_z (s : ℕ) (hs : s < 6) (i : Fin 4096) (j : Fin 1024) (s' : ℕ) (h : s = 4 + s') (h' : s' * 1024 + 1024 ≤ 2048) :
    blockSum a0 a1 a2 a3 a4 s hs i j = ∑ k : Fin 1024, a3 (ix2 i (⟨s' * 1024 + k.val, by omega⟩ : Fin 2048))
      * a4 (ix2 j (⟨s * 1024 + k.val, by omega⟩ : Fin 6272)) := by
  refine Finset.sum_congr rfl fun k _ => ?_
  rw [joined_z a0 a1 a2 a3 i _ (⟨s' * 1024 + k.val, by omega⟩ : Fin 2048) (by dsimp only; omega)]

end

/-- the block every window shows at a point of the grid -/
theorem idx : ∀ t : Fin cfg0.N, win0_4.index t = ![0, t.val % 6]
    ∧ win0_5.index t = ![t.val / 6, 0] :=
  (by decide +kernel : ∀ t : Fin grid0.N, _)

theorem idx_q : ∀ t : Fin cfg0.N, t.val % 6 = 0 → win0_0.index t = ![t.val / 6, t.val % 6 - 0] :=
  (by decide +kernel : ∀ t : Fin grid0.N, _)

theorem idx_k : ∀ t : Fin cfg0.N, t.val % 6 = 1 → win0_1.index t = ![t.val / 6, t.val % 6 - 1] :=
  (by decide +kernel : ∀ t : Fin grid0.N, _)

theorem idx_v : ∀ t : Fin cfg0.N, 2 ≤ t.val % 6 ∧ t.val % 6 ≤ 3 → win0_2.index t = ![t.val / 6, t.val % 6 - 2] :=
  (by decide +kernel : ∀ t : Fin grid0.N, _)

theorem idx_z : ∀ t : Fin cfg0.N, 4 ≤ t.val % 6 → win0_3.index t = ![t.val / 6, t.val % 6 - 4] :=
  (by decide +kernel : ∀ t : Fin grid0.N, _)

/-- the weight's block at a point, whole: no block the grid reaches is cut -/
theorem weight_apply (c : Dev nD) (t : Fin cfg0.N) :
    X0_4 m c t = fun z : S1024x1024.Idx => m ((c : Thread nD τ).loc main_arg4) (ix2 (⟨(z 0).val, (z 0).isLt⟩ : Fin 1024)
      (⟨t.val % 6 * 1024 + (z 1).val, by have h : (z 1).val < 1024 := (z 1).isLt; omega⟩ : Fin 6272)) := by
  funext z
  unfold X0_4 Pipeline.Window.fill
  rw [dif_pos (moved0_4 t _)]
  blk_point [iblk, V, idx t]

/-- what a point adds to its block -/
def part (c : Dev nD) (t : Fin cfg0.N) (y : S1024x1024.Idx) : EReal :=
  blockSum (m ((c : Thread nD τ).loc main_arg0)) (m ((c : Thread nD τ).loc main_arg1)) (m ((c : Thread nD τ).loc main_arg2)) (m ((c : Thread nD τ).loc main_arg3)) (m ((c : Thread nD τ).loc main_arg4))
    (t.val % 6) (by omega) (⟨t.val / 6 * 1024 + (y 0).val, by have := (y 0).isLt; have ht : t.val < 24 := t.isLt; have h0 : (y 0).val < 1024 := (y 0).isLt; omega⟩ : Fin 4096)
    (⟨(y 1).val, (y 1).isLt⟩ : Fin 1024)

theorem part_q (c : Dev nD) (t : Fin cfg0.N) (h : t.val % 6 = 0) (y) :
    k0_pay1 (iblk m c 0 t) (X0_4 m c t) y = part m c t y := by
  have hy0 : (y 0).val < 1024 := (y 0).isLt
  have hy1 : (y 1).val < 1024 := (y 1).isLt
  have ht : t.val < 24 := t.isLt
  refine Eq.trans ?_ (blockSum_q _ _ _ _ _ _ _ _ _ (t.val % 6 - 0) (by omega) (by omega)).symm
  rw [weight_apply]
  pointwise [k0_pay1]
  blk_point [iblk, V, idx t, idx_q t h]

theorem part_k (c : Dev nD) (t : Fin cfg0.N) (h : t.val % 6 = 1) (y) :
    k0_pay3 (iblk m c 1 t) (X0_4 m c t) y = part m c t y := by
  have hy0 : (y 0).val < 1024 := (y 0).isLt
  have hy1 : (y 1).val < 1024 := (y 1).isLt
  have ht : t.val < 24 := t.isLt
  refine Eq.trans ?_ (blockSum_k _ _ _ _ _ _ _ _ _ (t.val % 6 - 1) (by omega) (by omega)).symm
  rw [weight_apply]
  pointwise [k0_pay3]
  blk_point [iblk, V, idx t, idx_k t h]

theorem part_v (c : Dev nD) (t : Fin cfg0.N) (h : 2 ≤ t.val % 6 ∧ t.val % 6 ≤ 3) (y) :
    k0_pay5 (iblk m c 2 t) (X0_4 m c t) y = part m c t y := by
  have hy0 : (y 0).val < 1024 := (y 0).isLt
  have hy1 : (y 1).val < 1024 := (y 1).isLt
  have ht : t.val < 24 := t.isLt
  refine Eq.trans ?_ (blockSum_v _ _ _ _ _ _ _ _ _ (t.val % 6 - 2) (by omega) (by omega)).symm
  rw [weight_apply]
  pointwise [k0_pay5]
  blk_point [iblk, V, idx t, idx_v t h]

theorem part_z (c : Dev nD) (t : Fin cfg0.N) (h : 4 ≤ t.val % 6) (y) :
    k0_pay7 (iblk m c 3 t) (X0_4 m c t) y = part m c t y := by
  have hy0 : (y 0).val < 1024 := (y 0).isLt
  have hy1 : (y 1).val < 1024 := (y 1).isLt
  have ht : t.val < 24 := t.isLt
  refine Eq.trans ?_ (blockSum_z _ _ _ _ _ _ _ _ _ (t.val % 6 - 4) (by omega) (by omega)).symm
  rw [weight_apply]
  pointwise [k0_pay7]
  blk_point [iblk, V, idx t, idx_z t h]

theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, Pipeline.eq_sum_fin_of_reset_step_apply_of_flush (fun n h => outsAt0 m c n h) 6 (fun _ => 0) (part m c)
    (fun t h i => by
      rw [outsAt0_A m c t h h (by omega) (by omega) (by omega) (by omega)]; frame_out
      rw [part_q m c t h, zero_add])
    (fun t h i => by
      have hc : t.val % 6 = 1 ∨ (2 ≤ t.val % 6 ∧ t.val % 6 ≤ 3) ∨ 4 ≤ t.val % 6 := by omega
      rcases hc with h' | h' | h'
      · rw [outsAt0_B m c t h h' (by omega) (by omega) h (by omega)]; frame_out
        rw [← part_k m c t h']; pointwise [k0_pay4]
      · rw [outsAt0_C m c t h (by omega) h' (by omega) h (by omega)]; frame_out
        rw [← part_v m c t h']; pointwise [k0_pay6]
      · rw [outsAt0_D m c t h (by omega) (by omega) h' h (by omega)]; frame_out
        rw [← part_z m c t h']; pointwise [k0_pay8])
    t ((flush0_5 t).mp hf) _, zero_add]
  have ht : t.val < 24 := t.isLt
  have hy0 : (y 0).val < 1024 := (y 0).isLt
  have hy1 : (y 1).val < 1024 := (y 1).isLt
  have hemb : ((cfg0.win 5).blk t).view.emb y
      = ix2 (⟨t.val / 6 * 1024 + (y 0).val, by omega⟩ : Fin 4096) (⟨(y 1).val, hy1⟩ : Fin 1024) := by
    blk_ext [idx t]
  refine Eq.trans ?_ (congrArg _ hemb.symm)
  refine Eq.trans ?_ (REF_blocks _ _ _ _ _ _ _).symm
  change @Eq EReal _ _
  refine Finset.sum_congr rfl fun s _ => ?_
  have h1 : (6 * (t.val / 6) + s.val) % 6 = s.val := by omega
  have h2 : (6 * (t.val / 6) + s.val) / 6 = t.val / 6 := by omega
  simp only [part, h1, h2]

end Cert.Kernel3Ideal.DH0

end
-- ==== Proof.DWAIn.lean ====
module
public import proofs.«01_k».proof.Proof.Gen.Kernel4Ideal.Frame
public import proofs.«01_k».proof.Proof.Gen.Reference4Ideal
public import Idealize.ShloMosaic.Lib.Pipeline.ValueKit

/-! The gradient of the recurrent layer's input projection with respect to its weight, column block by column block. -/

set_option maxRecDepth 16384

@[expose] public section

noncomputable section

open Idealize.ShloMosaic Idealize.ShloMosaic.TcCoe Idealize.SL.Sem
open Idealize.ShloMosaic.Pipeline (Dat)
open scoped BigOperators

namespace Cert.Kernel4Ideal.DWAIn

open Cert.Kernel4Ideal Cert.Kernel4Ideal.Gen

variable (m : (ℓ : Loc nD τ sig) → Buf (Elt Ideal) ℓ)

/-- the four gradients side by side, in the order of the weight's columns -/
def joined (aQ : FVec Ideal Cert.Reference4Ideal.S4096x1024 .f32) (aK : FVec Ideal Cert.Reference4Ideal.S4096x1024 .f32) (aV : FVec Ideal Cert.Reference4Ideal.S4096x2048 .f32) (aZ : FVec Ideal Cert.Reference4Ideal.S4096x2048 .f32) :
    FVec Ideal Cert.Reference4Ideal.S4096x6144 .f32 :=
  concatenate Cert.Reference4Ideal.S4096x6144 1 [⟨Cert.Reference4Ideal.S4096x1024, aQ⟩, ⟨Cert.Reference4Ideal.S4096x1024, aK⟩, ⟨Cert.Reference4Ideal.S4096x2048, aV⟩, ⟨Cert.Reference4Ideal.S4096x2048, aZ⟩]
    Cert.Reference4Ideal.Gen.concatenates_S4096x1024_S4096x1024_S4096x2048_S4096x2048_S4096x6144_d1

section
variable (aQ : FVec Ideal Cert.Reference4Ideal.S4096x1024 .f32) (aK : FVec Ideal Cert.Reference4Ideal.S4096x1024 .f32) (aV : FVec Ideal Cert.Reference4Ideal.S4096x2048 .f32) (aZ : FVec Ideal Cert.Reference4Ideal.S4096x2048 .f32)

theorem joined_q (k : Fin 4096) (col : Fin 6144) (r : Fin 1024) (h : col.val = 0 + r.val) :
    joined aQ aK aV aZ (ix2 k col) = aQ (ix2 k r) := by
  have hr := r.isLt
  pointwise [joined]
  blk_point
  all_goals omega

theorem joined_k (k : Fin 4096) (col : Fin 6144) (r : Fin 1024) (h : col.val = 1024 + r.val) :
    joined aQ aK aV aZ (ix2 k col) = aK (ix2 k r) := by
  have hr := r.isLt
  pointwise [joined]
  blk_point
  all_goals omega

theorem joined_v (k : Fin 4096) (col : Fin 6144) (r : Fin 2048) (h : col.val = 2048 + r.val) :
    joined aQ aK aV aZ (ix2 k col) = aV (ix2 k r) := by
  have hr := r.isLt
  pointwise [joined]
  blk_point
  all_goals omega

theorem joined_z (k : Fin 4096) (col : Fin 6144) (r : Fin 2048) (h : col.val = 4096 + r.val) :
    joined aQ aK aV aZ (ix2 k col) = aZ (ix2 k r) := by
  have hr := r.isLt
  pointwise [joined]
  blk_point
  all_goals omega

end

/-- the reference's result as one term over its arguments -/
abbrev REF (a0 : FVec Ideal Cert.Reference4Ideal.S4096x1024 .f32) (a1 : FVec Ideal Cert.Reference4Ideal.S4096x1024 .f32) (a2 : FVec Ideal Cert.Reference4Ideal.S4096x1024 .f32) (a3 : FVec Ideal Cert.Reference4Ideal.S4096x2048 .f32) (a4 : FVec Ideal Cert.Reference4Ideal.S4096x2048 .f32) :
    FVec Ideal Cert.Reference4Ideal.S1024x6144 .bf16 :=
  truncf .bf16 (transpose Cert.Reference4Ideal.S1024x6144 [1, 0] (Host.dotGeneral Cert.Reference4Ideal.dot_S4096x6144_S4096x1024_S6144x1024_0_0_1_1_n_n none
    (joined a1 a2 a3 a4) a0) Cert.Reference4Ideal.Gen.transposes_S6144x1024_S1024x6144_1_0) Cert.Reference4Ideal.Gen.bitsLt_bf16_f32

section
variable (a0 : FVec Ideal Cert.Reference4Ideal.S4096x1024 .f32) (a1 : FVec Ideal Cert.Reference4Ideal.S4096x1024 .f32) (a2 : FVec Ideal Cert.Reference4Ideal.S4096x1024 .f32) (a3 : FVec Ideal Cert.Reference4Ideal.S4096x2048 .f32) (a4 : FVec Ideal Cert.Reference4Ideal.S4096x2048 .f32)

theorem REF_apply (i : Fin 1024) (u : Fin 6144) :
    REF a0 a1 a2 a3 a4 (ix2 i u) = ∑ k : Fin 4096, joined a1 a2 a3 a4 (ix2 k u) * a0 (ix2 k i) := by
  pointwise [REF]

theorem REF_q (i : Fin 1024) (u : Fin 6144) (r : Fin 1024) (h : u.val = 0 + r.val) :
    REF a0 a1 a2 a3 a4 (ix2 i u) = ∑ k : Fin 4096, a0 (ix2 k i) * a1 (ix2 k r) :=
  (REF_apply a0 a1 a2 a3 a4 i u).trans (Finset.sum_congr rfl fun k _ => by rw [joined_q a1 a2 a3 a4 k u r h, mul_comm])

theorem REF_k (i : Fin 1024) (u : Fin 6144) (r : Fin 1024) (h : u.val = 1024 + r.val) :
    REF a0 a1 a2 a3 a4 (ix2 i u) = ∑ k : Fin 4096, a0 (ix2 k i) * a2 (ix2 k r) :=
  (REF_apply a0 a1 a2 a3 a4 i u).trans (Finset.sum_congr rfl fun k _ => by rw [joined_k a1 a2 a3 a4 k u r h, mul_comm])

theorem REF_v (i : Fin 1024) (u : Fin 6144) (r : Fin 2048) (h : u.val = 2048 + r.val) :
    REF a0 a1 a2 a3 a4 (ix2 i u) = ∑ k : Fin 4096, a0 (ix2 k i) * a3 (ix2 k r) :=
  (REF_apply a0 a1 a2 a3 a4 i u).trans (Finset.sum_congr rfl fun k _ => by rw [joined_v a1 a2 a3 a4 k u r h, mul_comm])

theorem REF_z (i : Fin 1024) (u : Fin 6144) (r : Fin 2048) (h : u.val = 4096 + r.val) :
    REF a0 a1 a2 a3 a4 (ix2 i u) = ∑ k : Fin 4096, a0 (ix2 k i) * a4 (ix2 k r) :=
  (REF_apply a0 a1 a2 a3 a4 i u).trans (Finset.sum_congr rfl fun k _ => by rw [joined_z a1 a2 a3 a4 k u r h, mul_comm])

end

/-- the block every window shows at a point of the grid -/
theorem idx : ∀ t : Fin cfg0.N, win0_0.index t = ![0, 0]
    ∧ win0_5.index t = ![0, t.val] :=
  (by decide +kernel : ∀ t : Fin grid0.N, _)

theorem idx_q : ∀ t : Fin cfg0.N, t.val < 4 → win0_1.index t = ![0, t.val - 0] :=
  (by decide +kernel : ∀ t : Fin grid0.N, _)

theorem idx_k : ∀ t : Fin cfg0.N, 4 ≤ t.val ∧ t.val < 8 → win0_2.index t = ![0, t.val - 4] :=
  (by decide +kernel : ∀ t : Fin grid0.N, _)

theorem idx_v : ∀ t : Fin cfg0.N, 8 ≤ t.val ∧ t.val < 16 → win0_3.index t = ![0, t.val - 8] :=
  (by decide +kernel : ∀ t : Fin grid0.N, _)

theorem idx_z : ∀ t : Fin cfg0.N, 16 ≤ t.val → win0_4.index t = ![0, t.val - 16] :=
  (by decide +kernel : ∀ t : Fin grid0.N, _)

theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht : t.val < 24 := t.isLt
  have hy0 : (y 0).val < 1024 := (y 0).isLt
  have hy1 : (y 1).val < 256 := (y 1).isLt
  have hemb : ((cfg0.win 5).blk t).view.emb y
      = ix2 (⟨(y 0).val, hy0⟩ : Fin 1024) (⟨t.val * 256 + (y 1).val, by omega⟩ : Fin 6144) := by
    blk_ext [idx t]
  refine Eq.trans ?_ (congrArg _ hemb.symm)
  have hc : t.val < 4 ∨ (4 ≤ t.val ∧ t.val < 8) ∨ (8 ≤ t.val ∧ t.val < 16) ∨ 16 ≤ t.val := by omega
  rcases hc with h | h | h | h
  · rw [outsAt0_A m c t (by omega) (by omega) (by omega) (by omega)]; frame_out
    refine Eq.trans ?_ (REF_q _ _ _ _ _ _ _ (⟨(t.val - 0) * 256 + (y 1).val, by omega⟩ : Fin 1024) (by dsimp only; omega)).symm
    pointwise [k0_pay1]
    blk_point [iblk, V, idx t, idx_q t h]
  · rw [outsAt0_B m c t (by omega) (by omega) (by omega) (by omega)]; frame_out
    refine Eq.trans ?_ (REF_k _ _ _ _ _ _ _ (⟨(t.val - 4) * 256 + (y 1).val, by omega⟩ : Fin 1024) (by dsimp only; omega)).symm
    pointwise [k0_pay2]
    blk_point [iblk, V, idx t, idx_k t h]
  · rw [outsAt0_C m c t (by omega) (by omega) (by omega) (by omega)]; frame_out
    refine Eq.trans ?_ (REF_v _ _ _ _ _ _ _ (⟨(t.val - 8) * 256 + (y 1).val, by omega⟩ : Fin 2048) (by dsimp only; omega)).symm
    pointwise [k0_pay3]
    blk_point [iblk, V, idx t, idx_v t h]
  · rw [outsAt0_D m c t (by omega) (by omega) (by omega) (by omega)]; frame_out
    refine Eq.trans ?_ (REF_z _ _ _ _ _ _ _ (⟨(t.val - 16) * 256 + (y 1).val, by omega⟩ : Fin 2048) (by dsimp only; omega)).symm
    pointwise [k0_pay4]
    blk_point [iblk, V, idx t, idx_z t h]

end Cert.Kernel4Ideal.DWAIn

end
-- ==== Proof.DOgA.lean ====
module
public import proofs.«01_k».proof.Proof.Gen.Kernel5Ideal.Frame
public import proofs.«01_k».proof.Proof.Gen.Reference5Ideal
public import Idealize.ShloMosaic.Lib.Pipeline.ValueKit

/-! The gradient of the first output projection with respect to its input, `ct · wᵀ`, read off the run of the kernel. -/

set_option maxRecDepth 16384

@[expose] public section

noncomputable section

open Idealize.ShloMosaic Idealize.ShloMosaic.TcCoe Idealize.SL.Sem
open Idealize.ShloMosaic.Pipeline (Dat)
open scoped BigOperators

namespace Cert.Kernel5Ideal.DOgA

open Cert.Kernel5Ideal Cert.Kernel5Ideal.Gen

variable (m : (ℓ : Loc nD τ sig) → Buf (Elt Ideal) ℓ)

/-- the reference's result as one term over its arguments -/
abbrev REF (a0 : FVec Ideal Cert.Reference5Ideal.S4096x1024 .f32) (a1 : FVec Ideal Cert.Reference5Ideal.S2048x1024 .f32) :
    FVec Ideal Cert.Reference5Ideal.S4096x2048 .f32 :=
  Host.dotGeneral Cert.Reference5Ideal.dot_S4096x1024_S2048x1024_S4096x2048_1_1_0_0_n_n none a0 a1

/-- the block every window shows at a point of the grid -/
theorem idx : ∀ t : Fin cfg0.N, win0_0.index t = ![t.val, 0]
    ∧ win0_1.index t = ![0, 0]
    ∧ win0_2.index t = ![t.val, 0] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, REF]; blk_point [iblk, V, idx t]

end Cert.Kernel5Ideal.DOgA

end
-- ==== Proof.DWAOut.lean ====
module
public import proofs.«01_k».proof.Proof.Gen.Kernel6Ideal.Frame
public import proofs.«01_k».proof.Proof.Gen.Reference6Ideal
public import Idealize.ShloMosaic.Lib.Pipeline.ValueKit

/-! The gradient of the first output projection with respect to its weight, `hᵀ · ct` rounded to bfloat16. -/

set_option maxRecDepth 16384

@[expose] public section

noncomputable section

open Idealize.ShloMosaic Idealize.ShloMosaic.TcCoe Idealize.SL.Sem
open Idealize.ShloMosaic.Pipeline (Dat)
open scoped BigOperators

namespace Cert.Kernel6Ideal.DWAOut

open Cert.Kernel6Ideal Cert.Kernel6Ideal.Gen

variable (m : (ℓ : Loc nD τ sig) → Buf (Elt Ideal) ℓ)

/-- the reference's result as one term over its arguments -/
abbrev REF (a0 : FVec Ideal Cert.Reference6Ideal.S4096x2048 .f32) (a1 : FVec Ideal Cert.Reference6Ideal.S4096x1024 .f32) :
    FVec Ideal Cert.Reference6Ideal.S2048x1024 .bf16 :=
  truncf .bf16 (transpose Cert.Reference6Ideal.S2048x1024 [1, 0] (Host.dotGeneral Cert.Reference6Ideal.dot_S4096x1024_S4096x2048_S1024x2048_0_0_1_1_n_n none a1 a0)
    Cert.Reference6Ideal.Gen.transposes_S1024x2048_S2048x1024_1_0) Cert.Reference6Ideal.Gen.bitsLt_bf16_f32

/-- the block every window shows at a point of the grid -/
theorem idx : ∀ t : Fin cfg0.N, win0_0.index t = ![0, 0]
    ∧ win0_1.index t = ![0, t.val]
    ∧ win0_2.index t = ![0, t.val] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, REF]
  refine (Finset.sum_congr rfl fun _ _ => mul_comm (G := EReal) _ _).trans ?_
  blk_point [iblk, V, idx t]

end Cert.Kernel6Ideal.DWAOut

end
-- ==== Proof.DOgB.lean ====
module
public import proofs.«01_k».proof.Proof.Gen.Kernel7Ideal.Frame
public import proofs.«01_k».proof.Proof.Gen.Reference7Ideal
public import Idealize.ShloMosaic.Lib.Pipeline.ValueKit

/-! The gradient of the second output projection with respect to its input, `ct · wᵀ`, read off the run of the kernel. -/

set_option maxRecDepth 16384

@[expose] public section

noncomputable section

open Idealize.ShloMosaic Idealize.ShloMosaic.TcCoe Idealize.SL.Sem
open Idealize.ShloMosaic.Pipeline (Dat)
open scoped BigOperators

namespace Cert.Kernel7Ideal.DOgB

open Cert.Kernel7Ideal Cert.Kernel7Ideal.Gen

variable (m : (ℓ : Loc nD τ sig) → Buf (Elt Ideal) ℓ)

/-- the reference's result as one term over its arguments -/
abbrev REF (a0 : FVec Ideal Cert.Reference7Ideal.S4096x1024 .f32) (a1 : FVec Ideal Cert.Reference7Ideal.S1024x1024 .f32) :
    FVec Ideal Cert.Reference7Ideal.S4096x1024 .f32 :=
  Host.dotGeneral Cert.Reference7Ideal.dot_S4096x1024_S1024x1024_S4096x1024_1_1_0_0_n_n none a0 a1

/-- the block every window shows at a point of the grid -/
theorem idx : ∀ t : Fin cfg0.N, win0_0.index t = ![t.val, 0]
    ∧ win0_1.index t = ![0, 0]
    ∧ win0_2.index t = ![t.val, 0] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, REF]; blk_point [iblk, V, idx t]

end Cert.Kernel7Ideal.DOgB

end
-- ==== Proof.DWBOut.lean ====
module
public import proofs.«01_k».proof.Proof.Gen.Kernel8Ideal.Frame
public import proofs.«01_k».proof.Proof.Gen.Reference8Ideal
public import Idealize.ShloMosaic.Lib.Pipeline.ValueKit

/-! The gradient of the second output projection with respect to its weight, `hᵀ · ct` rounded to bfloat16. -/

set_option maxRecDepth 16384

@[expose] public section

noncomputable section

open Idealize.ShloMosaic Idealize.ShloMosaic.TcCoe Idealize.SL.Sem
open Idealize.ShloMosaic.Pipeline (Dat)
open scoped BigOperators

namespace Cert.Kernel8Ideal.DWBOut

open Cert.Kernel8Ideal Cert.Kernel8Ideal.Gen

variable (m : (ℓ : Loc nD τ sig) → Buf (Elt Ideal) ℓ)

/-- the reference's result as one term over its arguments -/
abbrev REF (a0 : FVec Ideal Cert.Reference8Ideal.S4096x1024 .f32) (a1 : FVec Ideal Cert.Reference8Ideal.S4096x1024 .f32) :
    FVec Ideal Cert.Reference8Ideal.S1024x1024 .bf16 :=
  truncf .bf16 (transpose Cert.Reference8Ideal.S1024x1024 [1, 0] (Host.dotGeneral Cert.Reference8Ideal.dot_S4096x1024_S4096x1024_S1024x1024_0_0_1_1_n_n none a1 a0)
    Cert.Reference8Ideal.Gen.transposes_S1024x1024_S1024x1024_1_0) Cert.Reference8Ideal.Gen.bitsLt_bf16_f32

/-- the block every window shows at a point of the grid -/
theorem idx : ∀ t : Fin cfg0.N, win0_0.index t = ![0, 0]
    ∧ win0_1.index t = ![0, t.val]
    ∧ win0_2.index t = ![0, t.val] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, REF]
  refine (Finset.sum_congr rfl fun _ _ => mul_comm (G := EReal) _ _).trans ?_
  blk_point [iblk, V, idx t]

end Cert.Kernel8Ideal.DWBOut

end
-- ==== Proof.ProjA.lean ====
module
public import proofs.«01_k».proof.Proof.Gen.Kernel9Ideal.Frame
public import proofs.«01_k».proof.Proof.Gen.Reference9Ideal
public import Idealize.ShloMosaic.Lib.Pipeline.ValueKit

/-! The input projection of the recurrent layer, `h · w`. -/

set_option maxRecDepth 16384

@[expose] public section

noncomputable section

open Idealize.ShloMosaic Idealize.ShloMosaic.TcCoe Idealize.SL.Sem
open Idealize.ShloMosaic.Pipeline (Dat)
open scoped BigOperators

namespace Cert.Kernel9Ideal.ProjA

open Cert.Kernel9Ideal Cert.Kernel9Ideal.Gen

variable (m : (ℓ : Loc nD τ sig) → Buf (Elt Ideal) ℓ)

/-- the reference's result as one term over its arguments -/
abbrev REF (a0 : FVec Ideal Cert.Reference9Ideal.S4096x1024 .f32) (a1 : FVec Ideal Cert.Reference9Ideal.S1024x6272 .f32) :
    FVec Ideal Cert.Reference9Ideal.S4096x6272 .f32 :=
  Host.dotGeneral Cert.Reference9Ideal.dot_S4096x1024_S1024x6272_S4096x6272_1_0_0_1_n_n none a0 a1

/-- the block every window shows at a point of the grid -/
theorem idx : ∀ t : Fin cfg0.N, win0_0.index t = ![0, 0]
    ∧ win0_1.index t = ![0, t.val / 4]
    ∧ win0_2.index t = ![t.val % 4, t.val / 4] :=
  (by decide +kernel : ∀ t : Fin grid0.N, _)

/-- the row at which the body reads its rows of the resident operand -/
theorem off : ∀ t : Fin cfg0.N, k0_off1 (grid0.coords t) = ![t.val % 4 * 1024, 0] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  pointwise [k0_pay1, REF]; blk_point [iblk, V, idx t, off t]

end Cert.Kernel9Ideal.ProjA

end
-- ==== Proof.ProjB.lean ====
module
public import proofs.«01_k».proof.Proof.Gen.Kernel10Ideal.Frame
public import proofs.«01_k».proof.Proof.Gen.Reference10Ideal
public import Idealize.ShloMosaic.Lib.Pipeline.ValueKit

/-! The input projection of the attention layer, `h · w`, its columns laid out as nine pieces and a gate. -/

set_option maxRecDepth 16384

@[expose] public section

noncomputable section

open Idealize.ShloMosaic Idealize.ShloMosaic.TcCoe Idealize.SL.Sem
open Idealize.ShloMosaic.Pipeline (Dat)
open scoped BigOperators

namespace Cert.Kernel10Ideal.ProjB

open Cert.Kernel10Ideal Cert.Kernel10Ideal.Gen

variable (m : (ℓ : Loc nD τ sig) → Buf (Elt Ideal) ℓ)

/-- the reference's result as one term over its arguments -/
abbrev REF (a0 : FVec Ideal Cert.Reference10Ideal.S4096x1024 .f32) (a1 : FVec Ideal Cert.Reference10Ideal.S1024x10240 .f32) :
    FVec Ideal Cert.Reference10Ideal.S10x4096x1024 .f32 :=
  concatenate Cert.Reference10Ideal.S10x4096x1024 0 [⟨Cert.Reference10Ideal.S9x4096x1024, shapeCast _ (transpose Cert.Reference10Ideal.S3x3x4096x1024 [2, 1, 0, 3]
      (shapeCast _ (extractStridedSlice Cert.Reference10Ideal.S4096x9x1024 ![0, 0, 0] (shapeCast _ (Host.dotGeneral Cert.Reference10Ideal.dot_S4096x1024_S1024x10240_S4096x10240_1_0_0_1_n_n none a0 a1)
        Cert.Reference10Ideal.Gen.shapeCasts_S4096x10240_S4096x10x1024) Cert.Reference10Ideal.Gen.slices_S4096x10x1024_S4096x9x1024_0_0_0)
        Cert.Reference10Ideal.Gen.shapeCasts_S4096x9x1024_S4096x3x3x1024)
      Cert.Reference10Ideal.Gen.transposes_S4096x3x3x1024_S3x3x4096x1024_2_1_0_3) Cert.Reference10Ideal.Gen.shapeCasts_S3x3x4096x1024_S9x4096x1024⟩,
    ⟨Cert.Reference10Ideal.S1x4096x1024, transpose Cert.Reference10Ideal.S1x4096x1024 [1, 0, 2] (extractStridedSlice Cert.Reference10Ideal.S4096x1x1024 ![0, 9, 0]
      (shapeCast _ (Host.dotGeneral Cert.Reference10Ideal.dot_S4096x1024_S1024x10240_S4096x10240_1_0_0_1_n_n none a0 a1)
        Cert.Reference10Ideal.Gen.shapeCasts_S4096x10240_S4096x10x1024) Cert.Reference10Ideal.Gen.slices_S4096x10x1024_S4096x1x1024_0_9_0)
      Cert.Reference10Ideal.Gen.transposes_S4096x1x1024_S1x4096x1024_1_0_2⟩]
    Cert.Reference10Ideal.Gen.concatenates_S9x4096x1024_S1x4096x1024_S10x4096x1024_d0

/-- the block every window shows at a point of the grid -/
theorem idx : ∀ t : Fin cfg0.N, win0_0.index t = ![0, 0]
    ∧ win0_2.index t = ![t.val / 4, t.val % 4, 0] :=
  (by decide +kernel : ∀ t : Fin grid0.N, _)

/-- the columns of the weight that make a piece -/
theorem idx_1 : ∀ t : Fin cfg0.N, t.val < 36 → win0_1.index t = ![0, t.val / 4 % 3 * 3 + t.val / 4 / 3] :=
  (by decide +kernel : ∀ t : Fin grid0.N, _)

theorem idx_1' : ∀ t : Fin cfg0.N, 36 ≤ t.val → win0_1.index t = ![0, 9] :=
  (by decide +kernel : ∀ t : Fin grid0.N, _)

/-- the row at which the body reads its rows of the resident operand -/
theorem off : ∀ t : Fin cfg0.N, k0_off1 (grid0.coords t) = ![t.val % 4 * 1024, 0] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  by_cases h : t.val < 36
  · pointwise [k0_pay1, REF]
    blk_point [iblk, V, idx t, idx_1 t h, off t]
    all_goals (exfalso; rename_i hn _ _; blk_simp [idx t] at hn; omega)
  · pointwise [k0_pay1, REF]
    blk_point [iblk, V, idx t, idx_1' t (by omega), off t]
    all_goals (exfalso; rename_i hn _ _; blk_simp [idx t] at hn; omega)

end Cert.Kernel10Ideal.ProjB

end
-- ==== Proof.AdamBIn.lean ====
module
public import proofs.«01_k».proof.Proof.Gen.Kernel11Ideal.Frame
public import proofs.«01_k».proof.Proof.Gen.Reference11Ideal
public import Idealize.ShloMosaic.Lib.Pipeline.ValueKit

/-! The update of a weight shard from the eight devices' parts of its gradient. -/

set_option maxRecDepth 16384

@[expose] public section

noncomputable section

open Idealize.ShloMosaic Idealize.ShloMosaic.TcCoe Idealize.SL.Sem
open Idealize.ShloMosaic.Pipeline (Dat)
open scoped BigOperators

namespace Cert.Kernel11Ideal.AdamBIn

open Cert.Kernel11Ideal Cert.Kernel11Ideal.Gen

variable (m : (ℓ : Loc nD τ sig) → Buf (Elt Ideal) ℓ)

/-- the sum of the eight devices' parts of the gradient -/
def G (a0 : FVec Ideal Cert.Reference11Ideal.S8x1024x1280 .f32) : FVec Ideal Cert.Reference11Ideal.S1x1024x1280 .f32 :=
  broadcastInDim Cert.Reference11Ideal.S1x1024x1280 ![1, 2] Cert.Reference11Ideal.Gen.bcast_S1024x1280_S1x1024x1280_1_2
    (Host.reduceAdd a0 (constant Cert.Reference11Ideal.S_ .f32 0x00000000#32) Cert.Reference11Ideal.Gen.reducesTo_S8x1024x1280_S1024x1280_d0 Cert.Reference11Ideal.Gen.h_S_)

/-- the running mean of the gradient -/
abbrev M (a0 : FVec Ideal Cert.Reference11Ideal.S8x1024x1280 .f32) (a2 : FVec Ideal Cert.Reference11Ideal.S1x1024x1280 .f32) : FVec Ideal Cert.Reference11Ideal.S1x1024x1280 .f32 :=
  addf (mulf (broadcastInDim Cert.Reference11Ideal.S1x1024x1280 ![] Cert.Reference11Ideal.Gen.bcast_S_S1x1024x1280 (constant Cert.Reference11Ideal.S_ .f32 0x3F666666#32)) a2) (mulf (broadcastInDim Cert.Reference11Ideal.S1x1024x1280 ![] Cert.Reference11Ideal.Gen.bcast_S_S1x1024x1280 (constant Cert.Reference11Ideal.S_ .f32 0x3DCCCCCD#32)) (G a0))

/-- the running mean of its square -/
abbrev Q (a0 : FVec Ideal Cert.Reference11Ideal.S8x1024x1280 .f32) (a3 : FVec Ideal Cert.Reference11Ideal.S1x1024x1280 .f32) : FVec Ideal Cert.Reference11Ideal.S1x1024x1280 .f32 :=
  addf (mulf (broadcastInDim Cert.Reference11Ideal.S1x1024x1280 ![] Cert.Reference11Ideal.Gen.bcast_S_S1x1024x1280 (constant Cert.Reference11Ideal.S_ .f32 0x3F7FBE77#32)) a3) (mulf (broadcastInDim Cert.Reference11Ideal.S1x1024x1280 ![] Cert.Reference11Ideal.Gen.bcast_S_S1x1024x1280 (constant Cert.Reference11Ideal.S_ .f32 0x3A83126F#32)) (mulf (G a0) (G a0)))

/-- the step of the weight -/
abbrev D (a0 : FVec Ideal Cert.Reference11Ideal.S8x1024x1280 .f32) (a1 a2 a3 : FVec Ideal Cert.Reference11Ideal.S1x1024x1280 .f32) : FVec Ideal Cert.Reference11Ideal.S1x1024x1280 .f32 :=
  mulf (broadcastInDim Cert.Reference11Ideal.S1x1024x1280 ![] Cert.Reference11Ideal.Gen.bcast_S_S1x1024x1280 (constant Cert.Reference11Ideal.S_ .f32 0xBA83126F#32)) (addf (Host.divf (Host.divf (M a0 a2) (broadcastInDim Cert.Reference11Ideal.S1x1024x1280 ![] Cert.Reference11Ideal.Gen.bcast_S_S1x1024x1280 (constant Cert.Reference11Ideal.S_ .f32 0x3F26BD02#32)))
    (addf (Host.sqrt (Host.divf (Q a0 a3) (broadcastInDim Cert.Reference11Ideal.S1x1024x1280 ![] Cert.Reference11Ideal.Gen.bcast_S_S1x1024x1280 (constant Cert.Reference11Ideal.S_ .f32 0x3C231ACC#32)))) (broadcastInDim Cert.Reference11Ideal.S1x1024x1280 ![] Cert.Reference11Ideal.Gen.bcast_S_S1x1024x1280 (constant Cert.Reference11Ideal.S_ .f32 0x322BCC77#32))))
    (mulf (broadcastInDim Cert.Reference11Ideal.S1x1024x1280 ![] Cert.Reference11Ideal.Gen.bcast_S_S1x1024x1280 (constant Cert.Reference11Ideal.S_ .f32 0x3C23D70A#32)) a1))

/-- the block every window shows at a point of the grid -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- the eight parts of a row block summed in order are the reference's sum there -/
theorem sum_block (c : Dev nD) (t : Fin cfg0.N) :
    k0_pay8 (iblk m c 0 t) (iblk m c 1 t) (iblk m c 2 t) (iblk m c 3 t) = fun z : S256x1280.Idx =>
      G (m ((c : Thread nD τ).loc main_arg0)) (ix3 (0 : Fin 1)
        (⟨t.val * 256 + (z 0).val, by have ht : t.val < 4 := t.isLt; have hz : (z 0).val < 256 := (z 0).isLt; omega⟩ : Fin 1024)
        (⟨(z 1).val, (z 1).isLt⟩ : Fin 1280)) := by
  funext z
  unfold k0_pay8
  pointwise [k0_pay3, G, Fin.sum_univ_eight]
  blk_point [iblk, V, idx t]

theorem final4 (c : Dev nD) : (dats m 0 c).arrAt 4 (cfgs 0).N = G (m ((c : Thread nD τ).loc main_arg0)) := by
  refine (dats m 0 c).arrAt_eq_of_covers 4 _ (by decide +kernel) fun t hf y => ?_
  blk_simp; rw [after0_4]; frame_out
  rw [sum_block m c t]
  pointwise [k0_pay1, k0_pay2, k0_pay4, k0_pay5, k0_pay6, k0_pay7, M, Q, D]
  blk_point [iblk, V, idx t]

theorem final5 (c : Dev nD) : (dats m 0 c).arrAt 5 (cfgs 0).N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  rw [sum_block m c t]
  pointwise [k0_pay1, k0_pay2, k0_pay4, k0_pay5, k0_pay6, k0_pay7, M, Q, D]
  blk_point [iblk, V, idx t]

theorem final6 (c : Dev nD) : (dats m 0 c).arrAt 6 (cfgs 0).N = M (m ((c : Thread nD τ).loc main_arg0)) (m ((c : Thread nD τ).loc main_arg2)) := by
  refine (dats m 0 c).arrAt_eq_of_covers 6 _ (by decide +kernel) fun t hf y => ?_
  blk_simp; rw [after0_6]; frame_out
  rw [sum_block m c t]
  pointwise [k0_pay1, k0_pay2, k0_pay4, k0_pay5, k0_pay6, k0_pay7, M, Q, D]
  blk_point [iblk, V, idx t]

theorem final7 (c : Dev nD) : (dats m 0 c).arrAt 7 (cfgs 0).N = Q (m ((c : Thread nD τ).loc main_arg0)) (m ((c : Thread nD τ).loc main_arg3)) := by
  refine (dats m 0 c).arrAt_eq_of_covers 7 _ (by decide +kernel) fun t hf y => ?_
  blk_simp; rw [after0_7]; frame_out
  rw [sum_block m c t]
  pointwise [k0_pay1, k0_pay2, k0_pay4, k0_pay5, k0_pay6, k0_pay7, M, Q, D]
  blk_point [iblk, V, idx t]

end Cert.Kernel11Ideal.AdamBIn

end
-- ==== Proof.AdamAIn.lean ====
module
public import proofs.«01_k».proof.Proof.Gen.Kernel12Ideal.Frame
public import proofs.«01_k».proof.Proof.Gen.Reference12Ideal
public import Idealize.ShloMosaic.Lib.Pipeline.ValueKit

/-! The update of the recurrent layer's input weights from the eight devices' parts of their gradient. -/

set_option maxRecDepth 16384

@[expose] public section

noncomputable section

open Idealize.ShloMosaic Idealize.ShloMosaic.TcCoe Idealize.SL.Sem
open Idealize.ShloMosaic.Pipeline (Dat)
open scoped BigOperators

namespace Cert.Kernel12Ideal.AdamAIn

open Cert.Kernel12Ideal Cert.Kernel12Ideal.Gen

variable (m : (ℓ : Loc nD τ sig) → Buf (Elt Ideal) ℓ)

/-- the sum of the eight devices' parts of the gradient -/
def G (a0 : FVec Ideal Cert.Reference12Ideal.S8x1024x770 .f32) : FVec Ideal Cert.Reference12Ideal.S1x1024x770 .f32 :=
  broadcastInDim Cert.Reference12Ideal.S1x1024x770 ![1, 2] Cert.Reference12Ideal.Gen.bcast_S1024x770_S1x1024x770_1_2
    (Host.reduceAdd a0 (constant Cert.Reference12Ideal.S_ .f32 0x00000000#32) Cert.Reference12Ideal.Gen.reducesTo_S8x1024x770_S1024x770_d0 Cert.Reference12Ideal.Gen.h_S_)

/-- the running mean of the gradient -/
abbrev M (a0 : FVec Ideal Cert.Reference12Ideal.S8x1024x770 .f32) (a2 : FVec Ideal Cert.Reference12Ideal.S1x1024x770 .f32) : FVec Ideal Cert.Reference12Ideal.S1x1024x770 .f32 :=
  addf (mulf (broadcastInDim Cert.Reference12Ideal.S1x1024x770 ![] Cert.Reference12Ideal.Gen.bcast_S_S1x1024x770 (constant Cert.Reference12Ideal.S_ .f32 0x3F666666#32)) a2) (mulf (broadcastInDim Cert.Reference12Ideal.S1x1024x770 ![] Cert.Reference12Ideal.Gen.bcast_S_S1x1024x770 (constant Cert.Reference12Ideal.S_ .f32 0x3DCCCCCD#32)) (G a0))

/-- the running mean of its square -/
abbrev Q (a0 : FVec Ideal Cert.Reference12Ideal.S8x1024x770 .f32) (a3 : FVec Ideal Cert.Reference12Ideal.S1x1024x770 .f32) : FVec Ideal Cert.Reference12Ideal.S1x1024x770 .f32 :=
  addf (mulf (broadcastInDim Cert.Reference12Ideal.S1x1024x770 ![] Cert.Reference12Ideal.Gen.bcast_S_S1x1024x770 (constant Cert.Reference12Ideal.S_ .f32 0x3F7FBE77#32)) a3) (mulf (broadcastInDim Cert.Reference12Ideal.S1x1024x770 ![] Cert.Reference12Ideal.Gen.bcast_S_S1x1024x770 (constant Cert.Reference12Ideal.S_ .f32 0x3A83126F#32)) (mulf (G a0) (G a0)))

/-- the step of the weight -/
abbrev D (a0 : FVec Ideal Cert.Reference12Ideal.S8x1024x770 .f32) (a1 a2 a3 : FVec Ideal Cert.Reference12Ideal.S1x1024x770 .f32) : FVec Ideal Cert.Reference12Ideal.S1x1024x770 .f32 :=
  mulf (broadcastInDim Cert.Reference12Ideal.S1x1024x770 ![] Cert.Reference12Ideal.Gen.bcast_S_S1x1024x770 (constant Cert.Reference12Ideal.S_ .f32 0xBA83126F#32)) (addf (Host.divf (Host.divf (M a0 a2) (broadcastInDim Cert.Reference12Ideal.S1x1024x770 ![] Cert.Reference12Ideal.Gen.bcast_S_S1x1024x770 (constant Cert.Reference12Ideal.S_ .f32 0x3F26BD02#32)))
    (addf (Host.sqrt (Host.divf (Q a0 a3) (broadcastInDim Cert.Reference12Ideal.S1x1024x770 ![] Cert.Reference12Ideal.Gen.bcast_S_S1x1024x770 (constant Cert.Reference12Ideal.S_ .f32 0x3C231ACC#32)))) (broadcastInDim Cert.Reference12Ideal.S1x1024x770 ![] Cert.Reference12Ideal.Gen.bcast_S_S1x1024x770 (constant Cert.Reference12Ideal.S_ .f32 0x322BCC77#32))))
    (mulf (broadcastInDim Cert.Reference12Ideal.S1x1024x770 ![] Cert.Reference12Ideal.Gen.bcast_S_S1x1024x770 (constant Cert.Reference12Ideal.S_ .f32 0x3C23D70A#32)) a1))

/-- the block every window shows at a point of the grid -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- the eight parts of a row block summed in order are the reference's sum there -/
theorem sum_block (c : Dev nD) (t : Fin cfg0.N) :
    k0_pay8 (iblk m c 0 t) (iblk m c 1 t) (iblk m c 2 t) (iblk m c 3 t) = fun z : S256x770.Idx =>
      G (m ((c : Thread nD τ).loc main_arg0)) (ix3 (0 : Fin 1)
        (⟨t.val * 256 + (z 0).val, by have ht : t.val < 4 := t.isLt; have hz : (z 0).val < 256 := (z 0).isLt; omega⟩ : Fin 1024)
        (⟨(z 1).val, (z 1).isLt⟩ : Fin 770)) := by
  funext z
  unfold k0_pay8
  pointwise [k0_pay3, G, Fin.sum_univ_eight]
  blk_point [iblk, V, idx t]

theorem final4 (c : Dev nD) : (dats m 0 c).arrAt 4 (cfgs 0).N = G (m ((c : Thread nD τ).loc main_arg0)) := by
  refine (dats m 0 c).arrAt_eq_of_covers 4 _ (by decide +kernel) fun t hf y => ?_
  blk_simp; rw [after0_4]; frame_out
  rw [sum_block m c t]
  pointwise [k0_pay1, k0_pay2, k0_pay4, k0_pay5, k0_pay6, k0_pay7, M, Q, D]
  blk_point [iblk, V, idx t]

theorem final5 (c : Dev nD) : (dats m 0 c).arrAt 5 (cfgs 0).N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  rw [sum_block m c t]
  pointwise [k0_pay1, k0_pay2, k0_pay4, k0_pay5, k0_pay6, k0_pay7, M, Q, D]
  blk_point [iblk, V, idx t]

theorem final6 (c : Dev nD) : (dats m 0 c).arrAt 6 (cfgs 0).N = M (m ((c : Thread nD τ).loc main_arg0)) (m ((c : Thread nD τ).loc main_arg2)) := by
  refine (dats m 0 c).arrAt_eq_of_covers 6 _ (by decide +kernel) fun t hf y => ?_
  blk_simp; rw [after0_6]; frame_out
  rw [sum_block m c t]
  pointwise [k0_pay1, k0_pay2, k0_pay4, k0_pay5, k0_pay6, k0_pay7, M, Q, D]
  blk_point [iblk, V, idx t]

theorem final7 (c : Dev nD) : (dats m 0 c).arrAt 7 (cfgs 0).N = Q (m ((c : Thread nD τ).loc main_arg0)) (m ((c : Thread nD τ).loc main_arg3)) := by
  refine (dats m 0 c).arrAt_eq_of_covers 7 _ (by decide +kernel) fun t hf y => ?_
  blk_simp; rw [after0_7]; frame_out
  rw [sum_block m c t]
  pointwise [k0_pay1, k0_pay2, k0_pay4, k0_pay5, k0_pay6, k0_pay7, M, Q, D]
  blk_point [iblk, V, idx t]

end Cert.Kernel12Ideal.AdamAIn

end
-- ==== Proof.AdamAOut.lean ====
module
public import proofs.«01_k».proof.Proof.Gen.Kernel13Ideal.Frame
public import proofs.«01_k».proof.Proof.Gen.Reference13Ideal
public import Idealize.ShloMosaic.Lib.Pipeline.ValueKit

/-! The update of the recurrent layer's output weights from the eight devices' parts of their gradient. -/

set_option maxRecDepth 16384

@[expose] public section

noncomputable section

open Idealize.ShloMosaic Idealize.ShloMosaic.TcCoe Idealize.SL.Sem
open Idealize.ShloMosaic.Pipeline (Dat)
open scoped BigOperators

namespace Cert.Kernel13Ideal.AdamAOut

open Cert.Kernel13Ideal Cert.Kernel13Ideal.Gen

variable (m : (ℓ : Loc nD τ sig) → Buf (Elt Ideal) ℓ)

/-- the sum of the eight devices' parts of the gradient -/
def G (a0 : FVec Ideal Cert.Reference13Ideal.S8x256x1024 .f32) : FVec Ideal Cert.Reference13Ideal.S1x256x1024 .f32 :=
  broadcastInDim Cert.Reference13Ideal.S1x256x1024 ![1, 2] Cert.Reference13Ideal.Gen.bcast_S256x1024_S1x256x1024_1_2
    (Host.reduceAdd a0 (constant Cert.Reference13Ideal.S_ .f32 0x00000000#32) Cert.Reference13Ideal.Gen.reducesTo_S8x256x1024_S256x1024_d0 Cert.Reference13Ideal.Gen.h_S_)

/-- the running mean of the gradient -/
abbrev M (a0 : FVec Ideal Cert.Reference13Ideal.S8x256x1024 .f32) (a2 : FVec Ideal Cert.Reference13Ideal.S1x256x1024 .f32) : FVec Ideal Cert.Reference13Ideal.S1x256x1024 .f32 :=
  addf (mulf (broadcastInDim Cert.Reference13Ideal.S1x256x1024 ![] Cert.Reference13Ideal.Gen.bcast_S_S1x256x1024 (constant Cert.Reference13Ideal.S_ .f32 0x3F666666#32)) a2) (mulf (broadcastInDim Cert.Reference13Ideal.S1x256x1024 ![] Cert.Reference13Ideal.Gen.bcast_S_S1x256x1024 (constant Cert.Reference13Ideal.S_ .f32 0x3DCCCCCD#32)) (G a0))

/-- the running mean of its square -/
abbrev Q (a0 : FVec Ideal Cert.Reference13Ideal.S8x256x1024 .f32) (a3 : FVec Ideal Cert.Reference13Ideal.S1x256x1024 .f32) : FVec Ideal Cert.Reference13Ideal.S1x256x1024 .f32 :=
  addf (mulf (broadcastInDim Cert.Reference13Ideal.S1x256x1024 ![] Cert.Reference13Ideal.Gen.bcast_S_S1x256x1024 (constant Cert.Reference13Ideal.S_ .f32 0x3F7FBE77#32)) a3) (mulf (broadcastInDim Cert.Reference13Ideal.S1x256x1024 ![] Cert.Reference13Ideal.Gen.bcast_S_S1x256x1024 (constant Cert.Reference13Ideal.S_ .f32 0x3A83126F#32)) (mulf (G a0) (G a0)))

/-- the step of the weight -/
abbrev D (a0 : FVec Ideal Cert.Reference13Ideal.S8x256x1024 .f32) (a1 a2 a3 : FVec Ideal Cert.Reference13Ideal.S1x256x1024 .f32) : FVec Ideal Cert.Reference13Ideal.S1x256x1024 .f32 :=
  mulf (broadcastInDim Cert.Reference13Ideal.S1x256x1024 ![] Cert.Reference13Ideal.Gen.bcast_S_S1x256x1024 (constant Cert.Reference13Ideal.S_ .f32 0xBA83126F#32)) (addf (Host.divf (Host.divf (M a0 a2) (broadcastInDim Cert.Reference13Ideal.S1x256x1024 ![] Cert.Reference13Ideal.Gen.bcast_S_S1x256x1024 (constant Cert.Reference13Ideal.S_ .f32 0x3F26BD02#32)))
    (addf (Host.sqrt (Host.divf (Q a0 a3) (broadcastInDim Cert.Reference13Ideal.S1x256x1024 ![] Cert.Reference13Ideal.Gen.bcast_S_S1x256x1024 (constant Cert.Reference13Ideal.S_ .f32 0x3C231ACC#32)))) (broadcastInDim Cert.Reference13Ideal.S1x256x1024 ![] Cert.Reference13Ideal.Gen.bcast_S_S1x256x1024 (constant Cert.Reference13Ideal.S_ .f32 0x322BCC77#32))))
    (mulf (broadcastInDim Cert.Reference13Ideal.S1x256x1024 ![] Cert.Reference13Ideal.Gen.bcast_S_S1x256x1024 (constant Cert.Reference13Ideal.S_ .f32 0x3C23D70A#32)) a1))

/-- the block every window shows at a point of the grid -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- the eight parts of a row block summed in order are the reference's sum there -/
theorem sum_block (c : Dev nD) (t : Fin cfg0.N) :
    k0_pay8 (iblk m c 0 t) (iblk m c 1 t) (iblk m c 2 t) (iblk m c 3 t) = fun z : S256x1024.Idx =>
      G (m ((c : Thread nD τ).loc main_arg0)) (ix3 (0 : Fin 1)
        (⟨t.val * 256 + (z 0).val, by have ht : t.val < 1 := t.isLt; have hz : (z 0).val < 256 := (z 0).isLt; omega⟩ : Fin 256)
        (⟨(z 1).val, (z 1).isLt⟩ : Fin 1024)) := by
  funext z
  unfold k0_pay8
  pointwise [k0_pay3, G, Fin.sum_univ_eight]
  blk_point [iblk, V, idx t]

theorem final4 (c : Dev nD) : (dats m 0 c).arrAt 4 (cfgs 0).N = G (m ((c : Thread nD τ).loc main_arg0)) := by
  refine (dats m 0 c).arrAt_eq_of_covers 4 _ (by decide +kernel) fun t hf y => ?_
  blk_simp; rw [after0_4]; frame_out
  rw [sum_block m c t]
  pointwise [k0_pay1, k0_pay2, k0_pay4, k0_pay5, k0_pay6, k0_pay7, M, Q, D]
  blk_point [iblk, V, idx t]

theorem final5 (c : Dev nD) : (dats m 0 c).arrAt 5 (cfgs 0).N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  rw [sum_block m c t]
  pointwise [k0_pay1, k0_pay2, k0_pay4, k0_pay5, k0_pay6, k0_pay7, M, Q, D]
  blk_point [iblk, V, idx t]

theorem final6 (c : Dev nD) : (dats m 0 c).arrAt 6 (cfgs 0).N = M (m ((c : Thread nD τ).loc main_arg0)) (m ((c : Thread nD τ).loc main_arg2)) := by
  refine (dats m 0 c).arrAt_eq_of_covers 6 _ (by decide +kernel) fun t hf y => ?_
  blk_simp; rw [after0_6]; frame_out
  rw [sum_block m c t]
  pointwise [k0_pay1, k0_pay2, k0_pay4, k0_pay5, k0_pay6, k0_pay7, M, Q, D]
  blk_point [iblk, V, idx t]

theorem final7 (c : Dev nD) : (dats m 0 c).arrAt 7 (cfgs 0).N = Q (m ((c : Thread nD τ).loc main_arg0)) (m ((c : Thread nD τ).loc main_arg3)) := by
  refine (dats m 0 c).arrAt_eq_of_covers 7 _ (by decide +kernel) fun t hf y => ?_
  blk_simp; rw [after0_7]; frame_out
  rw [sum_block m c t]
  pointwise [k0_pay1, k0_pay2, k0_pay4, k0_pay5, k0_pay6, k0_pay7, M, Q, D]
  blk_point [iblk, V, idx t]

end Cert.Kernel13Ideal.AdamAOut

end
-- ==== Proof.AdamBOut.lean ====
module
public import proofs.«01_k».proof.Proof.Gen.Kernel14Ideal.Frame
public import proofs.«01_k».proof.Proof.Gen.Reference14Ideal
public import Idealize.ShloMosaic.Lib.Pipeline.ValueKit

/-! The update of the attention layer's output weights from the eight devices' parts of their gradient. -/

set_option maxRecDepth 16384

@[expose] public section

noncomputable section

open Idealize.ShloMosaic Idealize.ShloMosaic.TcCoe Idealize.SL.Sem
open Idealize.ShloMosaic.Pipeline (Dat)
open scoped BigOperators

namespace Cert.Kernel14Ideal.AdamBOut

open Cert.Kernel14Ideal Cert.Kernel14Ideal.Gen

variable (m : (ℓ : Loc nD τ sig) → Buf (Elt Ideal) ℓ)

/-- the sum of the eight devices' parts of the gradient -/
def G (a0 : FVec Ideal Cert.Reference14Ideal.S8x128x1024 .f32) : FVec Ideal Cert.Reference14Ideal.S1x128x1024 .f32 :=
  broadcastInDim Cert.Reference14Ideal.S1x128x1024 ![1, 2] Cert.Reference14Ideal.Gen.bcast_S128x1024_S1x128x1024_1_2
    (Host.reduceAdd a0 (constant Cert.Reference14Ideal.S_ .f32 0x00000000#32) Cert.Reference14Ideal.Gen.reducesTo_S8x128x1024_S128x1024_d0 Cert.Reference14Ideal.Gen.h_S_)

/-- the running mean of the gradient -/
abbrev M (a0 : FVec Ideal Cert.Reference14Ideal.S8x128x1024 .f32) (a2 : FVec Ideal Cert.Reference14Ideal.S1x128x1024 .f32) : FVec Ideal Cert.Reference14Ideal.S1x128x1024 .f32 :=
  addf (mulf (broadcastInDim Cert.Reference14Ideal.S1x128x1024 ![] Cert.Reference14Ideal.Gen.bcast_S_S1x128x1024 (constant Cert.Reference14Ideal.S_ .f32 0x3F666666#32)) a2) (mulf (broadcastInDim Cert.Reference14Ideal.S1x128x1024 ![] Cert.Reference14Ideal.Gen.bcast_S_S1x128x1024 (constant Cert.Reference14Ideal.S_ .f32 0x3DCCCCCD#32)) (G a0))

/-- the running mean of its square -/
abbrev Q (a0 : FVec Ideal Cert.Reference14Ideal.S8x128x1024 .f32) (a3 : FVec Ideal Cert.Reference14Ideal.S1x128x1024 .f32) : FVec Ideal Cert.Reference14Ideal.S1x128x1024 .f32 :=
  addf (mulf (broadcastInDim Cert.Reference14Ideal.S1x128x1024 ![] Cert.Reference14Ideal.Gen.bcast_S_S1x128x1024 (constant Cert.Reference14Ideal.S_ .f32 0x3F7FBE77#32)) a3) (mulf (broadcastInDim Cert.Reference14Ideal.S1x128x1024 ![] Cert.Reference14Ideal.Gen.bcast_S_S1x128x1024 (constant Cert.Reference14Ideal.S_ .f32 0x3A83126F#32)) (mulf (G a0) (G a0)))

/-- the step of the weight -/
abbrev D (a0 : FVec Ideal Cert.Reference14Ideal.S8x128x1024 .f32) (a1 a2 a3 : FVec Ideal Cert.Reference14Ideal.S1x128x1024 .f32) : FVec Ideal Cert.Reference14Ideal.S1x128x1024 .f32 :=
  mulf (broadcastInDim Cert.Reference14Ideal.S1x128x1024 ![] Cert.Reference14Ideal.Gen.bcast_S_S1x128x1024 (constant Cert.Reference14Ideal.S_ .f32 0xBA83126F#32)) (addf (Host.divf (Host.divf (M a0 a2) (broadcastInDim Cert.Reference14Ideal.S1x128x1024 ![] Cert.Reference14Ideal.Gen.bcast_S_S1x128x1024 (constant Cert.Reference14Ideal.S_ .f32 0x3F26BD02#32)))
    (addf (Host.sqrt (Host.divf (Q a0 a3) (broadcastInDim Cert.Reference14Ideal.S1x128x1024 ![] Cert.Reference14Ideal.Gen.bcast_S_S1x128x1024 (constant Cert.Reference14Ideal.S_ .f32 0x3C231ACC#32)))) (broadcastInDim Cert.Reference14Ideal.S1x128x1024 ![] Cert.Reference14Ideal.Gen.bcast_S_S1x128x1024 (constant Cert.Reference14Ideal.S_ .f32 0x322BCC77#32))))
    (mulf (broadcastInDim Cert.Reference14Ideal.S1x128x1024 ![] Cert.Reference14Ideal.Gen.bcast_S_S1x128x1024 (constant Cert.Reference14Ideal.S_ .f32 0x3C23D70A#32)) a1))

/-- the block every window shows at a point of the grid -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- the eight parts of a row block summed in order are the reference's sum there -/
theorem sum_block (c : Dev nD) (t : Fin cfg0.N) :
    k0_pay8 (iblk m c 0 t) (iblk m c 1 t) (iblk m c 2 t) (iblk m c 3 t) = fun z : S128x1024.Idx =>
      G (m ((c : Thread nD τ).loc main_arg0)) (ix3 (0 : Fin 1)
        (⟨t.val * 128 + (z 0).val, by have ht : t.val < 1 := t.isLt; have hz : (z 0).val < 128 := (z 0).isLt; omega⟩ : Fin 128)
        (⟨(z 1).val, (z 1).isLt⟩ : Fin 1024)) := by
  funext z
  unfold k0_pay8
  pointwise [k0_pay3, G, Fin.sum_univ_eight]
  blk_point [iblk, V, idx t]

theorem final4 (c : Dev nD) : (dats m 0 c).arrAt 4 (cfgs 0).N = G (m ((c : Thread nD τ).loc main_arg0)) := by
  refine (dats m 0 c).arrAt_eq_of_covers 4 _ (by decide +kernel) fun t hf y => ?_
  blk_simp; rw [after0_4]; frame_out
  rw [sum_block m c t]
  pointwise [k0_pay1, k0_pay2, k0_pay4, k0_pay5, k0_pay6, k0_pay7, M, Q, D]
  blk_point [iblk, V, idx t]

theorem final5 (c : Dev nD) : (dats m 0 c).arrAt 5 (cfgs 0).N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  rw [sum_block m c t]
  pointwise [k0_pay1, k0_pay2, k0_pay4, k0_pay5, k0_pay6, k0_pay7, M, Q, D]
  blk_point [iblk, V, idx t]

theorem final6 (c : Dev nD) : (dats m 0 c).arrAt 6 (cfgs 0).N = M (m ((c : Thread nD τ).loc main_arg0)) (m ((c : Thread nD τ).loc main_arg2)) := by
  refine (dats m 0 c).arrAt_eq_of_covers 6 _ (by decide +kernel) fun t hf y => ?_
  blk_simp; rw [after0_6]; frame_out
  rw [sum_block m c t]
  pointwise [k0_pay1, k0_pay2, k0_pay4, k0_pay5, k0_pay6, k0_pay7, M, Q, D]
  blk_point [iblk, V, idx t]

theorem final7 (c : Dev nD) : (dats m 0 c).arrAt 7 (cfgs 0).N = Q (m ((c : Thread nD τ).loc main_arg0)) (m ((c : Thread nD τ).loc main_arg3)) := by
  refine (dats m 0 c).arrAt_eq_of_covers 7 _ (by decide +kernel) fun t hf y => ?_
  blk_simp; rw [after0_7]; frame_out
  rw [sum_block m c t]
  pointwise [k0_pay1, k0_pay2, k0_pay4, k0_pay5, k0_pay6, k0_pay7, M, Q, D]
  blk_point [iblk, V, idx t]

end Cert.Kernel14Ideal.AdamBOut

end
-- ==== Proof.AdamConv.lean ====
module
public import proofs.«01_k».proof.Proof.Gen.Kernel15Ideal.Frame
public import proofs.«01_k».proof.Proof.Gen.Reference15Ideal
public import Idealize.ShloMosaic.Lib.Pipeline.ValueKit

/-! The update of the convolution weights from the eight devices' parts of their gradient, padded with four rows that are cut away again. -/

set_option maxRecDepth 16384

@[expose] public section

noncomputable section

open Idealize.ShloMosaic Idealize.ShloMosaic.TcCoe Idealize.SL.Sem
open Idealize.ShloMosaic.Pipeline (Dat)
open scoped BigOperators

namespace Cert.Kernel15Ideal.AdamConv

open Cert.Kernel15Ideal Cert.Kernel15Ideal.Gen

variable (m : (ℓ : Loc nD τ sig) → Buf (Elt Ideal) ℓ)

/-- four rows of weights with four more rows below them -/
def pad8 (a : FVec Ideal S1x4x512 .f32) : FVec Ideal S1x8x512 .f32 :=
  broadcastInDim S1x8x512 ![1, 2] bcast_S8x512_S1x8x512_1_2
    (pad S8x512 ![0, 0] ![4, 0] ![0, 0] (shapeCast S4x512 a shapeCasts_S1x4x512_S4x512) (sitofp (F := Ideal) .f32 (constantI S_ 32 0#32)) pads_S4x512_S8x512_040_000 h_S_)

theorem V_w (c : Dev nD) : V m c main_v2 = pad8 (m ((c : Thread nD τ).loc main_arg1)) := by
  entry_read; rfl
theorem V_m (c : Dev nD) : V m c main_v5 = pad8 (m ((c : Thread nD τ).loc main_arg2)) := by
  entry_read; rfl
theorem V_v (c : Dev nD) : V m c main_v8 = pad8 (m ((c : Thread nD τ).loc main_arg3)) := by
  entry_read; rfl

/-- the sum of the eight devices' parts of the gradient, padding rows included -/
def G8 (a0 : FVec Ideal S8x8x512 .f32) : FVec Ideal S1x8x512 .f32 := fun z => ∑ s : Fin 8, a0 (ix3 s (z 1) (z 2))

/-- the running mean of a gradient -/
def M {S : Shape} (g w : FVec Ideal S .f32) : FVec Ideal S .f32 :=
  addf (mulf (constant S .f32 0x3F666666#32) w) (mulf (constant S .f32 0x3DCCCCCD#32) g)

/-- the running mean of its square -/
def Q {S : Shape} (g w : FVec Ideal S .f32) : FVec Ideal S .f32 :=
  addf (mulf (constant S .f32 0x3F7FBE77#32) w) (mulf (constant S .f32 0x3A83126F#32) (mulf g g))

/-- the step of a weight -/
def D {S : Shape} (g w v u : FVec Ideal S .f32) : FVec Ideal S .f32 :=
  mulf (constant S .f32 0xBA83126F#32) (addf (Host.divf (Host.divf (M g v) (constant S .f32 0x3F26BD02#32))
    (addf (Host.sqrt (Host.divf (Q g u) (constant S .f32 0x3C231ACC#32))) (constant S .f32 0x322BCC77#32)))
    (mulf (constant S .f32 0x3C23D70A#32) w))

/-- the block every window shows at the one point of the grid -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

/-- the eight parts summed in order -/
theorem sum_block (c : Dev nD) (t : Fin cfg0.N) :
    k0_pay11 (iblk m c 0 t) (iblk m c 1 t) (iblk m c 2 t) (iblk m c 3 t) = fun z : S8x512.Idx =>
      G8 (m ((c : Thread nD τ).loc main_arg0)) (ix3 (0 : Fin 1) (⟨(z 0).val, (z 0).isLt⟩ : Fin 8) (⟨(z 1).val, (z 1).isLt⟩ : Fin 512)) := by
  funext z
  unfold k0_pay11
  pointwise [k0_pay2, G8, Fin.sum_univ_eight]
  blk_point [iblk, V, idx t]

theorem arr4 (c : Dev nD) : (dats m 0 c).arrAt 4 (cfgs 0).N = G8 (m ((c : Thread nD τ).loc main_arg0)) := by
  refine (dats m 0 c).arrAt_eq_of_covers 4 _ (by decide +kernel) fun t hf y => ?_
  blk_simp; rw [after0_4]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

theorem arr5 (c : Dev nD) : (dats m 0 c).arrAt 5 (cfgs 0).N = D (G8 (m ((c : Thread nD τ).loc main_arg0))) (V m c main_v2) (V m c main_v5) (V m c main_v8) := by
  refine (dats m 0 c).arrAt_eq_of_covers 5 _ (by decide +kernel) fun t hf y => ?_
  blk_simp; rw [after0_5]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

theorem arr6 (c : Dev nD) : (dats m 0 c).arrAt 6 (cfgs 0).N = M (G8 (m ((c : Thread nD τ).loc main_arg0))) (V m c main_v5) := by
  refine (dats m 0 c).arrAt_eq_of_covers 6 _ (by decide +kernel) fun t hf y => ?_
  blk_simp; rw [after0_6]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

theorem arr7 (c : Dev nD) : (dats m 0 c).arrAt 7 (cfgs 0).N = Q (G8 (m ((c : Thread nD τ).loc main_arg0))) (V m c main_v8) := by
  refine (dats m 0 c).arrAt_eq_of_covers 7 _ (by decide +kernel) fun t hf y => ?_
  blk_simp; rw [after0_7]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

/-- the first four rows of the padded weights are the weights -/
theorem pad8_read (a : FVec Ideal S1x4x512 .f32) (z : S1x4x512.Idx) (h : (z 1).val < 8) :
    pad8 a (ix3 (0 : Fin 1) (⟨(z 1).val, h⟩ : Fin 8) (z 2)) = a z := by
  have hr : (z 1).val < 4 := (z 1).isLt
  unfold pad8
  pointwise
  try simp [hr]

/-- the reference's sum of the parts -/
abbrev RG (a0 : FVec Ideal Cert.Reference15Ideal.S8x8x512 .f32) : FVec Ideal Cert.Reference15Ideal.S1x4x512 .f32 :=
  broadcastInDim Cert.Reference15Ideal.S1x4x512 ![1, 2] Cert.Reference15Ideal.Gen.bcast_S4x512_S1x4x512_1_2
    (Host.reduceAdd (extractStridedSlice Cert.Reference15Ideal.S8x4x512 ![0, 0, 0] a0 Cert.Reference15Ideal.Gen.slices_S8x8x512_S8x4x512_0_0_0)
      (constant Cert.Reference15Ideal.S_ .f32 0x00000000#32) Cert.Reference15Ideal.Gen.reducesTo_S8x4x512_S4x512_d0 Cert.Reference15Ideal.Gen.h_S_)

/-- the reference's running mean of the gradient -/
abbrev RM (a0 : FVec Ideal Cert.Reference15Ideal.S8x8x512 .f32) (a2 : FVec Ideal Cert.Reference15Ideal.S1x4x512 .f32) : FVec Ideal Cert.Reference15Ideal.S1x4x512 .f32 :=
  addf (mulf (broadcastInDim Cert.Reference15Ideal.S1x4x512 ![] Cert.Reference15Ideal.Gen.bcast_S_S1x4x512 (constant Cert.Reference15Ideal.S_ .f32 0x3F666666#32)) a2) (mulf (broadcastInDim Cert.Reference15Ideal.S1x4x512 ![] Cert.Reference15Ideal.Gen.bcast_S_S1x4x512 (constant Cert.Reference15Ideal.S_ .f32 0x3DCCCCCD#32)) (RG a0))

/-- the reference's running mean of its square -/
abbrev RQ (a0 : FVec Ideal Cert.Reference15Ideal.S8x8x512 .f32) (a3 : FVec Ideal Cert.Reference15Ideal.S1x4x512 .f32) : FVec Ideal Cert.Reference15Ideal.S1x4x512 .f32 :=
  addf (mulf (broadcastInDim Cert.Reference15Ideal.S1x4x512 ![] Cert.Reference15Ideal.Gen.bcast_S_S1x4x512 (constant Cert.Reference15Ideal.S_ .f32 0x3F7FBE77#32)) a3) (mulf (broadcastInDim Cert.Reference15Ideal.S1x4x512 ![] Cert.Reference15Ideal.Gen.bcast_S_S1x4x512 (constant Cert.Reference15Ideal.S_ .f32 0x3A83126F#32)) (mulf (RG a0) (RG a0)))

/-- the reference's step of the weight -/
abbrev RD (a0 : FVec Ideal Cert.Reference15Ideal.S8x8x512 .f32) (a1 a2 a3 : FVec Ideal Cert.Reference15Ideal.S1x4x512 .f32) : FVec Ideal Cert.Reference15Ideal.S1x4x512 .f32 :=
  mulf (broadcastInDim Cert.Reference15Ideal.S1x4x512 ![] Cert.Reference15Ideal.Gen.bcast_S_S1x4x512 (constant Cert.Reference15Ideal.S_ .f32 0xBA83126F#32)) (addf (Host.divf (Host.divf (RM a0 a2) (broadcastInDim Cert.Reference15Ideal.S1x4x512 ![] Cert.Reference15Ideal.Gen.bcast_S_S1x4x512 (constant Cert.Reference15Ideal.S_ .f32 0x3F26BD02#32)))
    (addf (Host.sqrt (Host.divf (RQ a0 a3) (broadcastInDim Cert.Reference15Ideal.S1x4x512 ![] Cert.Reference15Ideal.Gen.bcast_S_S1x4x512 (constant Cert.Reference15Ideal.S_ .f32 0x3C231ACC#32)))) (broadcastInDim Cert.Reference15Ideal.S1x4x512 ![] Cert.Reference15Ideal.Gen.bcast_S_S1x4x512 (constant Cert.Reference15Ideal.S_ .f32 0x322BCC77#32))))
    (mulf (broadcastInDim Cert.Reference15Ideal.S1x4x512 ![] Cert.Reference15Ideal.Gen.bcast_S_S1x4x512 (constant Cert.Reference15Ideal.S_ .f32 0x3C23D70A#32)) a1))

theorem final4 (c : Dev nD) : extractStridedSlice S1x4x512 ![0, 0, 0] ((dats m 0 c).arrAt 4 (cfgs 0).N) slices_S1x8x512_S1x4x512_0_0_0 = RG (m ((c : Thread nD τ).loc main_arg0)) := by
  rw [arr4]
  funext z
  pointwise [G8, M, Q, D, RG, RM, RQ, RD]

theorem final5 (c : Dev nD) : extractStridedSlice S1x4x512 ![0, 0, 0] ((dats m 0 c).arrAt 5 (cfgs 0).N) slices_S1x8x512_S1x4x512_0_0_0 = RD (m ((c : Thread nD τ).loc main_arg0)) (m ((c : Thread nD τ).loc main_arg1)) (m ((c : Thread nD τ).loc main_arg2)) (m ((c : Thread nD τ).loc main_arg3)) := by
  rw [arr5, V_w m c, V_m m c, V_v m c]
  funext z
  pointwise [G8, M, Q, D, RG, RM, RQ, RD]
  first | simp only [pad8_read]; done | (simp only [pad8_read]; rfl) | (reads_congr <;> exact pad8_read _ z _) | (repeat rw [pad8_read]) | (repeat erw [pad8_read])

theorem final6 (c : Dev nD) : extractStridedSlice S1x4x512 ![0, 0, 0] ((dats m 0 c).arrAt 6 (cfgs 0).N) slices_S1x8x512_S1x4x512_0_0_0 = RM (m ((c : Thread nD τ).loc main_arg0)) (m ((c : Thread nD τ).loc main_arg2)) := by
  rw [arr6, V_m m c]
  funext z
  pointwise [G8, M, Q, D, RG, RM, RQ, RD]
  first | simp only [pad8_read]; done | (simp only [pad8_read]; rfl) | (reads_congr <;> exact pad8_read _ z _) | (repeat rw [pad8_read]) | (repeat erw [pad8_read])

theorem final7 (c : Dev nD) : extractStridedSlice S1x4x512 ![0, 0, 0] ((dats m 0 c).arrAt 7 (cfgs 0).N) slices_S1x8x512_S1x4x512_0_0_0 = RQ (m ((c : Thread nD τ).loc main_arg0)) (m ((c : Thread nD τ).loc main_arg3)) := by
  rw [arr7, V_v m c]
  funext z
  pointwise [G8, M, Q, D, RG, RM, RQ, RD]
  first | simp only [pad8_read]; done | (simp only [pad8_read]; rfl) | (reads_congr <;> exact pad8_read _ z _) | (repeat rw [pad8_read]) | (repeat erw [pad8_read])

theorem out4 (c : Dev nD) : Pipeline.afterTail₀ cfgs (dats m) 0 (V0 m) [hostOps1] c main_v10 = RG (m ((c : Thread nD τ).loc main_arg0)) := by
  refine Eq.trans ?_ (final4 m c)
  unfold Pipeline.afterTail₀
  simp only [List.flatten_cons, List.flatten_nil, List.append_nil]
  after_results
  exact congrArg (fun x => extractStridedSlice S1x4x512 ![0, 0, 0] x slices_S1x8x512_S1x4x512_0_0_0)
    (Pipeline.withArrays_arr spec0 (by decide) c (V0 m c) (fun w => (dats m 0 c).arrAt w (cfgs 0).N) 4)

theorem out5 (c : Dev nD) : Pipeline.afterTail₀ cfgs (dats m) 0 (V0 m) [hostOps1] c main_v11 = RD (m ((c : Thread nD τ).loc main_arg0)) (m ((c : Thread nD τ).loc main_arg1)) (m ((c : Thread nD τ).loc main_arg2)) (m ((c : Thread nD τ).loc main_arg3)) := by
  refine Eq.trans ?_ (final5 m c)
  unfold Pipeline.afterTail₀
  simp only [List.flatten_cons, List.flatten_nil, List.append_nil]
  after_results
  exact congrArg (fun x => extractStridedSlice S1x4x512 ![0, 0, 0] x slices_S1x8x512_S1x4x512_0_0_0)
    (Pipeline.withArrays_arr spec0 (by decide) c (V0 m c) (fun w => (dats m 0 c).arrAt w (cfgs 0).N) 5)

theorem out6 (c : Dev nD) : Pipeline.afterTail₀ cfgs (dats m) 0 (V0 m) [hostOps1] c main_v12 = RM (m ((c : Thread nD τ).loc main_arg0)) (m ((c : Thread nD τ).loc main_arg2)) := by
  refine Eq.trans ?_ (final6 m c)
  unfold Pipeline.afterTail₀
  simp only [List.flatten_cons, List.flatten_nil, List.append_nil]
  after_results
  exact congrArg (fun x => extractStridedSlice S1x4x512 ![0, 0, 0] x slices_S1x8x512_S1x4x512_0_0_0)
    (Pipeline.withArrays_arr spec0 (by decide) c (V0 m c) (fun w => (dats m 0 c).arrAt w (cfgs 0).N) 6)

theorem out7 (c : Dev nD) : Pipeline.afterTail₀ cfgs (dats m) 0 (V0 m) [hostOps1] c main_v13 = RQ (m ((c : Thread nD τ).loc main_arg0)) (m ((c : Thread nD τ).loc main_arg3)) := by
  refine Eq.trans ?_ (final7 m c)
  unfold Pipeline.afterTail₀
  simp only [List.flatten_cons, List.flatten_nil, List.append_nil]
  after_results
  exact congrArg (fun x => extractStridedSlice S1x4x512 ![0, 0, 0] x slices_S1x8x512_S1x4x512_0_0_0)
    (Pipeline.withArrays_arr spec0 (by decide) c (V0 m c) (fun w => (dats m 0 c).arrAt w (cfgs 0).N) 7)

end Cert.Kernel15Ideal.AdamConv

end
-- ==== Proof.AdamSmallA.lean ====
module
public import proofs.«01_k».proof.Proof.Gen.Kernel16Ideal.Frame
public import proofs.«01_k».proof.Proof.Gen.Reference16Ideal
public import Idealize.ShloMosaic.Lib.Pipeline.ValueKit
public import Idealize.ShloMosaic.Lib.Routing.OpsOne

/-! The update of the small weights: six leaves packed in one array of 40 rows, updated there, and taken out again. -/

set_option maxRecDepth 16384

@[expose] public section

noncomputable section

open Idealize.ShloMosaic Idealize.ShloMosaic.TcCoe Idealize.SL.Sem
open Idealize.ShloMosaic.Pipeline (Dat)
open scoped BigOperators

namespace Cert.Kernel16Ideal.AdamSmallA

open Cert.Kernel16Ideal Cert.Kernel16Ideal.Gen

variable (m : (ℓ : Loc nD τ sig) → Buf (Elt Ideal) ℓ)

/-! ### The layout of the packed array -/

/-- the gains of one norm of the residual stream, as eight rows -/
def rows0 (a : FVec Ideal S2x1024 .f32) : FVec Ideal S8x128 .f32 :=
  shapeCast S8x128 (shapeCast S1024 (extractStridedSlice S1x1024 ![0, 0] a slices_S2x1024_S1x1024_0_0) shapeCasts_S1x1024_S1024) shapeCasts_S1024_S8x128

def rows1 (a : FVec Ideal S2x1024 .f32) : FVec Ideal S8x128 .f32 :=
  shapeCast S8x128 (shapeCast S1024 (extractStridedSlice S1x1024 ![1, 0] a slices_S2x1024_S1x1024_1_0) shapeCasts_S1x1024_S1024) shapeCasts_S1024_S8x128

/-- the row and the first column of a leaf of eight numbers -/
def at8 (r : BitVec 32) : IVec S2 32 :=
  concatenate S2 0 [⟨S1, broadcastInDim S1 ![] bcast_S_S1 (constantI S_ 32 r)⟩, ⟨S1, broadcastInDim S1 ![] bcast_S_S1 (constantI S_ 32 8#32)⟩] concatenates_S1_S1_S2_d0

/-- the two leaves of the decay gates, in rows 0 and 1 from column 8 -/
def gateRows (a b : FVec Ideal S1x8 .f32) : FVec Ideal S8x128 .f32 :=
  Host.scatter scatter_S8x128_S2_S8_0_0_01_0 (fun _ b => b)
    (Host.scatter scatter_S8x128_S2_S8_0_0_01_0 (fun _ b => b) (broadcastInDim S8x128 ![] bcast_S_S8x128 (constant (F := Ideal) S_ .f32 0x00000000#32)) (at8 0#32)
      (shapeCast S8 a shapeCasts_S1x8_S8))
    (at8 1#32) (shapeCast S8 b shapeCasts_S1x8_S8)

/-- the gains of the recurrent layer's own norm, in two rows of eight -/
def gainRows (a : FVec Ideal S1x256 .f32) : FVec Ideal S8x128 .f32 :=
  pad S8x128 ![0, 0] ![6, 0] ![0, 0] (shapeCast S2x128 (shapeCast S256 a shapeCasts_S1x256_S256) shapeCasts_S256_S2x128)
    (sitofp (F := Ideal) .f32 (constantI S_ 32 0#32)) pads_S2x128_S8x128_060_000 h_S_

/-- the gains of the norms of queries and keys, in six rows of eight -/
def headRows (a b : FVec Ideal S1x3x128 .f32) : FVec Ideal S8x128 .f32 :=
  pad S8x128 ![0, 0] ![2, 0] ![0, 0]
    (concatenate S6x128 0 [⟨S3x128, shapeCast S3x128 a shapeCasts_S1x3x128_S3x128⟩, ⟨S3x128, shapeCast S3x128 b shapeCasts_S1x3x128_S3x128⟩] concatenates_S3x128_S3x128_S6x128_d0)
    (sitofp (F := Ideal) .f32 (constantI S_ 32 0#32)) pads_S6x128_S8x128_020_000 h_S_

/-- five pieces of eight rows one below the other -/
def stack (p q r s t : FVec Ideal S8x128 .f32) : FVec Ideal S1x40x128 .f32 :=
  broadcastInDim S1x40x128 ![1, 2] bcast_S40x128_S1x40x128_1_2
    (concatenate S40x128 0 [⟨S8x128, p⟩, ⟨S8x128, q⟩, ⟨S8x128, r⟩, ⟨S8x128, s⟩, ⟨S8x128, t⟩] concatenates_S8x128_S8x128_S8x128_S8x128_S8x128_S40x128_d0)

/-- the six leaves packed -/
def pack (a : FVec Ideal S2x1024 .f32) (b d : FVec Ideal S1x8 .f32) (e : FVec Ideal S1x256 .f32) (f g : FVec Ideal S1x3x128 .f32) : FVec Ideal S1x40x128 .f32 :=
  stack (rows0 a) (rows1 a) (gateRows b d) (gainRows e) (headRows f g)

set_option maxHeartbeats 8000000 in
theorem V_w (c : Dev nD) : V m c main_v28 = pack (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold V V0
  simp only [List.flatten_cons, List.flatten_nil, List.append_nil, List.cons_append, List.nil_append]
  after_results
  rfl

set_option maxHeartbeats 8000000 in
theorem V_m (c : Dev nD) : V m c main_v54 = pack (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold V V0
  simp only [List.flatten_cons, List.flatten_nil, List.append_nil, List.cons_append, List.nil_append]
  after_results
  rfl

set_option maxHeartbeats 8000000 in
theorem V_v (c : Dev nD) : V m c main_v80 = pack (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold V V0
  simp only [List.flatten_cons, List.flatten_nil, List.append_nil, List.cons_append, List.nil_append]
  after_results
  rfl

set_option maxHeartbeats 8000000 in
theorem V_g (c : Dev nD) : V m c main_v81 = extractStridedSlice S8x40x128 ![0, 0, 0] (m ((c : Thread nD τ).loc main_arg0)) slices_S8x48x128_S8x40x128_0_0_0 := by
  unfold V V0
  simp only [List.flatten_cons, List.flatten_nil, List.append_nil, List.cons_append, List.nil_append]
  after_results

/-! ### The update of the packed array -/

/-- the sum of the eight devices' parts of the gradient -/
def G40 (a0 : FVec Ideal S8x40x128 .f32) : FVec Ideal S1x40x128 .f32 := fun z => ∑ s : Fin 8, a0 (ix3 s (z 1) (z 2))

/-- the running mean of a gradient -/
def M {S : Shape} (g w : FVec Ideal S .f32) : FVec Ideal S .f32 :=
  addf (mulf (constant S .f32 0x3F666666#32) w) (mulf (constant S .f32 0x3DCCCCCD#32) g)

/-- the running mean of its square -/
def Q {S : Shape} (g w : FVec Ideal S .f32) : FVec Ideal S .f32 :=
  addf (mulf (constant S .f32 0x3F7FBE77#32) w) (mulf (constant S .f32 0x3A83126F#32) (mulf g g))

/-- the step of a weight -/
def D {S : Shape} (g w v u : FVec Ideal S .f32) : FVec Ideal S .f32 :=
  mulf (constant S .f32 0xBA83126F#32) (addf (Host.divf (Host.divf (M g v) (constant S .f32 0x3F26BD02#32))
    (addf (Host.sqrt (Host.divf (Q g u) (constant S .f32 0x3C231ACC#32))) (constant S .f32 0x322BCC77#32)))
    (mulf (constant S .f32 0x3C23D70A#32) w))

/-- the block every window shows at the one point of the grid -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0] :=
  (by decide +kernel : ∀ t : Fin grid0.N, _)

/-- the eight parts summed in order -/
theorem sum_block (c : Dev nD) (t : Fin cfg0.N) :
    k0_pay11 (iblk m c 0 t) (iblk m c 1 t) (iblk m c 2 t) (iblk m c 3 t) = fun z : S40x128.Idx =>
      G40 (V m c main_v81) (ix3 (0 : Fin 1) (⟨(z 0).val, (z 0).isLt⟩ : Fin 40) (⟨(z 1).val, (z 1).isLt⟩ : Fin 128)) := by
  funext z
  unfold k0_pay11
  pointwise [k0_pay2, G40, Fin.sum_univ_eight]
  blk_point [iblk, idx t]

theorem arr4 (c : Dev nD) : (dats m 0 c).arrAt 4 (cfgs 0).N = G40 (V m c main_v81) := by
  refine (dats m 0 c).arrAt_eq_of_covers 4 _ (by decide +kernel) fun t hf y => ?_
  blk_simp; rw [after0_4]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

theorem arr5 (c : Dev nD) : (dats m 0 c).arrAt 5 (cfgs 0).N = D (G40 (V m c main_v81)) (V m c main_v28) (V m c main_v54) (V m c main_v80) := by
  refine (dats m 0 c).arrAt_eq_of_covers 5 _ (by decide +kernel) fun t hf y => ?_
  blk_simp; rw [after0_5]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

theorem arr6 (c : Dev nD) : (dats m 0 c).arrAt 6 (cfgs 0).N = M (G40 (V m c main_v81)) (V m c main_v54) := by
  refine (dats m 0 c).arrAt_eq_of_covers 6 _ (by decide +kernel) fun t hf y => ?_
  blk_simp; rw [after0_6]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

theorem arr7 (c : Dev nD) : (dats m 0 c).arrAt 7 (cfgs 0).N = Q (G40 (V m c main_v81)) (V m c main_v80) := by
  refine (dats m 0 c).arrAt_eq_of_covers 7 _ (by decide +kernel) fun t hf y => ?_
  blk_simp; rw [after0_7]; frame_out
  rw [sum_block m c t]
  pointwise [k0_pay1, k0_pay3, k0_pay4, k0_pay5, k0_pay6, k0_pay7, k0_pay8, k0_pay9, k0_pay10, k0_pay12, k0_pay13, M, Q, D]
  blk_point [iblk, idx t]

end Cert.Kernel16Ideal.AdamSmallA

end
-- ==== Proof.Row.lean ====
module
public import Idealize.ShloMosaic.Lib.Pipeline.ValueKit
public import Idealize.ShloMosaic.Lib.Routing.OpsOne

/-! A row of numbers put into a table by a scatter, read back. -/

@[expose] public section

noncomputable section

open Idealize.ShloMosaic Idealize.ShloMosaic.TcCoe Idealize.SL.Sem

namespace Cert.Row

open Idealize.ShloMosaic.Routing Idealize.ShloMosaic.ValueIdx

/-- entry `k` of a row put at a pair of index words lands at the row the first names and the column the second names, plus `k` -/
theorem lands_row {R C U w : Nat} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ValueIdx.ix1 k) idx = some (ValueIdx.ix2 r c) ↔ (idx (ValueIdx.ix1 (0 : Fin 2))).toInt = r.val ∧ (idx (ValueIdx.ix1 (1 : Fin 2))).toInt + (k.val : Int) = c.val := by
  have hk : d.sKept = [1] := by
    show (shape2 R C).kept d.insertedWindowDims = _
    rw [hiw]
    rfl
  have hwin1 : d.window (ValueIdx.ix1 k) 1 = k.val := by
    unfold ScatterDims.window
    rw [dif_pos (by rw [hk]; simp)]
    exact congrArg (fun t => ((ValueIdx.ix1 k : (shape1 U).Idx) t).val) (Subsingleton.elim (α := Fin 1) _ 0)
  have hwin0 : d.window (ValueIdx.ix1 k) 0 = 0 := by
    unfold ScatterDims.window
    rw [dif_neg (by rw [hk]; simp)]
  rw [resultIdx?_ix2, start_pair d hsd hivd, start_pair d hsd hivd, hwin0, hwin1]
  omega

/-- what is put is read back there -/
theorem row_hit {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (k : Fin U) (r : Fin R) (c : Fin C) (h0 : (idx (ValueIdx.ix1 (0 : Fin 2))).toInt = r.val) (h1 : (idx (ValueIdx.ix1 (1 : Fin 2))).toInt + (k.val : Int) = c.val) :
    Host.scatter d (fun _ b => b) x0 idx upd (ValueIdx.ix2 r c) = upd (ValueIdx.ix1 k) := by
  refine scatter_set_hit d x0 idx upd _ _ (fun k' hk' => ?_) (ValueIdx.ix1 k) ((lands_row d hiw hsd hivd idx k r c).2 ⟨h0, h1⟩)
  have e : k' = ValueIdx.ix1 (k' 0) := ValueIdx.eq_ix1 k'
  rw [e] at hk' ⊢
  have q := ((lands_row d hiw hsd hivd idx (k' 0) r c).1 hk').2
  exact congrArg (fun e => upd (ValueIdx.ix1 e)) (Fin.ext (by omega))

/-- and the other rows stay -/
theorem row_miss {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (r : Fin R) (c : Fin C) (h0 : (idx (ValueIdx.ix1 (0 : Fin 2))).toInt ≠ r.val) :
    Host.scatter d (fun _ b => b) x0 idx upd (ValueIdx.ix2 r c) = x0 (ValueIdx.ix2 r c) := by
  refine scatter_set_miss d x0 idx upd _ fun k' hk' => h0 ?_
  have e : k' = ValueIdx.ix1 (k' 0) := ValueIdx.eq_ix1 k'
  rw [e] at hk'
  exact ((lands_row d hiw hsd hivd idx (k' 0) r c).1 hk').1

end Cert.Row

end
-- ==== Proof.AdamSmallB.lean ====
module
public import proofs.«01_k».proof.Proof.Gen.Kernel16Ideal.Frame
public import proofs.«01_k».proof.Proof.Gen.Reference16Ideal
public import Idealize.ShloMosaic.Lib.Pipeline.ValueKit
public import proofs.«01_k».proof.Proof.AdamSmallA
public import proofs.«01_k».proof.Proof.Row

/-! The packed array of the small weights, leaf by leaf: what is packed, and what is taken out. -/

set_option maxRecDepth 16384

@[expose] public section

noncomputable section

open Idealize.ShloMosaic Idealize.ShloMosaic.TcCoe Idealize.SL.Sem
open Idealize.ShloMosaic.Pipeline (Dat)
open scoped BigOperators

namespace Cert.Kernel16Ideal.AdamSmallB

open Cert.Kernel16Ideal.AdamSmallA Cert.Kernel16Ideal Cert.Kernel16Ideal.Gen

variable (m : (ℓ : Loc nD τ sig) → Buf (Elt Ideal) ℓ)

theorem at2 {n k : Nat} (z : (⟨2, ![n, k]⟩ : Shape).Idx) (i : Fin n) (j : Fin k) (hi : i.val = (z 0).val) (hj : j.val = (z 1).val) : ix2 i j = z := by
  funext q
  apply Fin.ext
  match q with
  | ⟨0, _⟩ => exact hi
  | ⟨1, _⟩ => exact hj

theorem at3 {n k l : Nat} (z : (⟨3, ![n, k, l]⟩ : Shape).Idx) (i : Fin n) (j : Fin k) (h : Fin l) (hi : i.val = (z 0).val) (hj : j.val = (z 1).val)
    (hh : h.val = (z 2).val) : ix3 i j h = z := by
  funext q
  apply Fin.ext
  match q with
  | ⟨0, _⟩ => exact hi
  | ⟨1, _⟩ => exact hj
  | ⟨2, _⟩ => exact hh

theorem at8_0 (r : BitVec 32) : at8 r (ix1 (0 : Fin 2)) = r := by
  pointwise [at8]

theorem at8_1 (r : BitVec 32) : at8 r (ix1 (1 : Fin 2)) = 8#32 := by
  pointwise [at8]

theorem gate0 (a b : FVec Ideal S1x8 .f32) (k : Fin 8) (c : Fin 128) (h : c.val = 8 + k.val) : gateRows a b (ix2 (0 : Fin 8) c) = a (ix2 (0 : Fin 1) k) := by
  unfold gateRows
  refine (Cert.Row.row_miss scatter_S8x128_S2_S8_0_0_01_0 rfl rfl rfl _ _ _ (0 : Fin 8) c
    (by rw [show (at8 1#32 (ValueIdx.ix1 (0 : Fin 2))) = 1#32 from at8_0 _]; decide)).trans ?_
  refine (Cert.Row.row_hit scatter_S8x128_S2_S8_0_0_01_0 rfl rfl rfl _ _ _ k (0 : Fin 8) c
    ((congrArg BitVec.toInt (show at8 0#32 (ValueIdx.ix1 (0 : Fin 2)) = 0#32 from at8_0 _)).trans (by decide))
    (by rw [show at8 0#32 (ValueIdx.ix1 (1 : Fin 2)) = 8#32 from at8_1 _, h]; push_cast; rfl)).trans ?_
  pointwise

theorem gate1 (a b : FVec Ideal S1x8 .f32) (k : Fin 8) (c : Fin 128) (h : c.val = 8 + k.val) : gateRows a b (ix2 (1 : Fin 8) c) = b (ix2 (0 : Fin 1) k) := by
  unfold gateRows
  refine (Cert.Row.row_hit scatter_S8x128_S2_S8_0_0_01_0 rfl rfl rfl _ _ _ k (1 : Fin 8) c
    ((congrArg BitVec.toInt (show at8 1#32 (ValueIdx.ix1 (0 : Fin 2)) = 1#32 from at8_0 _)).trans (by decide))
    (by rw [show at8 1#32 (ValueIdx.ix1 (1 : Fin 2)) = 8#32 from at8_1 _, h]; push_cast; rfl)).trans ?_
  pointwise

/-! ### Taking the leaves out -/

def un (x : FVec Ideal S1x40x128 .f32) : FVec Ideal S2x1024 .f32 :=
  shapeCast S2x1024 (extractStridedSlice S16x128 ![0, 0] (shapeCast S40x128 x shapeCasts_S1x40x128_S40x128) slices_S40x128_S16x128_0_0) shapeCasts_S16x128_S2x1024

abbrev RGn (x : FVec Ideal Cert.Reference16Ideal.S8x48x128 .f32) : FVec Ideal Cert.Reference16Ideal.S2x1024 .f32 :=
  Host.reduceAdd (shapeCast _ (extractStridedSlice Cert.Reference16Ideal.S8x16x128 ![0, 0, 0] x Cert.Reference16Ideal.Gen.slices_S8x48x128_S8x16x128_0_0_0) Cert.Reference16Ideal.Gen.shapeCasts_S8x16x128_S8x2x1024) (constant Cert.Reference16Ideal.S_ .f32 0x00000000#32) Cert.Reference16Ideal.Gen.reducesTo_S8x2x1024_S2x1024_d0 Cert.Reference16Ideal.Gen.h_S_

abbrev RMn (x : FVec Ideal Cert.Reference16Ideal.S8x48x128 .f32) (a2 : FVec Ideal Cert.Reference16Ideal.S2x1024 .f32) : FVec Ideal Cert.Reference16Ideal.S2x1024 .f32 :=
  addf (mulf (broadcastInDim Cert.Reference16Ideal.S2x1024 ![] Cert.Reference16Ideal.Gen.bcast_S_S2x1024 (constant Cert.Reference16Ideal.S_ .f32 0x3F666666#32)) a2) (mulf (broadcastInDim Cert.Reference16Ideal.S2x1024 ![] Cert.Reference16Ideal.Gen.bcast_S_S2x1024 (constant Cert.Reference16Ideal.S_ .f32 0x3DCCCCCD#32)) (RGn x))

abbrev RQn (x : FVec Ideal Cert.Reference16Ideal.S8x48x128 .f32) (a3 : FVec Ideal Cert.Reference16Ideal.S2x1024 .f32) : FVec Ideal Cert.Reference16Ideal.S2x1024 .f32 :=
  addf (mulf (broadcastInDim Cert.Reference16Ideal.S2x1024 ![] Cert.Reference16Ideal.Gen.bcast_S_S2x1024 (constant Cert.Reference16Ideal.S_ .f32 0x3F7FBE77#32)) a3) (mulf (broadcastInDim Cert.Reference16Ideal.S2x1024 ![] Cert.Reference16Ideal.Gen.bcast_S_S2x1024 (constant Cert.Reference16Ideal.S_ .f32 0x3A83126F#32)) (mulf (RGn x) (RGn x)))

abbrev RDn (x : FVec Ideal Cert.Reference16Ideal.S8x48x128 .f32) (a1 a2 a3 : FVec Ideal Cert.Reference16Ideal.S2x1024 .f32) : FVec Ideal Cert.Reference16Ideal.S2x1024 .f32 :=
  mulf (broadcastInDim Cert.Reference16Ideal.S2x1024 ![] Cert.Reference16Ideal.Gen.bcast_S_S2x1024 (constant Cert.Reference16Ideal.S_ .f32 0xBA83126F#32)) (addf (Host.divf (Host.divf (RMn x a2) (broadcastInDim Cert.Reference16Ideal.S2x1024 ![] Cert.Reference16Ideal.Gen.bcast_S_S2x1024 (constant Cert.Reference16Ideal.S_ .f32 0x3F26BD02#32)))
    (addf (Host.sqrt (Host.divf (RQn x a3) (broadcastInDim Cert.Reference16Ideal.S2x1024 ![] Cert.Reference16Ideal.Gen.bcast_S_S2x1024 (constant Cert.Reference16Ideal.S_ .f32 0x3C231ACC#32)))) (broadcastInDim Cert.Reference16Ideal.S2x1024 ![] Cert.Reference16Ideal.Gen.bcast_S_S2x1024 (constant Cert.Reference16Ideal.S_ .f32 0x322BCC77#32))))
    (mulf (broadcastInDim Cert.Reference16Ideal.S2x1024 ![] Cert.Reference16Ideal.Gen.bcast_S_S2x1024 (constant Cert.Reference16Ideal.S_ .f32 0x3C23D70A#32)) a1))

theorem un_M (g w : FVec Ideal S1x40x128 .f32) : un (M g w) = M (un g) (un w) := rfl
theorem un_Q (g w : FVec Ideal S1x40x128 .f32) : un (Q g w) = Q (un g) (un w) := rfl
theorem un_D (g w v u : FVec Ideal S1x40x128 .f32) : un (D g w v u) = D (un g) (un w) (un v) (un u) := rfl

theorem Rn_M (x : FVec Ideal Cert.Reference16Ideal.S8x48x128 .f32) (a2 : FVec Ideal Cert.Reference16Ideal.S2x1024 .f32) : M (RGn x) a2 = RMn x a2 := rfl
theorem Rn_Q (x : FVec Ideal Cert.Reference16Ideal.S8x48x128 .f32) (a3 : FVec Ideal Cert.Reference16Ideal.S2x1024 .f32) : Q (RGn x) a3 = RQn x a3 := rfl
theorem Rn_D (x : FVec Ideal Cert.Reference16Ideal.S8x48x128 .f32) (a1 a2 a3 : FVec Ideal Cert.Reference16Ideal.S2x1024 .f32) : D (RGn x) a1 a2 a3 = RDn x a1 a2 a3 := rfl

/-- the sum of the parts taken out of the packed array is the sum of the leaf's own parts -/
theorem sum_n (x : FVec Ideal S8x48x128 .f32) :
    un (G40 (extractStridedSlice S8x40x128 ![0, 0, 0] x slices_S8x48x128_S8x40x128_0_0_0)) = RGn x := by
  funext z
  pointwise [un, G40, RGn]

theorem pack_n (a : FVec Ideal S2x1024 .f32) (b d : FVec Ideal S1x8 .f32) (e : FVec Ideal S1x256 .f32) (f g : FVec Ideal S1x3x128 .f32) :
    un (pack a b d e f g) = a := by
  funext z
  have h0 : (z 0).val < 2 := (z 0).isLt
  have h1 : (z 1).val < 1024 := (z 1).isLt
  pointwise [un, pack, stack, rows0, rows1]
  split
  · exact congrArg a (at2 z _ _ (by show 0 = _; omega) rfl)
  · split
    · exact congrArg a (at2 z _ _ (by show 1 = _; omega) (by show (_ - 8) * 128 + _ = _; omega))
    · omega

def ua (x : FVec Ideal S1x40x128 .f32) : FVec Ideal S1x8 .f32 :=
  extractStridedSlice S1x8 ![16, 8] (shapeCast S40x128 x shapeCasts_S1x40x128_S40x128) slices_S40x128_S1x8_16_8

abbrev RGa (x : FVec Ideal Cert.Reference16Ideal.S8x48x128 .f32) : FVec Ideal Cert.Reference16Ideal.S1x8 .f32 :=
  Host.reduceAdd (shapeCast _ (shapeCast _ (extractStridedSlice Cert.Reference16Ideal.S8x1x8 ![0, 16, 8] x Cert.Reference16Ideal.Gen.slices_S8x48x128_S8x1x8_0_16_8) Cert.Reference16Ideal.Gen.shapeCasts_S8x1x8_S8x8) Cert.Reference16Ideal.Gen.shapeCasts_S8x8_S8x1x8) (constant Cert.Reference16Ideal.S_ .f32 0x00000000#32) Cert.Reference16Ideal.Gen.reducesTo_S8x1x8_S1x8_d0 Cert.Reference16Ideal.Gen.h_S_

abbrev RMa (x : FVec Ideal Cert.Reference16Ideal.S8x48x128 .f32) (a2 : FVec Ideal Cert.Reference16Ideal.S1x8 .f32) : FVec Ideal Cert.Reference16Ideal.S1x8 .f32 :=
  addf (mulf (broadcastInDim Cert.Reference16Ideal.S1x8 ![] Cert.Reference16Ideal.Gen.bcast_S_S1x8 (constant Cert.Reference16Ideal.S_ .f32 0x3F666666#32)) a2) (mulf (broadcastInDim Cert.Reference16Ideal.S1x8 ![] Cert.Reference16Ideal.Gen.bcast_S_S1x8 (constant Cert.Reference16Ideal.S_ .f32 0x3DCCCCCD#32)) (RGa x))

abbrev RQa (x : FVec Ideal Cert.Reference16Ideal.S8x48x128 .f32) (a3 : FVec Ideal Cert.Reference16Ideal.S1x8 .f32) : FVec Ideal Cert.Reference16Ideal.S1x8 .f32 :=
  addf (mulf (broadcastInDim Cert.Reference16Ideal.S1x8 ![] Cert.Reference16Ideal.Gen.bcast_S_S1x8 (constant Cert.Reference16Ideal.S_ .f32 0x3F7FBE77#32)) a3) (mulf (broadcastInDim Cert.Reference16Ideal.S1x8 ![] Cert.Reference16Ideal.Gen.bcast_S_S1x8 (constant Cert.Reference16Ideal.S_ .f32 0x3A83126F#32)) (mulf (RGa x) (RGa x)))

abbrev RDa (x : FVec Ideal Cert.Reference16Ideal.S8x48x128 .f32) (a1 a2 a3 : FVec Ideal Cert.Reference16Ideal.S1x8 .f32) : FVec Ideal Cert.Reference16Ideal.S1x8 .f32 :=
  mulf (broadcastInDim Cert.Reference16Ideal.S1x8 ![] Cert.Reference16Ideal.Gen.bcast_S_S1x8 (constant Cert.Reference16Ideal.S_ .f32 0xBA83126F#32)) (addf (Host.divf (Host.divf (RMa x a2) (broadcastInDim Cert.Reference16Ideal.S1x8 ![] Cert.Reference16Ideal.Gen.bcast_S_S1x8 (constant Cert.Reference16Ideal.S_ .f32 0x3F26BD02#32)))
    (addf (Host.sqrt (Host.divf (RQa x a3) (broadcastInDim Cert.Reference16Ideal.S1x8 ![] Cert.Reference16Ideal.Gen.bcast_S_S1x8 (constant Cert.Reference16Ideal.S_ .f32 0x3C231ACC#32)))) (broadcastInDim Cert.Reference16Ideal.S1x8 ![] Cert.Reference16Ideal.Gen.bcast_S_S1x8 (constant Cert.Reference16Ideal.S_ .f32 0x322BCC77#32))))
    (mulf (broadcastInDim Cert.Reference16Ideal.S1x8 ![] Cert.Reference16Ideal.Gen.bcast_S_S1x8 (constant Cert.Reference16Ideal.S_ .f32 0x3C23D70A#32)) a1))

theorem ua_M (g w : FVec Ideal S1x40x128 .f32) : ua (M g w) = M (ua g) (ua w) := rfl
theorem ua_Q (g w : FVec Ideal S1x40x128 .f32) : ua (Q g w) = Q (ua g) (ua w) := rfl
theorem ua_D (g w v u : FVec Ideal S1x40x128 .f32) : ua (D g w v u) = D (ua g) (ua w) (ua v) (ua u) := rfl

theorem Ra_M (x : FVec Ideal Cert.Reference16Ideal.S8x48x128 .f32) (a2 : FVec Ideal Cert.Reference16Ideal.S1x8 .f32) : M (RGa x) a2 = RMa x a2 := rfl
theorem Ra_Q (x : FVec Ideal Cert.Reference16Ideal.S8x48x128 .f32) (a3 : FVec Ideal Cert.Reference16Ideal.S1x8 .f32) : Q (RGa x) a3 = RQa x a3 := rfl
theorem Ra_D (x : FVec Ideal Cert.Reference16Ideal.S8x48x128 .f32) (a1 a2 a3 : FVec Ideal Cert.Reference16Ideal.S1x8 .f32) : D (RGa x) a1 a2 a3 = RDa x a1 a2 a3 := rfl

/-- the sum of the parts taken out of the packed array is the sum of the leaf's own parts -/
theorem sum_a (x : FVec Ideal S8x48x128 .f32) :
    ua (G40 (extractStridedSlice S8x40x128 ![0, 0, 0] x slices_S8x48x128_S8x40x128_0_0_0)) = RGa x := by
  funext z
  pointwise [ua, G40, RGa]

theorem pack_a (a : FVec Ideal S2x1024 .f32) (b d : FVec Ideal S1x8 .f32) (e : FVec Ideal S1x256 .f32) (f g : FVec Ideal S1x3x128 .f32) :
    ua (pack a b d e f g) = b := by
  funext z
  pointwise [ua, pack, stack]
  refine (gate0 b d (z 1) _ rfl).trans ?_
  exact congrArg b (at2 z _ _ (by have := (z 0).isLt; change (z 0).val < 1 at this; show 0 = _; omega) rfl)

def ud (x : FVec Ideal S1x40x128 .f32) : FVec Ideal S1x8 .f32 :=
  extractStridedSlice S1x8 ![17, 8] (shapeCast S40x128 x shapeCasts_S1x40x128_S40x128) slices_S40x128_S1x8_17_8

abbrev RGd (x : FVec Ideal Cert.Reference16Ideal.S8x48x128 .f32) : FVec Ideal Cert.Reference16Ideal.S1x8 .f32 :=
  Host.reduceAdd (shapeCast _ (shapeCast _ (extractStridedSlice Cert.Reference16Ideal.S8x1x8 ![0, 17, 8] x Cert.Reference16Ideal.Gen.slices_S8x48x128_S8x1x8_0_17_8) Cert.Reference16Ideal.Gen.shapeCasts_S8x1x8_S8x8) Cert.Reference16Ideal.Gen.shapeCasts_S8x8_S8x1x8) (constant Cert.Reference16Ideal.S_ .f32 0x00000000#32) Cert.Reference16Ideal.Gen.reducesTo_S8x1x8_S1x8_d0 Cert.Reference16Ideal.Gen.h_S_

abbrev RMd (x : FVec Ideal Cert.Reference16Ideal.S8x48x128 .f32) (a2 : FVec Ideal Cert.Reference16Ideal.S1x8 .f32) : FVec Ideal Cert.Reference16Ideal.S1x8 .f32 :=
  addf (mulf (broadcastInDim Cert.Reference16Ideal.S1x8 ![] Cert.Reference16Ideal.Gen.bcast_S_S1x8 (constant Cert.Reference16Ideal.S_ .f32 0x3F666666#32)) a2) (mulf (broadcastInDim Cert.Reference16Ideal.S1x8 ![] Cert.Reference16Ideal.Gen.bcast_S_S1x8 (constant Cert.Reference16Ideal.S_ .f32 0x3DCCCCCD#32)) (RGd x))

abbrev RQd (x : FVec Ideal Cert.Reference16Ideal.S8x48x128 .f32) (a3 : FVec Ideal Cert.Reference16Ideal.S1x8 .f32) : FVec Ideal Cert.Reference16Ideal.S1x8 .f32 :=
  addf (mulf (broadcastInDim Cert.Reference16Ideal.S1x8 ![] Cert.Reference16Ideal.Gen.bcast_S_S1x8 (constant Cert.Reference16Ideal.S_ .f32 0x3F7FBE77#32)) a3) (mulf (broadcastInDim Cert.Reference16Ideal.S1x8 ![] Cert.Reference16Ideal.Gen.bcast_S_S1x8 (constant Cert.Reference16Ideal.S_ .f32 0x3A83126F#32)) (mulf (RGd x) (RGd x)))

abbrev RDd (x : FVec Ideal Cert.Reference16Ideal.S8x48x128 .f32) (a1 a2 a3 : FVec Ideal Cert.Reference16Ideal.S1x8 .f32) : FVec Ideal Cert.Reference16Ideal.S1x8 .f32 :=
  mulf (broadcastInDim Cert.Reference16Ideal.S1x8 ![] Cert.Reference16Ideal.Gen.bcast_S_S1x8 (constant Cert.Reference16Ideal.S_ .f32 0xBA83126F#32)) (addf (Host.divf (Host.divf (RMd x a2) (broadcastInDim Cert.Reference16Ideal.S1x8 ![] Cert.Reference16Ideal.Gen.bcast_S_S1x8 (constant Cert.Reference16Ideal.S_ .f32 0x3F26BD02#32)))
    (addf (Host.sqrt (Host.divf (RQd x a3) (broadcastInDim Cert.Reference16Ideal.S1x8 ![] Cert.Reference16Ideal.Gen.bcast_S_S1x8 (constant Cert.Reference16Ideal.S_ .f32 0x3C231ACC#32)))) (broadcastInDim Cert.Reference16Ideal.S1x8 ![] Cert.Reference16Ideal.Gen.bcast_S_S1x8 (constant Cert.Reference16Ideal.S_ .f32 0x322BCC77#32))))
    (mulf (broadcastInDim Cert.Reference16Ideal.S1x8 ![] Cert.Reference16Ideal.Gen.bcast_S_S1x8 (constant Cert.Reference16Ideal.S_ .f32 0x3C23D70A#32)) a1))

theorem ud_M (g w : FVec Ideal S1x40x128 .f32) : ud (M g w) = M (ud g) (ud w) := rfl
theorem ud_Q (g w : FVec Ideal S1x40x128 .f32) : ud (Q g w) = Q (ud g) (ud w) := rfl
theorem ud_D (g w v u : FVec Ideal S1x40x128 .f32) : ud (D g w v u) = D (ud g) (ud w) (ud v) (ud u) := rfl

theorem Rd_M (x : FVec Ideal Cert.Reference16Ideal.S8x48x128 .f32) (a2 : FVec Ideal Cert.Reference16Ideal.S1x8 .f32) : M (RGd x) a2 = RMd x a2 := rfl
theorem Rd_Q (x : FVec Ideal Cert.Reference16Ideal.S8x48x128 .f32) (a3 : FVec Ideal Cert.Reference16Ideal.S1x8 .f32) : Q (RGd x) a3 = RQd x a3 := rfl
theorem Rd_D (x : FVec Ideal Cert.Reference16Ideal.S8x48x128 .f32) (a1 a2 a3 : FVec Ideal Cert.Reference16Ideal.S1x8 .f32) : D (RGd x) a1 a2 a3 = RDd x a1 a2 a3 := rfl

/-- the sum of the parts taken out of the packed array is the sum of the leaf's own parts -/
theorem sum_d (x : FVec Ideal S8x48x128 .f32) :
    ud (G40 (extractStridedSlice S8x40x128 ![0, 0, 0] x slices_S8x48x128_S8x40x128_0_0_0)) = RGd x := by
  funext z
  pointwise [ud, G40, RGd]

theorem pack_d (a : FVec Ideal S2x1024 .f32) (b d : FVec Ideal S1x8 .f32) (e : FVec Ideal S1x256 .f32) (f g : FVec Ideal S1x3x128 .f32) :
    ud (pack a b d e f g) = d := by
  funext z
  pointwise [ud, pack, stack]
  refine (gate1 b d (z 1) _ rfl).trans ?_
  exact congrArg d (at2 z _ _ (by have := (z 0).isLt; change (z 0).val < 1 at this; show 0 = _; omega) rfl)

def ug (x : FVec Ideal S1x40x128 .f32) : FVec Ideal S1x256 .f32 :=
  shapeCast S1x256 (extractStridedSlice S2x128 ![24, 0] (shapeCast S40x128 x shapeCasts_S1x40x128_S40x128) slices_S40x128_S2x128_24_0) shapeCasts_S2x128_S1x256

abbrev RGg (x : FVec Ideal Cert.Reference16Ideal.S8x48x128 .f32) : FVec Ideal Cert.Reference16Ideal.S1x256 .f32 :=
  Host.reduceAdd (shapeCast _ (extractStridedSlice Cert.Reference16Ideal.S8x2x128 ![0, 24, 0] x Cert.Reference16Ideal.Gen.slices_S8x48x128_S8x2x128_0_24_0) Cert.Reference16Ideal.Gen.shapeCasts_S8x2x128_S8x1x256) (constant Cert.Reference16Ideal.S_ .f32 0x00000000#32) Cert.Reference16Ideal.Gen.reducesTo_S8x1x256_S1x256_d0 Cert.Reference16Ideal.Gen.h_S_

abbrev RMg (x : FVec Ideal Cert.Reference16Ideal.S8x48x128 .f32) (a2 : FVec Ideal Cert.Reference16Ideal.S1x256 .f32) : FVec Ideal Cert.Reference16Ideal.S1x256 .f32 :=
  addf (mulf (broadcastInDim Cert.Reference16Ideal.S1x256 ![] Cert.Reference16Ideal.Gen.bcast_S_S1x256 (constant Cert.Reference16Ideal.S_ .f32 0x3F666666#32)) a2) (mulf (broadcastInDim Cert.Reference16Ideal.S1x256 ![] Cert.Reference16Ideal.Gen.bcast_S_S1x256 (constant Cert.Reference16Ideal.S_ .f32 0x3DCCCCCD#32)) (RGg x))

abbrev RQg (x : FVec Ideal Cert.Reference16Ideal.S8x48x128 .f32) (a3 : FVec Ideal Cert.Reference16Ideal.S1x256 .f32) : FVec Ideal Cert.Reference16Ideal.S1x256 .f32 :=
  addf (mulf (broadcastInDim Cert.Reference16Ideal.S1x256 ![] Cert.Reference16Ideal.Gen.bcast_S_S1x256 (constant Cert.Reference16Ideal.S_ .f32 0x3F7FBE77#32)) a3) (mulf (broadcastInDim Cert.Reference16Ideal.S1x256 ![] Cert.Reference16Ideal.Gen.bcast_S_S1x256 (constant Cert.Reference16Ideal.S_ .f32 0x3A83126F#32)) (mulf (RGg x) (RGg x)))

abbrev RDg (x : FVec Ideal Cert.Reference16Ideal.S8x48x128 .f32) (a1 a2 a3 : FVec Ideal Cert.Reference16Ideal.S1x256 .f32) : FVec Ideal Cert.Reference16Ideal.S1x256 .f32 :=
  mulf (broadcastInDim Cert.Reference16Ideal.S1x256 ![] Cert.Reference16Ideal.Gen.bcast_S_S1x256 (constant Cert.Reference16Ideal.S_ .f32 0xBA83126F#32)) (addf (Host.divf (Host.divf (RMg x a2) (broadcastInDim Cert.Reference16Ideal.S1x256 ![] Cert.Reference16Ideal.Gen.bcast_S_S1x256 (constant Cert.Reference16Ideal.S_ .f32 0x3F26BD02#32)))
    (addf (Host.sqrt (Host.divf (RQg x a3) (broadcastInDim Cert.Reference16Ideal.S1x256 ![] Cert.Reference16Ideal.Gen.bcast_S_S1x256 (constant Cert.Reference16Ideal.S_ .f32 0x3C231ACC#32)))) (broadcastInDim Cert.Reference16Ideal.S1x256 ![] Cert.Reference16Ideal.Gen.bcast_S_S1x256 (constant Cert.Reference16Ideal.S_ .f32 0x322BCC77#32))))
    (mulf (broadcastInDim Cert.Reference16Ideal.S1x256 ![] Cert.Reference16Ideal.Gen.bcast_S_S1x256 (constant Cert.Reference16Ideal.S_ .f32 0x3C23D70A#32)) a1))

theorem ug_M (g w : FVec Ideal S1x40x128 .f32) : ug (M g w) = M (ug g) (ug w) := rfl
theorem ug_Q (g w : FVec Ideal S1x40x128 .f32) : ug (Q g w) = Q (ug g) (ug w) := rfl
theorem ug_D (g w v u : FVec Ideal S1x40x128 .f32) : ug (D g w v u) = D (ug g) (ug w) (ug v) (ug u) := rfl

theorem Rg_M (x : FVec Ideal Cert.Reference16Ideal.S8x48x128 .f32) (a2 : FVec Ideal Cert.Reference16Ideal.S1x256 .f32) : M (RGg x) a2 = RMg x a2 := rfl
theorem Rg_Q (x : FVec Ideal Cert.Reference16Ideal.S8x48x128 .f32) (a3 : FVec Ideal Cert.Reference16Ideal.S1x256 .f32) : Q (RGg x) a3 = RQg x a3 := rfl
theorem Rg_D (x : FVec Ideal Cert.Reference16Ideal.S8x48x128 .f32) (a1 a2 a3 : FVec Ideal Cert.Reference16Ideal.S1x256 .f32) : D (RGg x) a1 a2 a3 = RDg x a1 a2 a3 := rfl

/-- the sum of the parts taken out of the packed array is the sum of the leaf's own parts -/
theorem sum_g (x : FVec Ideal S8x48x128 .f32) :
    ug (G40 (extractStridedSlice S8x40x128 ![0, 0, 0] x slices_S8x48x128_S8x40x128_0_0_0)) = RGg x := by
  funext z
  pointwise [ug, G40, RGg]

theorem pack_g (a : FVec Ideal S2x1024 .f32) (b d : FVec Ideal S1x8 .f32) (e : FVec Ideal S1x256 .f32) (f g : FVec Ideal S1x3x128 .f32) :
    ug (pack a b d e f g) = e := by
  funext z
  have h1 : (z 1).val < 256 := (z 1).isLt
  pointwise [ug, pack, stack, gainRows]
  repeat' split
  all_goals first | omega | rfl

def uq (x : FVec Ideal S1x40x128 .f32) : FVec Ideal S1x3x128 .f32 :=
  broadcastInDim S1x3x128 ![1, 2] bcast_S3x128_S1x3x128_1_2 (extractStridedSlice S3x128 ![32, 0] (shapeCast S40x128 x shapeCasts_S1x40x128_S40x128) slices_S40x128_S3x128_32_0)

abbrev RGq (x : FVec Ideal Cert.Reference16Ideal.S8x48x128 .f32) : FVec Ideal Cert.Reference16Ideal.S1x3x128 .f32 :=
  Host.reduceAdd (shapeCast _ (extractStridedSlice Cert.Reference16Ideal.S8x3x128 ![0, 32, 0] x Cert.Reference16Ideal.Gen.slices_S8x48x128_S8x3x128_0_32_0) Cert.Reference16Ideal.Gen.shapeCasts_S8x3x128_S8x1x3x128) (constant Cert.Reference16Ideal.S_ .f32 0x00000000#32) Cert.Reference16Ideal.Gen.reducesTo_S8x1x3x128_S1x3x128_d0 Cert.Reference16Ideal.Gen.h_S_

abbrev RMq (x : FVec Ideal Cert.Reference16Ideal.S8x48x128 .f32) (a2 : FVec Ideal Cert.Reference16Ideal.S1x3x128 .f32) : FVec Ideal Cert.Reference16Ideal.S1x3x128 .f32 :=
  addf (mulf (broadcastInDim Cert.Reference16Ideal.S1x3x128 ![] Cert.Reference16Ideal.Gen.bcast_S_S1x3x128 (constant Cert.Reference16Ideal.S_ .f32 0x3F666666#32)) a2) (mulf (broadcastInDim Cert.Reference16Ideal.S1x3x128 ![] Cert.Reference16Ideal.Gen.bcast_S_S1x3x128 (constant Cert.Reference16Ideal.S_ .f32 0x3DCCCCCD#32)) (RGq x))

abbrev RQq (x : FVec Ideal Cert.Reference16Ideal.S8x48x128 .f32) (a3 : FVec Ideal Cert.Reference16Ideal.S1x3x128 .f32) : FVec Ideal Cert.Reference16Ideal.S1x3x128 .f32 :=
  addf (mulf (broadcastInDim Cert.Reference16Ideal.S1x3x128 ![] Cert.Reference16Ideal.Gen.bcast_S_S1x3x128 (constant Cert.Reference16Ideal.S_ .f32 0x3F7FBE77#32)) a3) (mulf (broadcastInDim Cert.Reference16Ideal.S1x3x128 ![] Cert.Reference16Ideal.Gen.bcast_S_S1x3x128 (constant Cert.Reference16Ideal.S_ .f32 0x3A83126F#32)) (mulf (RGq x) (RGq x)))

abbrev RDq (x : FVec Ideal Cert.Reference16Ideal.S8x48x128 .f32) (a1 a2 a3 : FVec Ideal Cert.Reference16Ideal.S1x3x128 .f32) : FVec Ideal Cert.Reference16Ideal.S1x3x128 .f32 :=
  mulf (broadcastInDim Cert.Reference16Ideal.S1x3x128 ![] Cert.Reference16Ideal.Gen.bcast_S_S1x3x128 (constant Cert.Reference16Ideal.S_ .f32 0xBA83126F#32)) (addf (Host.divf (Host.divf (RMq x a2) (broadcastInDim Cert.Reference16Ideal.S1x3x128 ![] Cert.Reference16Ideal.Gen.bcast_S_S1x3x128 (constant Cert.Reference16Ideal.S_ .f32 0x3F26BD02#32)))
    (addf (Host.sqrt (Host.divf (RQq x a3) (broadcastInDim Cert.Reference16Ideal.S1x3x128 ![] Cert.Reference16Ideal.Gen.bcast_S_S1x3x128 (constant Cert.Reference16Ideal.S_ .f32 0x3C231ACC#32)))) (broadcastInDim Cert.Reference16Ideal.S1x3x128 ![] Cert.Reference16Ideal.Gen.bcast_S_S1x3x128 (constant Cert.Reference16Ideal.S_ .f32 0x322BCC77#32))))
    (mulf (broadcastInDim Cert.Reference16Ideal.S1x3x128 ![] Cert.Reference16Ideal.Gen.bcast_S_S1x3x128 (constant Cert.Reference16Ideal.S_ .f32 0x3C23D70A#32)) a1))

theorem uq_M (g w : FVec Ideal S1x40x128 .f32) : uq (M g w) = M (uq g) (uq w) := rfl
theorem uq_Q (g w : FVec Ideal S1x40x128 .f32) : uq (Q g w) = Q (uq g) (uq w) := rfl
theorem uq_D (g w v u : FVec Ideal S1x40x128 .f32) : uq (D g w v u) = D (uq g) (uq w) (uq v) (uq u) := rfl

theorem Rq_M (x : FVec Ideal Cert.Reference16Ideal.S8x48x128 .f32) (a2 : FVec Ideal Cert.Reference16Ideal.S1x3x128 .f32) : M (RGq x) a2 = RMq x a2 := rfl
theorem Rq_Q (x : FVec Ideal Cert.Reference16Ideal.S8x48x128 .f32) (a3 : FVec Ideal Cert.Reference16Ideal.S1x3x128 .f32) : Q (RGq x) a3 = RQq x a3 := rfl
theorem Rq_D (x : FVec Ideal Cert.Reference16Ideal.S8x48x128 .f32) (a1 a2 a3 : FVec Ideal Cert.Reference16Ideal.S1x3x128 .f32) : D (RGq x) a1 a2 a3 = RDq x a1 a2 a3 := rfl

/-- the sum of the parts taken out of the packed array is the sum of the leaf's own parts -/
theorem sum_q (x : FVec Ideal S8x48x128 .f32) :
    uq (G40 (extractStridedSlice S8x40x128 ![0, 0, 0] x slices_S8x48x128_S8x40x128_0_0_0)) = RGq x := by
  funext z
  pointwise [uq, G40, RGq]

theorem pack_q (a : FVec Ideal S2x1024 .f32) (b d : FVec Ideal S1x8 .f32) (e : FVec Ideal S1x256 .f32) (f g : FVec Ideal S1x3x128 .f32) :
    uq (pack a b d e f g) = f := by
  funext z
  have h1 : (z 1).val < 3 := (z 1).isLt
  pointwise [uq, pack, stack, headRows]
  have h0 : (z 0).val < 1 := (z 0).isLt
  repeat' split
  all_goals first | omega | exact congrArg f (at3 z _ _ _ (by show 0 = _; omega) (by show 32 + _ - 8 - 8 - 8 - 8 = _; omega) rfl)

def uk (x : FVec Ideal S1x40x128 .f32) : FVec Ideal S1x3x128 .f32 :=
  broadcastInDim S1x3x128 ![1, 2] bcast_S3x128_S1x3x128_1_2 (extractStridedSlice S3x128 ![35, 0] (shapeCast S40x128 x shapeCasts_S1x40x128_S40x128) slices_S40x128_S3x128_35_0)

abbrev RGk (x : FVec Ideal Cert.Reference16Ideal.S8x48x128 .f32) : FVec Ideal Cert.Reference16Ideal.S1x3x128 .f32 :=
  Host.reduceAdd (shapeCast _ (extractStridedSlice Cert.Reference16Ideal.S8x3x128 ![0, 35, 0] x Cert.Reference16Ideal.Gen.slices_S8x48x128_S8x3x128_0_35_0) Cert.Reference16Ideal.Gen.shapeCasts_S8x3x128_S8x1x3x128) (constant Cert.Reference16Ideal.S_ .f32 0x00000000#32) Cert.Reference16Ideal.Gen.reducesTo_S8x1x3x128_S1x3x128_d0 Cert.Reference16Ideal.Gen.h_S_

abbrev RMk (x : FVec Ideal Cert.Reference16Ideal.S8x48x128 .f32) (a2 : FVec Ideal Cert.Reference16Ideal.S1x3x128 .f32) : FVec Ideal Cert.Reference16Ideal.S1x3x128 .f32 :=
  addf (mulf (broadcastInDim Cert.Reference16Ideal.S1x3x128 ![] Cert.Reference16Ideal.Gen.bcast_S_S1x3x128 (constant Cert.Reference16Ideal.S_ .f32 0x3F666666#32)) a2) (mulf (broadcastInDim Cert.Reference16Ideal.S1x3x128 ![] Cert.Reference16Ideal.Gen.bcast_S_S1x3x128 (constant Cert.Reference16Ideal.S_ .f32 0x3DCCCCCD#32)) (RGk x))

abbrev RQk (x : FVec Ideal Cert.Reference16Ideal.S8x48x128 .f32) (a3 : FVec Ideal Cert.Reference16Ideal.S1x3x128 .f32) : FVec Ideal Cert.Reference16Ideal.S1x3x128 .f32 :=
  addf (mulf (broadcastInDim Cert.Reference16Ideal.S1x3x128 ![] Cert.Reference16Ideal.Gen.bcast_S_S1x3x128 (constant Cert.Reference16Ideal.S_ .f32 0x3F7FBE77#32)) a3) (mulf (broadcastInDim Cert.Reference16Ideal.S1x3x128 ![] Cert.Reference16Ideal.Gen.bcast_S_S1x3x128 (constant Cert.Reference16Ideal.S_ .f32 0x3A83126F#32)) (mulf (RGk x) (RGk x)))

abbrev RDk (x : FVec Ideal Cert.Reference16Ideal.S8x48x128 .f32) (a1 a2 a3 : FVec Ideal Cert.Reference16Ideal.S1x3x128 .f32) : FVec Ideal Cert.Reference16Ideal.S1x3x128 .f32 :=
  mulf (broadcastInDim Cert.Reference16Ideal.S1x3x128 ![] Cert.Reference16Ideal.Gen.bcast_S_S1x3x128 (constant Cert.Reference16Ideal.S_ .f32 0xBA83126F#32)) (addf (Host.divf (Host.divf (RMk x a2) (broadcastInDim Cert.Reference16Ideal.S1x3x128 ![] Cert.Reference16Ideal.Gen.bcast_S_S1x3x128 (constant Cert.Reference16Ideal.S_ .f32 0x3F26BD02#32)))
    (addf (Host.sqrt (Host.divf (RQk x a3) (broadcastInDim Cert.Reference16Ideal.S1x3x128 ![] Cert.Reference16Ideal.Gen.bcast_S_S1x3x128 (constant Cert.Reference16Ideal.S_ .f32 0x3C231ACC#32)))) (broadcastInDim Cert.Reference16Ideal.S1x3x128 ![] Cert.Reference16Ideal.Gen.bcast_S_S1x3x128 (constant Cert.Reference16Ideal.S_ .f32 0x322BCC77#32))))
    (mulf (broadcastInDim Cert.Reference16Ideal.S1x3x128 ![] Cert.Reference16Ideal.Gen.bcast_S_S1x3x128 (constant Cert.Reference16Ideal.S_ .f32 0x3C23D70A#32)) a1))

theorem uk_M (g w : FVec Ideal S1x40x128 .f32) : uk (M g w) = M (uk g) (uk w) := rfl
theorem uk_Q (g w : FVec Ideal S1x40x128 .f32) : uk (Q g w) = Q (uk g) (uk w) := rfl
theorem uk_D (g w v u : FVec Ideal S1x40x128 .f32) : uk (D g w v u) = D (uk g) (uk w) (uk v) (uk u) := rfl

theorem Rk_M (x : FVec Ideal Cert.Reference16Ideal.S8x48x128 .f32) (a2 : FVec Ideal Cert.Reference16Ideal.S1x3x128 .f32) : M (RGk x) a2 = RMk x a2 := rfl
theorem Rk_Q (x : FVec Ideal Cert.Reference16Ideal.S8x48x128 .f32) (a3 : FVec Ideal Cert.Reference16Ideal.S1x3x128 .f32) : Q (RGk x) a3 = RQk x a3 := rfl
theorem Rk_D (x : FVec Ideal Cert.Reference16Ideal.S8x48x128 .f32) (a1 a2 a3 : FVec Ideal Cert.Reference16Ideal.S1x3x128 .f32) : D (RGk x) a1 a2 a3 = RDk x a1 a2 a3 := rfl

/-- the sum of the parts taken out of the packed array is the sum of the leaf's own parts -/
theorem sum_k (x : FVec Ideal S8x48x128 .f32) :
    uk (G40 (extractStridedSlice S8x40x128 ![0, 0, 0] x slices_S8x48x128_S8x40x128_0_0_0)) = RGk x := by
  funext z
  pointwise [uk, G40, RGk]

theorem pack_k (a : FVec Ideal S2x1024 .f32) (b d : FVec Ideal S1x8 .f32) (e : FVec Ideal S1x256 .f32) (f g : FVec Ideal S1x3x128 .f32) :
    uk (pack a b d e f g) = g := by
  funext z
  have h1 : (z 1).val < 3 := (z 1).isLt
  pointwise [uk, pack, stack, headRows]
  have h0 : (z 0).val < 1 := (z 0).isLt
  repeat' split
  all_goals first | omega | exact congrArg g (at3 z _ _ _ (by show 0 = _; omega) (by show 35 + _ - 8 - 8 - 8 - 8 - 3 = _; omega) rfl)

end Cert.Kernel16Ideal.AdamSmallB

end
-- ==== Proof.AdamSmallC.lean ====
module
public import proofs.«01_k».proof.Proof.Gen.Kernel16Ideal.Frame
public import proofs.«01_k».proof.Proof.Gen.Reference16Ideal
public import Idealize.ShloMosaic.Lib.Pipeline.ValueKit
public import proofs.«01_k».proof.Proof.AdamSmallB

/-! The results of the program that updates the packed small leaves. -/

set_option maxRecDepth 16384

@[expose] public section

noncomputable section

open Idealize.ShloMosaic Idealize.ShloMosaic.TcCoe Idealize.SL.Sem
open Idealize.ShloMosaic.Pipeline (Dat)
open scoped BigOperators

namespace Cert.Kernel16Ideal.AdamSmallC

open Cert.Kernel16Ideal.AdamSmallA Cert.Kernel16Ideal.AdamSmallB Cert.Kernel16Ideal Cert.Kernel16Ideal.Gen

variable (m : (ℓ : Loc nD τ sig) → Buf (Elt Ideal) ℓ)

abbrev LOSS (x : FVec Ideal Cert.Reference16Ideal.S8x48x128 .f32) : FVec Ideal Cert.Reference16Ideal.S_ .f32 :=
  Host.reduceAdd (shapeCast _ (extractStridedSlice Cert.Reference16Ideal.S8x1x1 ![0, 40, 0] x Cert.Reference16Ideal.Gen.slices_S8x48x128_S8x1x1_0_40_0) Cert.Reference16Ideal.Gen.shapeCasts_S8x1x1_S8) (constant Cert.Reference16Ideal.S_ .f32 0x00000000#32) Cert.Reference16Ideal.Gen.reducesTo_S8_S_d0 Cert.Reference16Ideal.Gen.h_S_

theorem V_loss (c : Dev nD) : V0 m c main_v2 = LOSS (m ((c : Thread nD τ).loc main_arg0)) := by
  unfold V0
  simp only [List.flatten_cons, List.flatten_nil, List.append_nil, List.cons_append, List.nil_append]
  after_results
  rfl

theorem outLoss (c : Dev nD) : Pipeline.afterTail₀ cfgs (dats m) 0 (V0 m) [hostOps1] c main_v2 = LOSS (m ((c : Thread nD τ).loc main_arg0)) := by
  refine Eq.trans ?_ (V_loss m c)
  unfold Pipeline.afterTail₀
  simp only [List.flatten_cons, List.flatten_nil, List.append_nil]
  after_results
  exact Pipeline.withArrays_of_ne _ c (V0 m c) _ main_v2 (by exact (by decide : ∀ w, Pipeline.arrRef spec0 w ≠ main_v2))

theorem out4n (c : Dev nD) : Pipeline.afterTail₀ cfgs (dats m) 0 (V0 m) [hostOps1] c main_v85 = RGn (m ((c : Thread nD τ).loc main_arg0)) := by
  have e : Pipeline.afterTail₀ cfgs (dats m) 0 (V0 m) [hostOps1] c main_v85 = un ((dats m 0 c).arrAt 4 (cfgs 0).N) := by
    unfold Pipeline.afterTail₀
    simp only [List.flatten_cons, List.flatten_nil, List.append_nil]
    after_results
    exact congrArg un (Pipeline.withArrays_arr spec0 (by decide) c (V0 m c) (fun w => (dats m 0 c).arrAt w (cfgs 0).N) 4)
  refine e.trans ?_
  rw [arr4, V_g, sum_n]

theorem out4a (c : Dev nD) : Pipeline.afterTail₀ cfgs (dats m) 0 (V0 m) [hostOps1] c main_v86 = RGa (m ((c : Thread nD τ).loc main_arg0)) := by
  have e : Pipeline.afterTail₀ cfgs (dats m) 0 (V0 m) [hostOps1] c main_v86 = ua ((dats m 0 c).arrAt 4 (cfgs 0).N) := by
    unfold Pipeline.afterTail₀
    simp only [List.flatten_cons, List.flatten_nil, List.append_nil]
    after_results
    exact congrArg ua (Pipeline.withArrays_arr spec0 (by decide) c (V0 m c) (fun w => (dats m 0 c).arrAt w (cfgs 0).N) 4)
  refine e.trans ?_
  rw [arr4, V_g, sum_a]

theorem out4d (c : Dev nD) : Pipeline.afterTail₀ cfgs (dats m) 0 (V0 m) [hostOps1] c main_v87 = RGd (m ((c : Thread nD τ).loc main_arg0)) := by
  have e : Pipeline.afterTail₀ cfgs (dats m) 0 (V0 m) [hostOps1] c main_v87 = ud ((dats m 0 c).arrAt 4 (cfgs 0).N) := by
    unfold Pipeline.afterTail₀
    simp only [List.flatten_cons, List.flatten_nil, List.append_nil]
    after_results
    exact congrArg ud (Pipeline.withArrays_arr spec0 (by decide) c (V0 m c) (fun w => (dats m 0 c).arrAt w (cfgs 0).N) 4)
  refine e.trans ?_
  rw [arr4, V_g, sum_d]

theorem out4g (c : Dev nD) : Pipeline.afterTail₀ cfgs (dats m) 0 (V0 m) [hostOps1] c main_v89 = RGg (m ((c : Thread nD τ).loc main_arg0)) := by
  have e : Pipeline.afterTail₀ cfgs (dats m) 0 (V0 m) [hostOps1] c main_v89 = ug ((dats m 0 c).arrAt 4 (cfgs 0).N) := by
    unfold Pipeline.afterTail₀
    simp only [List.flatten_cons, List.flatten_nil, List.append_nil]
    after_results
    exact congrArg ug (Pipeline.withArrays_arr spec0 (by decide) c (V0 m c) (fun w => (dats m 0 c).arrAt w (cfgs 0).N) 4)
  refine e.trans ?_
  rw [arr4, V_g, sum_g]

theorem out4q (c : Dev nD) : Pipeline.afterTail₀ cfgs (dats m) 0 (V0 m) [hostOps1] c main_v91 = RGq (m ((c : Thread nD τ).loc main_arg0)) := by
  have e : Pipeline.afterTail₀ cfgs (dats m) 0 (V0 m) [hostOps1] c main_v91 = uq ((dats m 0 c).arrAt 4 (cfgs 0).N) := by
    unfold Pipeline.afterTail₀
    simp only [List.flatten_cons, List.flatten_nil, List.append_nil]
    after_results
    exact congrArg uq (Pipeline.withArrays_arr spec0 (by decide) c (V0 m c) (fun w => (dats m 0 c).arrAt w (cfgs 0).N) 4)
  refine e.trans ?_
  rw [arr4, V_g, sum_q]

theorem out4k (c : Dev nD) : Pipeline.afterTail₀ cfgs (dats m) 0 (V0 m) [hostOps1] c main_v93 = RGk (m ((c : Thread nD τ).loc main_arg0)) := by
  have e : Pipeline.afterTail₀ cfgs (dats m) 0 (V0 m) [hostOps1] c main_v93 = uk ((dats m 0 c).arrAt 4 (cfgs 0).N) := by
    unfold Pipeline.afterTail₀
    simp only [List.flatten_cons, List.flatten_nil, List.append_nil]
    after_results
    exact congrArg uk (Pipeline.withArrays_arr spec0 (by decide) c (V0 m c) (fun w => (dats m 0 c).arrAt w (cfgs 0).N) 4)
  refine e.trans ?_
  rw [arr4, V_g, sum_k]

theorem out5n (c : Dev nD) : Pipeline.afterTail₀ cfgs (dats m) 0 (V0 m) [hostOps1] c main_v96 = RDn (m ((c : Thread nD τ).loc main_arg0)) (m ((c : Thread nD τ).loc main_arg1)) (m ((c : Thread nD τ).loc main_arg7)) (m ((c : Thread nD τ).loc main_arg13)) := by
  have e : Pipeline.afterTail₀ cfgs (dats m) 0 (V0 m) [hostOps1] c main_v96 = un ((dats m 0 c).arrAt 5 (cfgs 0).N) := by
    unfold Pipeline.afterTail₀
    simp only [List.flatten_cons, List.flatten_nil, List.append_nil]
    after_results
    exact congrArg un (Pipeline.withArrays_arr spec0 (by decide) c (V0 m c) (fun w => (dats m 0 c).arrAt w (cfgs 0).N) 5)
  refine e.trans ?_
  rw [arr5, un_D, V_g, sum_n, V_w, V_m, V_v, pack_n, pack_n, pack_n]
  rfl

theorem out5a (c : Dev nD) : Pipeline.afterTail₀ cfgs (dats m) 0 (V0 m) [hostOps1] c main_v97 = RDa (m ((c : Thread nD τ).loc main_arg0)) (m ((c : Thread nD τ).loc main_arg2)) (m ((c : Thread nD τ).loc main_arg8)) (m ((c : Thread nD τ).loc main_arg14)) := by
  have e : Pipeline.afterTail₀ cfgs (dats m) 0 (V0 m) [hostOps1] c main_v97 = ua ((dats m 0 c).arrAt 5 (cfgs 0).N) := by
    unfold Pipeline.afterTail₀
    simp only [List.flatten_cons, List.flatten_nil, List.append_nil]
    after_results
    exact congrArg ua (Pipeline.withArrays_arr spec0 (by decide) c (V0 m c) (fun w => (dats m 0 c).arrAt w (cfgs 0).N) 5)
  refine e.trans ?_
  rw [arr5, ua_D, V_g, sum_a, V_w, V_m, V_v, pack_a, pack_a, pack_a]
  rfl

theorem out5d (c : Dev nD) : Pipeline.afterTail₀ cfgs (dats m) 0 (V0 m) [hostOps1] c main_v98 = RDd (m ((c : Thread nD τ).loc main_arg0)) (m ((c : Thread nD τ).loc main_arg3)) (m ((c : Thread nD τ).loc main_arg9)) (m ((c : Thread nD τ).loc main_arg15)) := by
  have e : Pipeline.afterTail₀ cfgs (dats m) 0 (V0 m) [hostOps1] c main_v98 = ud ((dats m 0 c).arrAt 5 (cfgs 0).N) := by
    unfold Pipeline.afterTail₀
    simp only [List.flatten_cons, List.flatten_nil, List.append_nil]
    after_results
    exact congrArg ud (Pipeline.withArrays_arr spec0 (by decide) c (V0 m c) (fun w => (dats m 0 c).arrAt w (cfgs 0).N) 5)
  refine e.trans ?_
  rw [arr5, ud_D, V_g, sum_d, V_w, V_m, V_v, pack_d, pack_d, pack_d]
  rfl

theorem out5g (c : Dev nD) : Pipeline.afterTail₀ cfgs (dats m) 0 (V0 m) [hostOps1] c main_v100 = RDg (m ((c : Thread nD τ).loc main_arg0)) (m ((c : Thread nD τ).loc main_arg4)) (m ((c : Thread nD τ).loc main_arg10)) (m ((c : Thread nD τ).loc main_arg16)) := by
  have e : Pipeline.afterTail₀ cfgs (dats m) 0 (V0 m) [hostOps1] c main_v100 = ug ((dats m 0 c).arrAt 5 (cfgs 0).N) := by
    unfold Pipeline.afterTail₀
    simp only [List.flatten_cons, List.flatten_nil, List.append_nil]
    after_results
    exact congrArg ug (Pipeline.withArrays_arr spec0 (by decide) c (V0 m c) (fun w => (dats m 0 c).arrAt w (cfgs 0).N) 5)
  refine e.trans ?_
  rw [arr5, ug_D, V_g, sum_g, V_w, V_m, V_v, pack_g, pack_g, pack_g]
  rfl

theorem out5q (c : Dev nD) : Pipeline.afterTail₀ cfgs (dats m) 0 (V0 m) [hostOps1] c main_v102 = RDq (m ((c : Thread nD τ).loc main_arg0)) (m ((c : Thread nD τ).loc main_arg5)) (m ((c : Thread nD τ).loc main_arg11)) (m ((c : Thread nD τ).loc main_arg17)) := by
  have e : Pipeline.afterTail₀ cfgs (dats m) 0 (V0 m) [hostOps1] c main_v102 = uq ((dats m 0 c).arrAt 5 (cfgs 0).N) := by
    unfold Pipeline.afterTail₀
    simp only [List.flatten_cons, List.flatten_nil, List.append_nil]
    after_results
    exact congrArg uq (Pipeline.withArrays_arr spec0 (by decide) c (V0 m c) (fun w => (dats m 0 c).arrAt w (cfgs 0).N) 5)
  refine e.trans ?_
  rw [arr5, uq_D, V_g, sum_q, V_w, V_m, V_v, pack_q, pack_q, pack_q]
  rfl

theorem out5k (c : Dev nD) : Pipeline.afterTail₀ cfgs (dats m) 0 (V0 m) [hostOps1] c main_v104 = RDk (m ((c : Thread nD τ).loc main_arg0)) (m ((c : Thread nD τ).loc main_arg6)) (m ((c : Thread nD τ).loc main_arg12)) (m ((c : Thread nD τ).loc main_arg18)) := by
  have e : Pipeline.afterTail₀ cfgs (dats m) 0 (V0 m) [hostOps1] c main_v104 = uk ((dats m 0 c).arrAt 5 (cfgs 0).N) := by
    unfold Pipeline.afterTail₀
    simp only [List.flatten_cons, List.flatten_nil, List.append_nil]
    after_results
    exact congrArg uk (Pipeline.withArrays_arr spec0 (by decide) c (V0 m c) (fun w => (dats m 0 c).arrAt w (cfgs 0).N) 5)
  refine e.trans ?_
  rw [arr5, uk_D, V_g, sum_k, V_w, V_m, V_v, pack_k, pack_k, pack_k]
  rfl

theorem out6n (c : Dev nD) : Pipeline.afterTail₀ cfgs (dats m) 0 (V0 m) [hostOps1] c main_v107 = RMn (m ((c : Thread nD τ).loc main_arg0)) (m ((c : Thread nD τ).loc main_arg7)) := by
  have e : Pipeline.afterTail₀ cfgs (dats m) 0 (V0 m) [hostOps1] c main_v107 = un ((dats m 0 c).arrAt 6 (cfgs 0).N) := by
    unfold Pipeline.afterTail₀
    simp only [List.flatten_cons, List.flatten_nil, List.append_nil]
    after_results
    exact congrArg un (Pipeline.withArrays_arr spec0 (by decide) c (V0 m c) (fun w => (dats m 0 c).arrAt w (cfgs 0).N) 6)
  refine e.trans ?_
  rw [arr6, un_M, V_g, sum_n, V_m, pack_n]
  rfl

theorem out6a (c : Dev nD) : Pipeline.afterTail₀ cfgs (dats m) 0 (V0 m) [hostOps1] c main_v108 = RMa (m ((c : Thread nD τ).loc main_arg0)) (m ((c : Thread nD τ).loc main_arg8)) := by
  have e : Pipeline.afterTail₀ cfgs (dats m) 0 (V0 m) [hostOps1] c main_v108 = ua ((dats m 0 c).arrAt 6 (cfgs 0).N) := by
    unfold Pipeline.afterTail₀
    simp only [List.flatten_cons, List.flatten_nil, List.append_nil]
    after_results
    exact congrArg ua (Pipeline.withArrays_arr spec0 (by decide) c (V0 m c) (fun w => (dats m 0 c).arrAt w (cfgs 0).N) 6)
  refine e.trans ?_
  rw [arr6, ua_M, V_g, sum_a, V_m, pack_a]
  rfl

theorem out6d (c : Dev nD) : Pipeline.afterTail₀ cfgs (dats m) 0 (V0 m) [hostOps1] c main_v109 = RMd (m ((c : Thread nD τ).loc main_arg0)) (m ((c : Thread nD τ).loc main_arg9)) := by
  have e : Pipeline.afterTail₀ cfgs (dats m) 0 (V0 m) [hostOps1] c main_v109 = ud ((dats m 0 c).arrAt 6 (cfgs 0).N) := by
    unfold Pipeline.afterTail₀
    simp only [List.flatten_cons, List.flatten_nil, List.append_nil]
    after_results
    exact congrArg ud (Pipeline.withArrays_arr spec0 (by decide) c (V0 m c) (fun w => (dats m 0 c).arrAt w (cfgs 0).N) 6)
  refine e.trans ?_
  rw [arr6, ud_M, V_g, sum_d, V_m, pack_d]
  rfl

theorem out6g (c : Dev nD) : Pipeline.afterTail₀ cfgs (dats m) 0 (V0 m) [hostOps1] c main_v111 = RMg (m ((c : Thread nD τ).loc main_arg0)) (m ((c : Thread nD τ).loc main_arg10)) := by
  have e : Pipeline.afterTail₀ cfgs (dats m) 0 (V0 m) [hostOps1] c main_v111 = ug ((dats m 0 c).arrAt 6 (cfgs 0).N) := by
    unfold Pipeline.afterTail₀
    simp only [List.flatten_cons, List.flatten_nil, List.append_nil]
    after_results
    exact congrArg ug (Pipeline.withArrays_arr spec0 (by decide) c (V0 m c) (fun w => (dats m 0 c).arrAt w (cfgs 0).N) 6)
  refine e.trans ?_
  rw [arr6, ug_M, V_g, sum_g, V_m, pack_g]
  rfl

theorem out6q (c : Dev nD) : Pipeline.afterTail₀ cfgs (dats m) 0 (V0 m) [hostOps1] c main_v113 = RMq (m ((c : Thread nD τ).loc main_arg0)) (m ((c : Thread nD τ).loc main_arg11)) := by
  have e : Pipeline.afterTail₀ cfgs (dats m) 0 (V0 m) [hostOps1] c main_v113 = uq ((dats m 0 c).arrAt 6 (cfgs 0).N) := by
    unfold Pipeline.afterTail₀
    simp only [List.flatten_cons, List.flatten_nil, List.append_nil]
    after_results
    exact congrArg uq (Pipeline.withArrays_arr spec0 (by decide) c (V0 m c) (fun w => (dats m 0 c).arrAt w (cfgs 0).N) 6)
  refine e.trans ?_
  rw [arr6, uq_M, V_g, sum_q, V_m, pack_q]
  rfl

theorem out6k (c : Dev nD) : Pipeline.afterTail₀ cfgs (dats m) 0 (V0 m) [hostOps1] c main_v115 = RMk (m ((c : Thread nD τ).loc main_arg0)) (m ((c : Thread nD τ).loc main_arg12)) := by
  have e : Pipeline.afterTail₀ cfgs (dats m) 0 (V0 m) [hostOps1] c main_v115 = uk ((dats m 0 c).arrAt 6 (cfgs 0).N) := by
    unfold Pipeline.afterTail₀
    simp only [List.flatten_cons, List.flatten_nil, List.append_nil]
    after_results
    exact congrArg uk (Pipeline.withArrays_arr spec0 (by decide) c (V0 m c) (fun w => (dats m 0 c).arrAt w (cfgs 0).N) 6)
  refine e.trans ?_
  rw [arr6, uk_M, V_g, sum_k, V_m, pack_k]
  rfl

theorem out7n (c : Dev nD) : Pipeline.afterTail₀ cfgs (dats m) 0 (V0 m) [hostOps1] c main_v118 = RQn (m ((c : Thread nD τ).loc main_arg0)) (m ((c : Thread nD τ).loc main_arg13)) := by
  have e : Pipeline.afterTail₀ cfgs (dats m) 0 (V0 m) [hostOps1] c main_v118 = un ((dats m 0 c).arrAt 7 (cfgs 0).N) := by
    unfold Pipeline.afterTail₀
    simp only [List.flatten_cons, List.flatten_nil, List.append_nil]
    after_results
    exact congrArg un (Pipeline.withArrays_arr spec0 (by decide) c (V0 m c) (fun w => (dats m 0 c).arrAt w (cfgs 0).N) 7)
  refine e.trans ?_
  rw [arr7, un_Q, V_g, sum_n, V_v, pack_n]
  rfl

theorem out7a (c : Dev nD) : Pipeline.afterTail₀ cfgs (dats m) 0 (V0 m) [hostOps1] c main_v119 = RQa (m ((c : Thread nD τ).loc main_arg0)) (m ((c : Thread nD τ).loc main_arg14)) := by
  have e : Pipeline.afterTail₀ cfgs (dats m) 0 (V0 m) [hostOps1] c main_v119 = ua ((dats m 0 c).arrAt 7 (cfgs 0).N) := by
    unfold Pipeline.afterTail₀
    simp only [List.flatten_cons, List.flatten_nil, List.append_nil]
    after_results
    exact congrArg ua (Pipeline.withArrays_arr spec0 (by decide) c (V0 m c) (fun w => (dats m 0 c).arrAt w (cfgs 0).N) 7)
  refine e.trans ?_
  rw [arr7, ua_Q, V_g, sum_a, V_v, pack_a]
  rfl

theorem out7d (c : Dev nD) : Pipeline.afterTail₀ cfgs (dats m) 0 (V0 m) [hostOps1] c main_v120 = RQd (m ((c : Thread nD τ).loc main_arg0)) (m ((c : Thread nD τ).loc main_arg15)) := by
  have e : Pipeline.afterTail₀ cfgs (dats m) 0 (V0 m) [hostOps1] c main_v120 = ud ((dats m 0 c).arrAt 7 (cfgs 0).N) := by
    unfold Pipeline.afterTail₀
    simp only [List.flatten_cons, List.flatten_nil, List.append_nil]
    after_results
    exact congrArg ud (Pipeline.withArrays_arr spec0 (by decide) c (V0 m c) (fun w => (dats m 0 c).arrAt w (cfgs 0).N) 7)
  refine e.trans ?_
  rw [arr7, ud_Q, V_g, sum_d, V_v, pack_d]
  rfl

theorem out7g (c : Dev nD) : Pipeline.afterTail₀ cfgs (dats m) 0 (V0 m) [hostOps1] c main_v122 = RQg (m ((c : Thread nD τ).loc main_arg0)) (m ((c : Thread nD τ).loc main_arg16)) := by
  have e : Pipeline.afterTail₀ cfgs (dats m) 0 (V0 m) [hostOps1] c main_v122 = ug ((dats m 0 c).arrAt 7 (cfgs 0).N) := by
    unfold Pipeline.afterTail₀
    simp only [List.flatten_cons, List.flatten_nil, List.append_nil]
    after_results
    exact congrArg ug (Pipeline.withArrays_arr spec0 (by decide) c (V0 m c) (fun w => (dats m 0 c).arrAt w (cfgs 0).N) 7)
  refine e.trans ?_
  rw [arr7, ug_Q, V_g, sum_g, V_v, pack_g]
  rfl

theorem out7q (c : Dev nD) : Pipeline.afterTail₀ cfgs (dats m) 0 (V0 m) [hostOps1] c main_v124 = RQq (m ((c : Thread nD τ).loc main_arg0)) (m ((c : Thread nD τ).loc main_arg17)) := by
  have e : Pipeline.afterTail₀ cfgs (dats m) 0 (V0 m) [hostOps1] c main_v124 = uq ((dats m 0 c).arrAt 7 (cfgs 0).N) := by
    unfold Pipeline.afterTail₀
    simp only [List.flatten_cons, List.flatten_nil, List.append_nil]
    after_results
    exact congrArg uq (Pipeline.withArrays_arr spec0 (by decide) c (V0 m c) (fun w => (dats m 0 c).arrAt w (cfgs 0).N) 7)
  refine e.trans ?_
  rw [arr7, uq_Q, V_g, sum_q, V_v, pack_q]
  rfl

theorem out7k (c : Dev nD) : Pipeline.afterTail₀ cfgs (dats m) 0 (V0 m) [hostOps1] c main_v126 = RQk (m ((c : Thread nD τ).loc main_arg0)) (m ((c : Thread nD τ).loc main_arg18)) := by
  have e : Pipeline.afterTail₀ cfgs (dats m) 0 (V0 m) [hostOps1] c main_v126 = uk ((dats m 0 c).arrAt 7 (cfgs 0).N) := by
    unfold Pipeline.afterTail₀
    simp only [List.flatten_cons, List.flatten_nil, List.append_nil]
    after_results
    exact congrArg uk (Pipeline.withArrays_arr spec0 (by decide) c (V0 m c) (fun w => (dats m 0 c).arrAt w (cfgs 0).N) 7)
  refine e.trans ?_
  rw [arr7, uk_Q, V_g, sum_k, V_v, pack_k]
  rfl

end Cert.Kernel16Ideal.AdamSmallC

end
-- ==== Proof.OutNorm.lean ====
module
public import proofs.«01_k».proof.Proof.Gen.Kernel17Ideal.Frame
public import proofs.«01_k».proof.Proof.Gen.Reference17Ideal
public import Idealize.ShloMosaic.Lib.Pipeline.ValueKit

/-! The recurrent layer's output projection added to its input, and the norm of the sum, in rows and transposed. -/

set_option maxRecDepth 16384

@[expose] public section

noncomputable section

open Idealize.ShloMosaic Idealize.ShloMosaic.TcCoe Idealize.SL.Sem
open Idealize.ShloMosaic.Pipeline (Dat)
open scoped BigOperators

namespace Cert.Kernel17Ideal.OutNorm

open Cert.Kernel17Ideal Cert.Kernel17Ideal.Gen

variable (m : (ℓ : Loc nD τ sig) → Buf (Elt Ideal) ℓ)

/-- the residual stream after the layer -/
abbrev X (a0 : FVec Ideal Cert.Reference17Ideal.S4096x2048 .f32) (a1 : FVec Ideal Cert.Reference17Ideal.S2048x1024 .f32) (a2 : FVec Ideal Cert.Reference17Ideal.S4096x1024 .f32) : FVec Ideal Cert.Reference17Ideal.S4096x1024 .f32 :=
  addf a2 (Host.dotGeneral Cert.Reference17Ideal.dot_S4096x2048_S2048x1024_S4096x1024_1_0_0_1_n_n none a0 a1)

/-- the norm of its rows -/
abbrev H (a0 : FVec Ideal Cert.Reference17Ideal.S4096x2048 .f32) (a1 : FVec Ideal Cert.Reference17Ideal.S2048x1024 .f32) (a2 : FVec Ideal Cert.Reference17Ideal.S4096x1024 .f32) (a3 : FVec Ideal Cert.Reference17Ideal.S2x1024 .f32) : FVec Ideal Cert.Reference17Ideal.S4096x1024 .bf16 :=
  truncf .bf16 (mulf (mulf (X a0 a1 a2) (broadcastInDim Cert.Reference17Ideal.S4096x1024 ![0, 1] Cert.Reference17Ideal.Gen.bcast_S4096x1_S4096x1024_0_1 (Host.rsqrt (addf
    (Host.divf (broadcastInDim Cert.Reference17Ideal.S4096x1 ![0] Cert.Reference17Ideal.Gen.bcast_S4096_S4096x1_0 (Host.reduceAdd (mulf (X a0 a1 a2) (X a0 a1 a2))
      (constant Cert.Reference17Ideal.S_ .f32 0x00000000#32) Cert.Reference17Ideal.Gen.reducesTo_S4096x1024_S4096_d1 Cert.Reference17Ideal.Gen.h_S_))
      (broadcastInDim Cert.Reference17Ideal.S4096x1 ![] Cert.Reference17Ideal.Gen.bcast_S_S4096x1 (constant Cert.Reference17Ideal.S_ .f32 0x44800000#32)))
    (broadcastInDim Cert.Reference17Ideal.S4096x1 ![] Cert.Reference17Ideal.Gen.bcast_S_S4096x1 (constant Cert.Reference17Ideal.S_ .f32 0x358637BD#32))))))
    (broadcastInDim Cert.Reference17Ideal.S4096x1024 ![0, 1] Cert.Reference17Ideal.Gen.bcast_S1x1024_S4096x1024_0_1 (broadcastInDim Cert.Reference17Ideal.S1x1024 ![1] Cert.Reference17Ideal.Gen.bcast_S1024_S1x1024_1
      (shapeCast _ (extractStridedSlice Cert.Reference17Ideal.S1x1024 ![1, 0] a3 Cert.Reference17Ideal.Gen.slices_S2x1024_S1x1024_1_0) Cert.Reference17Ideal.Gen.shapeCasts_S1x1024_S1024)))) Cert.Reference17Ideal.Gen.bitsLt_bf16_f32

/-- the same transposed -/
abbrev HT (a0 : FVec Ideal Cert.Reference17Ideal.S4096x2048 .f32) (a1 : FVec Ideal Cert.Reference17Ideal.S2048x1024 .f32) (a2 : FVec Ideal Cert.Reference17Ideal.S4096x1024 .f32) (a3 : FVec Ideal Cert.Reference17Ideal.S2x1024 .f32) : FVec Ideal Cert.Reference17Ideal.S1024x4096 .bf16 :=
  transpose Cert.Reference17Ideal.S1024x4096 [1, 0] (H a0 a1 a2 a3) Cert.Reference17Ideal.Gen.transposes_S4096x1024_S1024x4096_1_0

/-- the block every window shows at a point of the grid -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, t.val] :=
  (by decide +kernel : ∀ t : Fin grid0.N, _)

/-- the two rows of gains with six more rows below them -/
def padg (a : FVec Ideal S2x1024 .f32) : FVec Ideal S8x1024 .f32 :=
  pad S8x1024 ![0, 0] ![6, 0] ![0, 0] a (sitofp (F := Ideal) .f32 (constantI S_ 32 0#32)) pads_S2x1024_S8x1024_060_000 h_S_

theorem V_g (c : Dev nD) : V m c main_v2 = padg (m ((c : Thread nD τ).loc main_arg3)) := by
  entry_read; rfl

/-- the block of gains at a point of the grid is all of them -/
theorem gain (c : Dev nD) (t : Fin cfg0.N) : iblk m c 3 t = padg (m ((c : Thread nD τ).loc main_arg3)) := by
  rw [← V_g m c]
  funext z
  blk_point [iblk, idx t]

theorem row (c : Dev nD) (t : Fin cfg0.N) : k0_pay1 (iblk m c 0 t) (iblk m c 1 t) (iblk m c 2 t) = fun z : S1024x1024.Idx =>
    X (m ((c : Thread nD τ).loc main_arg0)) (m ((c : Thread nD τ).loc main_arg1)) (m ((c : Thread nD τ).loc main_arg2)) (ix2 (⟨t.val * 1024 + (z 0).val, by
      have ht : t.val < 4 := t.isLt; have hz : (z 0).val < 1024 := (z 0).isLt; omega⟩ : Fin 4096) (⟨(z 1).val, (z 1).isLt⟩ : Fin 1024)) := by
  funext z
  pointwise [k0_pay1, X]
  refine (add_comm (G := EReal) _ _).trans ?_
  blk_point [iblk, V, idx t]

theorem final4 (c : Dev nD) : (dats m 0 c).arrAt 4 (cfgs 0).N = X (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  rw [row m c t]
  pointwise [X]
  blk_point [iblk, V, idx t]

theorem final5 (c : Dev nD) : (dats m 0 c).arrAt 5 (cfgs 0).N = H (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  unfold k0_pay3 k0_pay2
  rw [row m c t, gain m c t]
  pointwise [padg, H, X]
  blk_point [iblk, V, idx t]

theorem final6 (c : Dev nD) : (dats m 0 c).arrAt 6 (cfgs 0).N = HT (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  unfold k0_pay4 k0_pay2
  rw [row m c t, gain m c t]
  pointwise [padg, HT, H, X]
  blk_point [iblk, V, idx t]

end Cert.Kernel17Ideal.OutNorm

end
-- ==== Proof.Norm0.lean ====
module
public import proofs.«01_k».proof.Proof.Gen.Kernel18Ideal.Frame
public import proofs.«01_k».proof.Proof.Gen.Reference18Ideal
public import Idealize.ShloMosaic.Lib.Pipeline.ValueKit

/-! The recurrent layer's norm of its input, in rows and transposed. -/

set_option maxRecDepth 16384

@[expose] public section

noncomputable section

open Idealize.ShloMosaic Idealize.ShloMosaic.TcCoe Idealize.SL.Sem
open Idealize.ShloMosaic.Pipeline (Dat)
open scoped BigOperators

namespace Cert.Kernel18Ideal.Norm0

open Cert.Kernel18Ideal Cert.Kernel18Ideal.Gen

variable (m : (ℓ : Loc nD τ sig) → Buf (Elt Ideal) ℓ)

/-- the norm of the rows -/
abbrev H (a0 : FVec Ideal Cert.Reference18Ideal.S4096x1024 .f32) (a1 : FVec Ideal Cert.Reference18Ideal.S2x1024 .f32) : FVec Ideal Cert.Reference18Ideal.S4096x1024 .bf16 :=
  truncf .bf16 (mulf (mulf a0 (broadcastInDim Cert.Reference18Ideal.S4096x1024 ![0, 1] Cert.Reference18Ideal.Gen.bcast_S4096x1_S4096x1024_0_1 (Host.rsqrt (addf
    (Host.divf (broadcastInDim Cert.Reference18Ideal.S4096x1 ![0] Cert.Reference18Ideal.Gen.bcast_S4096_S4096x1_0 (Host.reduceAdd (mulf a0 a0)
      (constant Cert.Reference18Ideal.S_ .f32 0x00000000#32) Cert.Reference18Ideal.Gen.reducesTo_S4096x1024_S4096_d1 Cert.Reference18Ideal.Gen.h_S_))
      (broadcastInDim Cert.Reference18Ideal.S4096x1 ![] Cert.Reference18Ideal.Gen.bcast_S_S4096x1 (constant Cert.Reference18Ideal.S_ .f32 0x44800000#32)))
    (broadcastInDim Cert.Reference18Ideal.S4096x1 ![] Cert.Reference18Ideal.Gen.bcast_S_S4096x1 (constant Cert.Reference18Ideal.S_ .f32 0x358637BD#32))))))
    (broadcastInDim Cert.Reference18Ideal.S4096x1024 ![0, 1] Cert.Reference18Ideal.Gen.bcast_S1x1024_S4096x1024_0_1 (broadcastInDim Cert.Reference18Ideal.S1x1024 ![1] Cert.Reference18Ideal.Gen.bcast_S1024_S1x1024_1
      (shapeCast _ (extractStridedSlice Cert.Reference18Ideal.S1x1024 ![0, 0] a1 Cert.Reference18Ideal.Gen.slices_S2x1024_S1x1024_0_0) Cert.Reference18Ideal.Gen.shapeCasts_S1x1024_S1024)))) Cert.Reference18Ideal.Gen.bitsLt_bf16_f32

/-- the same transposed -/
abbrev HT (a0 : FVec Ideal Cert.Reference18Ideal.S4096x1024 .f32) (a1 : FVec Ideal Cert.Reference18Ideal.S2x1024 .f32) : FVec Ideal Cert.Reference18Ideal.S1024x4096 .bf16 :=
  transpose Cert.Reference18Ideal.S1024x4096 [1, 0] (H a0 a1) Cert.Reference18Ideal.Gen.transposes_S4096x1024_S1024x4096_1_0

/-- the block every window shows at a point of the grid -/
theorem idx : ∀ t : Fin cfg0.N, win0_0.index t = ![t.val, 0]
    ∧ win0_1.index t = ![0, 0]
    ∧ win0_2.index t = ![t.val, 0]
    ∧ win0_3.index t = ![0, t.val] :=
  (by decide +kernel : ∀ t : Fin grid0.N, _)

/-- the two rows of gains with six more rows below them -/
def padg (a : FVec Ideal S2x1024 .f32) : FVec Ideal S8x1024 .f32 :=
  pad S8x1024 ![0, 0] ![6, 0] ![0, 0] a (sitofp (F := Ideal) .f32 (constantI S_ 32 0#32)) pads_S2x1024_S8x1024_060_000 h_S_

theorem V_g (c : Dev nD) : V m c main_v0 = padg (m ((c : Thread nD τ).loc main_arg1)) := by
  entry_read; rfl

/-- the block of gains at a point of the grid is all of them -/
theorem gain (c : Dev nD) (t : Fin cfg0.N) : iblk m c 1 t = padg (m ((c : Thread nD τ).loc main_arg1)) := by
  rw [← V_g m c]
  funext z
  blk_point [iblk, idx t]

theorem final2 (c : Dev nD) : (dats m 0 c).arrAt 2 (cfgs 0).N = H (m ((c : Thread nD τ).loc main_arg0)) (m ((c : Thread nD τ).loc main_arg1)) := by
  refine (dats m 0 c).arrAt_eq_of_covers 2 _ (by decide +kernel) fun t hf y => ?_
  blk_simp; rw [after0_2]; frame_out
  rw [gain m c t]
  pointwise [padg, k0_pay1, k0_pay2, k0_pay3, H]
  blk_point [iblk, V, idx t]

theorem final3 (c : Dev nD) : (dats m 0 c).arrAt 3 (cfgs 0).N = HT (m ((c : Thread nD τ).loc main_arg0)) (m ((c : Thread nD τ).loc main_arg1)) := by
  refine (dats m 0 c).arrAt_eq_of_covers 3 _ (by decide +kernel) fun t hf y => ?_
  blk_simp; rw [after0_3]; frame_out
  rw [gain m c t]
  pointwise [padg, k0_pay1, k0_pay2, k0_pay3, H, HT]
  blk_point [iblk, V, idx t]

end Cert.Kernel18Ideal.Norm0

end
-- ==== Proof.DWAGates.lean ====
module
public import proofs.«01_k».proof.Proof.Gen.Kernel19Ideal.Frame
public import proofs.«01_k».proof.Proof.Gen.Reference19Ideal
public import Idealize.ShloMosaic.Lib.Pipeline.ValueKit

/-! The gradient of the recurrent layer's input weights in the columns of the gates, `hᵀ · ct` rounded to bfloat16. -/

set_option maxRecDepth 16384

@[expose] public section

noncomputable section

open Idealize.ShloMosaic Idealize.ShloMosaic.TcCoe Idealize.SL.Sem
open Idealize.ShloMosaic.Pipeline (Dat)
open scoped BigOperators

namespace Cert.Kernel19Ideal.DWAGates

open Cert.Kernel19Ideal Cert.Kernel19Ideal.Gen

variable (m : (ℓ : Loc nD τ sig) → Buf (Elt Ideal) ℓ)

/-- the reference's result as one term over its arguments -/
abbrev REF (a0 : FVec Ideal Cert.Reference19Ideal.S4096x1024 .f32) (a1 : FVec Ideal Cert.Reference19Ideal.S4096x128 .f32) :
    FVec Ideal Cert.Reference19Ideal.S1024x128 .bf16 :=
  truncf .bf16 (transpose Cert.Reference19Ideal.S1024x128 [1, 0] (Host.dotGeneral Cert.Reference19Ideal.dot_S4096x128_S4096x1024_S128x1024_0_0_1_1_n_n none a1 a0)
    Cert.Reference19Ideal.Gen.transposes_S128x1024_S1024x128_1_0) Cert.Reference19Ideal.Gen.bitsLt_bf16_f32

/-- the block every window shows at a point of the grid -/
theorem idx : ∀ t : Fin cfg0.N, win0_0.index t = ![0, 0]
    ∧ win0_1.index t = ![0, 0]
    ∧ win0_2.index t = ![0, 0] :=
  (by decide +kernel : ∀ t : Fin grid0.N, _)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, REF]
  refine (Finset.sum_congr rfl fun _ _ => mul_comm (G := EReal) _ _).trans ?_
  blk_point [iblk, V, idx t]

end Cert.Kernel19Ideal.DWAGates

end
-- ==== Proof.DH0Gates.lean ====
module
public import proofs.«01_k».proof.Proof.Gen.Kernel20Ideal.Frame
public import proofs.«01_k».proof.Proof.Gen.Reference20Ideal
public import Idealize.ShloMosaic.Lib.Pipeline.ValueKit

/-! The gates' part of the gradient of the recurrent layer's input projection in its input, added to the part of the other columns. -/

set_option maxRecDepth 16384

@[expose] public section

noncomputable section

open Idealize.ShloMosaic Idealize.ShloMosaic.TcCoe Idealize.SL.Sem
open Idealize.ShloMosaic.Pipeline (Dat)
open scoped BigOperators

namespace Cert.Kernel20Ideal.DH0Gates

open Cert.Kernel20Ideal Cert.Kernel20Ideal.Gen

variable (m : (ℓ : Loc nD τ sig) → Buf (Elt Ideal) ℓ)

/-- the reference's result as one term over its arguments -/
abbrev REF (a0 : FVec Ideal Cert.Reference20Ideal.S4096x128 .f32) (a1 : FVec Ideal Cert.Reference20Ideal.S1024x6272 .f32) (a2 : FVec Ideal Cert.Reference20Ideal.S4096x1024 .f32) :
    FVec Ideal Cert.Reference20Ideal.S4096x1024 .f32 :=
  addf a2 (Host.dotGeneral Cert.Reference20Ideal.dot_S4096x128_S1024x128_S4096x1024_1_1_0_0_n_n none a0
    (extractStridedSlice Cert.Reference20Ideal.S1024x128 ![0, 6144] a1 Cert.Reference20Ideal.Gen.slices_S1024x6272_S1024x128_0_6144))

/-- the block every window shows at a point of the grid -/
theorem idx : ∀ t : Fin cfg0.N, win0_0.index t = ![t.val, 0]
    ∧ win0_1.index t = ![0, 48]
    ∧ win0_2.index t = ![t.val, 0]
    ∧ win0_3.index t = ![t.val, 0] :=
  (by decide +kernel : ∀ t : Fin grid0.N, _)

theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; unfold outsAt0; frame_out
  pointwise [k0_pay1, k0_pay2, REF]
  refine (add_comm (G := EReal) _ _).trans ?_
  blk_point [iblk, V, idx t]

end Cert.Kernel20Ideal.DH0Gates

end
-- ==== Proof.OutLoss.lean ====
module
public import proofs.«01_k».proof.Proof.Gen.Kernel21Ideal.Frame
public import proofs.«01_k».proof.Proof.Gen.Reference21Ideal
public import Idealize.ShloMosaic.Lib.Pipeline.ValueKit

/-! The output projection of layer 1, the loss against the target, and the gradient of the loss in the output. -/

set_option maxRecDepth 16384

@[expose] public section

noncomputable section

open Idealize.ShloMosaic Idealize.ShloMosaic.TcCoe Idealize.SL.Sem
open Idealize.ShloMosaic.Pipeline (Dat)
open scoped BigOperators

namespace Cert.Kernel21Ideal.OutLoss

open Cert.Kernel21Ideal Cert.Kernel21Ideal.Gen

variable (m : (ℓ : Loc nD τ sig) → Buf (Elt Ideal) ℓ)

/-- the output less the target -/
abbrev ERR (a0 : FVec Ideal Cert.Reference21Ideal.S4096x1024 .f32) (a1 : FVec Ideal Cert.Reference21Ideal.S1024x1024 .f32) (a2 a3 : FVec Ideal Cert.Reference21Ideal.S4096x1024 .f32) : FVec Ideal Cert.Reference21Ideal.S4096x1024 .f32 :=
  subf (addf a2 (Host.dotGeneral Cert.Reference21Ideal.dot_S4096x1024_S1024x1024_S4096x1024_1_0_0_1_n_n none a0 a1)) a3

abbrev DY (a0 : FVec Ideal Cert.Reference21Ideal.S4096x1024 .f32) (a1 : FVec Ideal Cert.Reference21Ideal.S1024x1024 .f32) (a2 a3 : FVec Ideal Cert.Reference21Ideal.S4096x1024 .f32) : FVec Ideal Cert.Reference21Ideal.S4096x1024 .f32 :=
  mulf (broadcastInDim Cert.Reference21Ideal.S4096x1024 ![0] Cert.Reference21Ideal.Gen.bcast_S4096_S4096x1024_0 (Host.divf (broadcastInDim Cert.Reference21Ideal.S4096 ![] Cert.Reference21Ideal.Gen.bcast_S_S4096
      (mulf (constant Cert.Reference21Ideal.S_ .f32 0x3F000000#32) (constant Cert.Reference21Ideal.S_ .f32 0x3F800000#32))) (broadcastInDim Cert.Reference21Ideal.S4096 ![] Cert.Reference21Ideal.Gen.bcast_S_S4096 (constant Cert.Reference21Ideal.S_ .f32 0x44800000#32))))
    (mulf (broadcastInDim Cert.Reference21Ideal.S4096x1024 ![] Cert.Reference21Ideal.Gen.bcast_S_S4096x1024 (constant Cert.Reference21Ideal.S_ .f32 0x40000000#32)) (ERR a0 a1 a2 a3))

abbrev LOSS (a0 : FVec Ideal Cert.Reference21Ideal.S4096x1024 .f32) (a1 : FVec Ideal Cert.Reference21Ideal.S1024x1024 .f32) (a2 a3 : FVec Ideal Cert.Reference21Ideal.S4096x1024 .f32) : FVec Ideal Cert.Reference21Ideal.S_ .f32 :=
  mulf (constant Cert.Reference21Ideal.S_ .f32 0x3F000000#32) (Host.reduceAdd (Host.divf (Host.reduceAdd (mulf (ERR a0 a1 a2 a3) (ERR a0 a1 a2 a3)) (constant Cert.Reference21Ideal.S_ .f32 0x00000000#32) Cert.Reference21Ideal.Gen.reducesTo_S4096x1024_S4096_d1 Cert.Reference21Ideal.Gen.h_S_)
    (broadcastInDim Cert.Reference21Ideal.S4096 ![] Cert.Reference21Ideal.Gen.bcast_S_S4096 (constant Cert.Reference21Ideal.S_ .f32 0x44800000#32))) (constant Cert.Reference21Ideal.S_ .f32 0x00000000#32) Cert.Reference21Ideal.Gen.reducesTo_S4096_S_d0 Cert.Reference21Ideal.Gen.h_S_)

theorem c1024 : Ideal.ofBits .f32 0x44800000#32 = ((1024 : ℝ) : EReal) := by
  simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem ctwo : Ideal.ofBits .f32 0x40000000#32 = ((2 : ℝ) : EReal) := by
  simp [Ideal.ofBits, Ideal.ieee, -EReal.coe_mul]; norm_num

theorem c10 : Ideal.ofBits .f32 0x3A800000#32 = ((1 / 1024 : ℝ) : EReal) := by
  simp [Ideal.ofBits, Ideal.ieee, -EReal.coe_mul]; norm_num

theorem c11 : Ideal.ofBits .f32 0x3A000000#32 = ((1 / 2048 : ℝ) : EReal) := by
  simp [Ideal.ofBits, Ideal.ieee, -EReal.coe_mul]; norm_num

/-- half the derivative of a square over the width is the error over the width -/
theorem scale (e : EReal) : e * Ideal.ofBits .f32 0x3A800000#32
    = Ideal.div (Ideal.ofBits .f32 0x3F000000#32) (Ideal.ofBits .f32 0x44800000#32) * (Ideal.ofBits .f32 0x40000000#32 * e) := by
  rw [c10, chalf, c1024, ctwo, Ideal.div_coe (by norm_num), ← EReal.coe_mul, ← mul_assoc, ← EReal.coe_mul, mul_comm]
  congr 2; norm_num

theorem sq_nonneg' (x : EReal) : 0 ≤ x * x := by
  induction x with
  | bot => simp
  | top => simp
  | coe r => rw [← EReal.coe_mul]; exact EReal.coe_nonneg.mpr (mul_self_nonneg r)

theorem sum_mul' {ι : Type} (s : Finset ι) (f : ι → EReal) (hf : ∀ i, 0 ≤ f i) (c : EReal) : ∑ i ∈ s, f i * c = (∑ i ∈ s, f i) * c := by
  classical
  induction s using Finset.induction_on with
  | empty => simp
  | insert a s ha ih => rw [Finset.sum_insert ha, Finset.sum_insert ha, ih, EReal.right_distrib_of_nonneg (hf a) (Finset.sum_nonneg fun i _ => hf i)]

/-- the loss from the sums of the columns of the squares, and from the means of their rows -/
theorem loss_eq (f : Fin 4096 → Fin 1024 → EReal) : (∑ j, ∑ i, f i j * f i j) * Ideal.ofBits .f32 0x3A000000#32
    = Ideal.ofBits .f32 0x3F000000#32 * ∑ i, Ideal.div (∑ j, f i j * f i j) (Ideal.ofBits .f32 0x44800000#32) := by
  rw [c11, chalf, c1024]
  simp only [Ideal.div_coe (show (1024 : ℝ) ≠ 0 by norm_num)]
  rw [sum_mul' _ _ (fun i => Finset.sum_nonneg fun j _ => sq_nonneg' (f i j)), Finset.sum_comm, mul_comm ((1 / 2 : ℝ) : EReal), mul_assoc, ← EReal.coe_mul]
  congr 2; norm_num

/-- the block every window shows at a point of the grid -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

theorem err (c : Dev nD) (t : Fin cfg0.N) : k0_pay1 (iblk m c 0 t) (iblk m c 1 t) (iblk m c 2 t) (iblk m c 3 t) = fun z : S1024x1024.Idx =>
    ERR (m ((c : Thread nD τ).loc main_arg0)) (m ((c : Thread nD τ).loc main_arg1)) (m ((c : Thread nD τ).loc main_arg2)) (m ((c : Thread nD τ).loc main_arg3)) (ix2 (⟨t.val * 1024 + (z 0).val, by
      have ht : t.val < 4 := t.isLt; have hz : (z 0).val < 1024 := (z 0).isLt; omega⟩ : Fin 4096) (⟨(z 1).val, (z 1).isLt⟩ : Fin 1024)) := by
  funext z
  pointwise [k0_pay1, ERR]
  refine (congrArg (· - _) (add_comm (G := EReal) _ _)).trans ?_
  blk_point [iblk, V, idx t]

theorem dy_block (c : Dev nD) (t : Fin cfg0.N) : (outsAt0 m c t.val t.isLt).1 = k0_pay2 (iblk m c 0 t) (iblk m c 1 t) (iblk m c 2 t) (iblk m c 3 t) := by
  by_cases h0 : t.val % 4 = 0
  · rw [outsAt0_A m c t h0 (by omega)]; dsimp only; frame_out
  · by_cases h1 : t.val % 4 = 3
    · rw [outsAt0_C m c t h0 h1]; dsimp only; frame_out
    · rw [outsAt0_B m c t h0 h1]; dsimp only; frame_out

theorem final4 (c : Dev nD) : (dats m 0 c).arrAt 4 (cfgs 0).N = DY (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4, dy_block m c t]
  unfold k0_pay2
  rw [err m c t]
  pointwise [DY, ERR]
  refine (scale _).trans ?_
  blk_point [iblk, V, idx t]

/-- what a point of the grid adds to the sums of the columns of the squares -/
def part (c : Dev nD) (t : Fin cfg0.N) (z : S1x1024.Idx) : EReal :=
  ∑ r : Fin 1024, k0_pay1 (F := Ideal) (iblk m c 0 t) (iblk m c 1 t) (iblk m c 2 t) (iblk m c 3 t) (ix2 r (z 1)) * k0_pay1 (F := Ideal) (iblk m c 0 t) (iblk m c 1 t) (iblk m c 2 t) (iblk m c 3 t) (ix2 r (z 1))

theorem acc_first (c : Dev nD) (t : Fin cfg0.N) (h0 : t.val % 4 = 0) (z : S1x1024.Idx) : (outsAt0 m c t.val t.isLt).2.2 z = 0 + part m c t z := by
  rw [outsAt0_A m c t h0 (by omega)]; dsimp only; frame_out
  unfold part
  pointwise [k0_pay4, k0_pay3]

theorem acc_step (c : Dev nD) (t : Fin cfg0.N) (h0 : ¬ t.val % 4 = 0) (z : S1x1024.Idx) :
    (outsAt0 m c t.val t.isLt).2.2 z = (outsAt0 m c (t.val - 1) (Nat.lt_of_le_of_lt (Nat.sub_le _ _) t.isLt)).2.2 z + part m c t z := by
  unfold part
  by_cases h1 : t.val % 4 = 3
  · rw [outsAt0_C m c t h0 h1]; dsimp only; frame_out
    pointwise [k0_pay4]
    exact congrArg (· + _) (congrFun (Memref.IsWhole.read_unread (Val := Elt Ideal) (Memref.isWhole_whole cc0_scratch0) (outsAt0 m c (t.val - 1) (Nat.lt_of_le_of_lt (Nat.sub_le _ _) t.isLt)).2.2) z)
  · rw [outsAt0_B m c t h0 h1]; dsimp only; frame_out
    pointwise [k0_pay4]
    exact congrArg (· + _) (congrFun (Memref.IsWhole.read_unread (Val := Elt Ideal) (Memref.isWhole_whole cc0_scratch0) (outsAt0 m c (t.val - 1) (Nat.lt_of_le_of_lt (Nat.sub_le _ _) t.isLt)).2.2) z)

theorem loss_block (c : Dev nD) (t : Fin cfg0.N) (h1 : t.val % 4 = 3) : (outsAt0 m c t.val t.isLt).2.1 = k0_pay5 (outsAt0 m c t.val t.isLt).2.2 := by
  rw [outsAt0_C m c t (by omega) h1]; dsimp only; frame_out

/-- the sums of the columns of the squares, after the last point of the grid -/
theorem acc_last (c : Dev nD) (t : Fin cfg0.N) (h1 : t.val % 4 = 3) (z : S1x1024.Idx) : (outsAt0 m c t.val t.isLt).2.2 z
    = ∑ i : Fin 4096, ERR (m ((c : Thread nD τ).loc main_arg0)) (m ((c : Thread nD τ).loc main_arg1)) (m ((c : Thread nD τ).loc main_arg2)) (m ((c : Thread nD τ).loc main_arg3)) (ix2 i (z 1)) * ERR (m ((c : Thread nD τ).loc main_arg0)) (m ((c : Thread nD τ).loc main_arg1)) (m ((c : Thread nD τ).loc main_arg2)) (m ((c : Thread nD τ).loc main_arg3)) (ix2 i (z 1)) := by
  refine (Pipeline.eq_sum_fin_of_reset_step_apply_of_flush (fun n h => (outsAt0 m c n h).2.2) 4 (fun _ => (0 : EReal)) (part m c)
    (fun t h i => acc_first m c t h i) (fun t h i => acc_step m c t h i) t h1 z).trans ?_
  rw [zero_add]
  have ht : t.val < 4 := t.isLt
  have hq : t.val / 4 = 0 := by omega
  have e : ∑ i : Fin 4096, ERR (m ((c : Thread nD τ).loc main_arg0)) (m ((c : Thread nD τ).loc main_arg1)) (m ((c : Thread nD τ).loc main_arg2)) (m ((c : Thread nD τ).loc main_arg3)) (ix2 i (z 1)) * ERR (m ((c : Thread nD τ).loc main_arg0)) (m ((c : Thread nD τ).loc main_arg1)) (m ((c : Thread nD τ).loc main_arg2)) (m ((c : Thread nD τ).loc main_arg3)) (ix2 i (z 1)) = ∑ s : Fin 4, ∑ r : Fin 1024,
      ERR (m ((c : Thread nD τ).loc main_arg0)) (m ((c : Thread nD τ).loc main_arg1)) (m ((c : Thread nD τ).loc main_arg2)) (m ((c : Thread nD τ).loc main_arg3)) (ix2 (⟨s.val * 1024 + r.val, by omega⟩ : Fin 4096) (z 1)) * ERR (m ((c : Thread nD τ).loc main_arg0)) (m ((c : Thread nD τ).loc main_arg1)) (m ((c : Thread nD τ).loc main_arg2)) (m ((c : Thread nD τ).loc main_arg3)) (ix2 (⟨s.val * 1024 + r.val, by omega⟩ : Fin 4096) (z 1)) :=
    (Fin.sum_mul_add_congr fun s k hl => rfl).symm
  refine Eq.trans ?_ e.symm
  refine Finset.sum_congr rfl fun s _ => ?_
  unfold part
  rw [err m c]
  refine Finset.sum_congr rfl fun r _ => ?_
  simp only [hq, Nat.mul_zero, Nat.zero_add]
  rfl

/-- the loss everywhere in a block -/
def all (a0 : FVec Ideal Cert.Reference21Ideal.S4096x1024 .f32) (a1 : FVec Ideal Cert.Reference21Ideal.S1024x1024 .f32) (a2 a3 : FVec Ideal Cert.Reference21Ideal.S4096x1024 .f32) : FVec Ideal S8x128 .f32 :=
  fun _ => ((∑ j : Fin 1024, ∑ i : Fin 4096, ERR a0 a1 a2 a3 (ix2 i j) * ERR a0 a1 a2 a3 (ix2 i j)) * Ideal.ofBits .f32 0x3A000000#32 : EReal)

theorem loss_apply (v : FVec Ideal S1x1024 .f32) (y : S8x128.Idx) : k0_pay5 v y = (∑ j : Fin 1024, v (ix2 (0 : Fin 1) j)) * Ideal.ofBits .f32 0x3A000000#32 := by
  pointwise [k0_pay5]

theorem final5 (c : Dev nD) : (dats m 0 c).arrAt 5 (cfgs 0).N = all (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h1 := (flush0_5 t).mp hf
  blk_simp; rw [after0_5, loss_block m c t h1]
  refine (loss_apply _ _).trans ?_
  refine congrArg (· * Ideal.ofBits .f32 0x3A000000#32) (Finset.sum_congr rfl fun j _ => ?_)
  exact acc_last m c t h1 _

/-- the first entry of the block, by itself -/
abbrev one (a : FVec Ideal S8x128 .f32) : FVec Ideal S_ .f32 :=
  shapeCast _ (extractStridedSlice S1x1 ![0, 0] a slices_S8x128_S1x1_0_0) shapeCasts_S1x1_S_

theorem one_all (a0 : FVec Ideal Cert.Reference21Ideal.S4096x1024 .f32) (a1 : FVec Ideal Cert.Reference21Ideal.S1024x1024 .f32) (a2 a3 : FVec Ideal Cert.Reference21Ideal.S4096x1024 .f32) : one (all a0 a1 a2 a3) = LOSS a0 a1 a2 a3 := by
  have e : one (all a0 a1 a2 a3) = fun _ => ((∑ j : Fin 1024, ∑ i : Fin 4096, ERR a0 a1 a2 a3 (ix2 i j) * ERR a0 a1 a2 a3 (ix2 i j)) * Ideal.ofBits .f32 0x3A000000#32 : EReal) := rfl
  rw [e]
  funext z
  refine (loss_eq fun i j => ERR a0 a1 a2 a3 (ix2 i j)).trans ?_
  pointwise [LOSS]

theorem out5 (c : Dev nD) : Pipeline.afterTail₀ cfgs (dats m) 0 (V0 m) [hostOps1] c main_v4 = LOSS (m ((c : Thread nD τ).loc main_arg0)) (m ((c : Thread nD τ).loc main_arg1)) (m ((c : Thread nD τ).loc main_arg2)) (m ((c : Thread nD τ).loc main_arg3)) := by
  have e : Pipeline.afterTail₀ cfgs (dats m) 0 (V0 m) [hostOps1] c main_v4 = one ((dats m 0 c).arrAt 5 (cfgs 0).N) := by
    unfold Pipeline.afterTail₀
    simp only [List.flatten_cons, List.flatten_nil, List.append_nil]
    after_results
    exact congrArg one (Pipeline.withArrays_arr spec0 (by decide) c (V0 m c) (fun w => (dats m 0 c).arrAt w (cfgs 0).N) 5)
  refine e.trans ?_
  rw [final5]
  exact one_all _ _ _ _

end Cert.Kernel21Ideal.OutLoss

end
-- ==== Proof.Rms0.lean ====
module
public import proofs.«01_k».proof.Proof.Gen.Kernel22Ideal.Frame
public import proofs.«01_k».proof.Proof.Gen.Reference22Ideal
public import Idealize.ShloMosaic.Lib.Pipeline.ValueKit
public import Idealize.ShloMosaic.Lib.WritesUnit

/-! The gradient of the norm of layer 0: every row of the gradient in the input, and the gradient in the gain. -/

set_option maxRecDepth 16384

@[expose] public section

noncomputable section

open Idealize.ShloMosaic Idealize.ShloMosaic.TcCoe Idealize.SL.Sem
open Idealize.ShloMosaic.Pipeline (Dat)
open scoped BigOperators

namespace Cert.Kernel22Ideal.Rms0

open Cert.Kernel22Ideal Cert.Kernel22Ideal.Gen

variable (m : (ℓ : Loc nD τ sig) → Buf (Elt Ideal) ℓ)

/-- the mean of the squares of every row, and a little more -/
abbrev MS (x : FVec Ideal Cert.Reference22Ideal.S4096x1024 .f32) : FVec Ideal Cert.Reference22Ideal.S4096x1 .f32 :=
  addf (Host.divf (broadcastInDim Cert.Reference22Ideal.S4096x1 ![0] Cert.Reference22Ideal.Gen.bcast_S4096_S4096x1_0 (Host.reduceAdd (mulf x x) (constant Cert.Reference22Ideal.S_ .f32 0x00000000#32) Cert.Reference22Ideal.Gen.reducesTo_S4096x1024_S4096_d1 Cert.Reference22Ideal.Gen.h_S_))
    (broadcastInDim Cert.Reference22Ideal.S4096x1 ![] Cert.Reference22Ideal.Gen.bcast_S_S4096x1 (constant Cert.Reference22Ideal.S_ .f32 0x44800000#32))) (broadcastInDim Cert.Reference22Ideal.S4096x1 ![] Cert.Reference22Ideal.Gen.bcast_S_S4096x1 (constant Cert.Reference22Ideal.S_ .f32 0x358637BD#32))

/-- the gradient in the norm times the gain -/
abbrev UG (g : FVec Ideal Cert.Reference22Ideal.S2x1024 .f32) (u : FVec Ideal Cert.Reference22Ideal.S4096x1024 .f32) : FVec Ideal Cert.Reference22Ideal.S4096x1024 .f32 :=
  mulf u (broadcastInDim Cert.Reference22Ideal.S4096x1024 ![0, 1] Cert.Reference22Ideal.Gen.bcast_S1x1024_S4096x1024_0_1 (broadcastInDim Cert.Reference22Ideal.S1x1024 ![1] Cert.Reference22Ideal.Gen.bcast_S1024_S1x1024_1
    (shapeCast _ (extractStridedSlice Cert.Reference22Ideal.S1x1024 ![0, 0] g Cert.Reference22Ideal.Gen.slices_S2x1024_S1x1024_0_0) Cert.Reference22Ideal.Gen.shapeCasts_S1x1024_S1024)))

/-- the gradient in the sum of the squares of every row -/
abbrev DS (x : FVec Ideal Cert.Reference22Ideal.S4096x1024 .f32) (g : FVec Ideal Cert.Reference22Ideal.S2x1024 .f32) (u : FVec Ideal Cert.Reference22Ideal.S4096x1024 .f32) : FVec Ideal Cert.Reference22Ideal.S4096x1024 .f32 :=
  broadcastInDim Cert.Reference22Ideal.S4096x1024 ![0] Cert.Reference22Ideal.Gen.bcast_S4096_S4096x1024_0 (Host.reduceAdd (Host.divf (mulf (shapeCast _ (Host.reduceAdd (mulf x (UG g u)) (constant Cert.Reference22Ideal.S_ .f32 0x00000000#32)
      Cert.Reference22Ideal.Gen.reducesTo_S4096x1024_S4096_d1 Cert.Reference22Ideal.Gen.h_S_) Cert.Reference22Ideal.Gen.shapeCasts_S4096_S4096x1)
    (mulf (broadcastInDim Cert.Reference22Ideal.S4096x1 ![] Cert.Reference22Ideal.Gen.bcast_S_S4096x1 (constant Cert.Reference22Ideal.S_ .f32 0xBF000000#32)) (Host.divf (Host.rsqrt (MS x)) (MS x))))
    (broadcastInDim Cert.Reference22Ideal.S4096x1 ![] Cert.Reference22Ideal.Gen.bcast_S_S4096x1 (constant Cert.Reference22Ideal.S_ .f32 0x44800000#32))) (constant Cert.Reference22Ideal.S_ .f32 0x00000000#32) Cert.Reference22Ideal.Gen.reducesTo_S4096x1_S4096_d1 Cert.Reference22Ideal.Gen.h_S_)

abbrev RX (x : FVec Ideal Cert.Reference22Ideal.S4096x1024 .f32) (g : FVec Ideal Cert.Reference22Ideal.S2x1024 .f32) (u v : FVec Ideal Cert.Reference22Ideal.S4096x1024 .f32) : FVec Ideal Cert.Reference22Ideal.S4096x1024 .f32 :=
  addf v (addf (addf (mulf (UG g u) (broadcastInDim Cert.Reference22Ideal.S4096x1024 ![0, 1] Cert.Reference22Ideal.Gen.bcast_S4096x1_S4096x1024_0_1 (Host.rsqrt (MS x)))) (mulf x (DS x g u))) (mulf (DS x g u) x))

abbrev RG (x u : FVec Ideal Cert.Reference22Ideal.S4096x1024 .f32) : FVec Ideal Cert.Reference22Ideal.S1024 .f32 :=
  Host.reduceAdd (shapeCast _ (Host.reduceAdd (mulf (mulf x (broadcastInDim Cert.Reference22Ideal.S4096x1024 ![0, 1] Cert.Reference22Ideal.Gen.bcast_S4096x1_S4096x1024_0_1 (Host.rsqrt (MS x)))) u)
    (constant Cert.Reference22Ideal.S_ .f32 0x00000000#32) Cert.Reference22Ideal.Gen.reducesTo_S4096x1024_S1024_d0 Cert.Reference22Ideal.Gen.h_S_) Cert.Reference22Ideal.Gen.shapeCasts_S1024_S1x1024) (constant Cert.Reference22Ideal.S_ .f32 0x00000000#32) Cert.Reference22Ideal.Gen.reducesTo_S1x1024_S1024_d0 Cert.Reference22Ideal.Gen.h_S_

theorem c1024 : Ideal.ofBits .f32 0x44800000#32 = ((1024 : ℝ) : EReal) := by
  simp [Ideal.ofBits, Ideal.ieee, -EReal.coe_mul]; norm_num

theorem chalf : Ideal.ofBits .f32 0xBF000000#32 = ((-(1 / 2) : ℝ) : EReal) := by
  simp [Ideal.ofBits, Ideal.ieee, -EReal.coe_mul, -EReal.coe_neg]; norm_num

theorem ceps : 0 < Ideal.ofBits .f32 0x358637BD#32 := by
  simp [Ideal.ofBits, Ideal.ieee, -EReal.coe_mul]

theorem sq_nonneg' (x : EReal) : 0 ≤ x * x := by
  induction x with
  | bot => simp
  | top => simp
  | coe r => rw [← EReal.coe_mul]; exact EReal.coe_nonneg.mpr (mul_self_nonneg r)

/-- the mean of the squares, and a little more, is positive -/
theorem ms_pos {ι : Type} [Fintype ι] (f : ι → EReal) : 0 < Ideal.div (∑ x, f x * f x) (Ideal.ofBits .f32 0x44800000#32) + Ideal.ofBits .f32 0x358637BD#32 := by
  refine lt_of_lt_of_le ceps (le_add_of_nonneg_left ?_)
  rw [c1024, Ideal.div_coe (by norm_num)]
  exact mul_nonneg (Finset.sum_nonneg fun x _ => sq_nonneg' (f x)) (EReal.coe_nonneg.mpr (by norm_num))

theorem rsqrt_div {M : EReal} (h : 0 < M) : Ideal.div (Ideal.rsqrt M) M = Ideal.rsqrt M * (Ideal.rsqrt M * Ideal.rsqrt M) := by
  induction M with
  | bot => exact absurd h (by simp)
  | top => simp [Ideal.div]
  | coe r =>
    have hr : 0 < r := EReal.coe_pos.mp h
    have hs : Real.sqrt r ≠ 0 := (Real.sqrt_pos.mpr hr).ne'
    rw [Ideal.div_coe hr.ne', Ideal.rsqrt_coe, if_neg (not_lt.mpr hr.le), if_neg hr.ne', ← EReal.coe_mul, ← EReal.coe_mul, ← EReal.coe_mul]
    congr 2
    rw [one_div, ← mul_inv, Real.mul_self_sqrt hr.le]

theorem half_add_half (y : EReal) : y * ((-(1 / 2) : ℝ) : EReal) + y * ((-(1 / 2) : ℝ) : EReal) = -y := by
  induction y with
  | bot => rw [EReal.bot_mul_coe_of_neg (by norm_num)]; rfl
  | top => rw [EReal.top_mul_coe_of_neg (by norm_num)]; rfl
  | coe r => rw [← EReal.coe_mul, ← EReal.coe_add, ← EReal.coe_neg]; congr 1; ring

/-- a row's entry of the gradient, by its closed form and by the derivatives of its parts -/
theorem entry {M : EReal} (h : 0 < M) (a w x S : EReal) :
    a + Ideal.rsqrt M * w - x * Ideal.rsqrt M * (Ideal.rsqrt M * Ideal.rsqrt M) * Ideal.div S (Ideal.ofBits .f32 0x44800000#32)
      = a + (w * Ideal.rsqrt M + x * ∑ _ : Fin 1, Ideal.div (S * (Ideal.ofBits .f32 0xBF000000#32 * Ideal.div (Ideal.rsqrt M) M)) (Ideal.ofBits .f32 0x44800000#32)
          + (∑ _ : Fin 1, Ideal.div (S * (Ideal.ofBits .f32 0xBF000000#32 * Ideal.div (Ideal.rsqrt M) M)) (Ideal.ofBits .f32 0x44800000#32)) * x) := by
  rw [rsqrt_div h, c1024, chalf, Fin.sum_univ_one, Ideal.div_coe (by norm_num), Ideal.div_coe (by norm_num)]
  have e : x * (S * (((-(1 / 2) : ℝ) : EReal) * (Ideal.rsqrt M * (Ideal.rsqrt M * Ideal.rsqrt M))) * ((1 / 1024 : ℝ) : EReal))
      = (x * Ideal.rsqrt M * (Ideal.rsqrt M * Ideal.rsqrt M) * (S * ((1 / 1024 : ℝ) : EReal))) * ((-(1 / 2) : ℝ) : EReal) := by ac_rfl
  rw [mul_comm _ x, e, add_assoc (w * _), half_add_half, sub_eq_add_neg, add_assoc, mul_comm w]

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

def padg (a : FVec Ideal S2x1024 .f32) : FVec Ideal S8x1024 .f32 :=
  pad S8x1024 ![0, 0] ![6, 0] ![0, 0] a (sitofp (F := Ideal) .f32 (constantI S_ 32 0#32)) pads_S2x1024_S8x1024_060_000 h_S_

theorem V_g (c : Dev nD) : V m c main_v0 = padg (m ((c : Thread nD τ).loc main_arg1)) := by
  entry_read; rfl

/-- the block of gains at a point of the grid is all of them -/
theorem gain (c : Dev nD) (t : Fin cfg0.N) : iblk m c 1 t = padg (m ((c : Thread nD τ).loc main_arg1)) := by
  rw [← V_g m c]
  funext z
  blk_point [iblk, idx t]

theorem dx_block (c : Dev nD) (t : Fin cfg0.N) : (outsAt0 m c t.val t.isLt).1
    = k0_pay4 (iblk m c 0 t) (iblk m c 2 t) (View.ld (iblk m c 1 t) (Rect.unit ![0, 0] ![1, 1024] inb_S8x1024_S1x1024_0_0)) (iblk m c 3 t) := by
  by_cases h0 : t.val % 4 = 0
  · rw [outsAt0_A m c t h0]; dsimp only; frame_out; rfl
  · rw [outsAt0_B m c t h0]; dsimp only; frame_out; rfl

/-- what a point of the grid adds to the gradient in the gain: the sum over its rows -/
def part (c : Dev nD) (t : Fin cfg0.N) (z : S8x1024.Idx) : EReal :=
  if (z 0).val < 1 then ∑ r : Fin 1024, k0_pay7 (F := Ideal) (iblk m c 0 t) (iblk m c 2 t) (ix2 r (z 1)) else 0

theorem row_eq (z : S8x1024.Idx) (hz : (z 0).val < 1) : (ix2 (0 : Fin 8) (z 1) : S8x1024.Idx) = z := by
  funext a; revert a
  exact Fin.forall_fin_two.mpr ⟨Fin.ext (by show 0 = (z 0).val; omega), rfl⟩

theorem dg_step (c : Dev nD) (t : Fin cfg0.N) (h0 : ¬ t.val % 4 = 0) (z : S8x1024.Idx) :
    (outsAt0 m c t.val t.isLt).2 z = (outsAt0 m c (t.val - 1) (Nat.lt_of_le_of_lt (Nat.sub_le _ _) t.isLt)).2 z + part m c t z := by
  rw [outsAt0_B m c t h0]; dsimp only; frame_out
  by_cases hz : (z 0).val < 1
  · rw [part, if_pos hz]
    refine (View.read_writes_cons_unit_of_mem _ _ _ _ _ z (ix2 (0 : Fin 1) (z 1)) rfl (Fin.forall_fin_two.mpr ⟨by show (z 0).val = 0 + 0; omega, (Nat.zero_add _).symm⟩)).trans ?_
    pointwise [k0_pay1, k0_pay6]
    exact congrArg (fun i => (outsAt0 m c (t.val - 1) (Nat.lt_of_le_of_lt (Nat.sub_le _ _) t.isLt)).2 i + ∑ r : Fin 1024, k0_pay7 (F := Ideal) (iblk m c 0 t) (iblk m c 2 t) (ix2 r (z 1))) (row_eq z hz)
  · rw [part, if_neg hz, add_zero]
    refine (View.read_writes_cons_unit_of_not_mem _ _ _ _ _ z rfl (0 : Fin 2) (Or.inr (by show 0 + 1 ≤ (z 0).val; omega))).trans ?_
    rw [View.writes_nil, Memref.IsWhole.read_unread]

theorem row_mem (w : S1x1024.Idx → EReal) (L : List (View.Piece (Elt Ideal) S8x1024 .f32)) (z : S8x1024.Idx) (hz : (z 0).val < 1) :
    View.canon ((⟨Rect.unit ![0, 0] ![1, 1024] inb_S8x1024_S1x1024_0_0, w⟩ : View.Piece (Elt Ideal) S8x1024 .f32) :: L) z = w (ix2 (0 : Fin 1) (z 1)) := by
  have e : (Rect.unit ![0, 0] ![1, 1024] inb_S8x1024_S1x1024_0_0 : Rect S8x1024).emb (ix2 (0 : Fin 1) (z 1)) = z := by
    funext a; revert a
    refine Fin.forall_fin_two.mpr ⟨Fin.ext ?_, Fin.ext ?_⟩
    · show 0 + 1 * 0 = (z 0).val; omega
    · show 0 + 1 * (z 1).val = (z 1).val; omega
  conv_lhs => rw [← e]
  exact View.canon_cons_emb _ _ _ _

theorem row_not_mem (w : S1x1024.Idx → EReal) (L : List (View.Piece (Elt Ideal) S8x1024 .f32)) (z : S8x1024.Idx) (hz : ¬ (z 0).val < 1) :
    View.canon ((⟨Rect.unit ![0, 0] ![1, 1024] inb_S8x1024_S1x1024_0_0, w⟩ : View.Piece (Elt Ideal) S8x1024 .f32) :: L) z = View.canon L z := by
  refine View.canon_cons_of_not_mem _ _ ?_
  rw [Rect.mem_set_unit]
  intro h
  have := (h (0 : Fin 2)).2
  exact hz this

theorem zeros (z : S8x1024.Idx) : View.canon [(⟨Rect.unit ![0, 0] ![8, 1024] inb_S8x1024_S8x1024_0_0, k0_pay5 (F := Ideal)⟩ : View.Piece (Elt Ideal) S8x1024 .f32)] z = (0 : EReal) := by
  refine (congrFun (View.canon_cons_unit_lit' (Val := Elt Ideal) (e := .f32) inb_S8x1024_S8x1024_0_0 (k0_pay5 (F := Ideal)) [] (by decide)) z).trans ?_
  pointwise [k0_pay5]

theorem dg_first (c : Dev nD) (t : Fin cfg0.N) (h0 : t.val % 4 = 0) (z : S8x1024.Idx) : (outsAt0 m c t.val t.isLt).2 z = 0 + part m c t z := by
  rw [outsAt0_A m c t h0]; dsimp only; frame_out
  by_cases hz : (z 0).val < 1
  · rw [part, if_pos hz]
    refine (row_mem _ _ z hz).trans ?_
    rw [View.readCov_eq_canon']
    pointwise [k0_pay1, k0_pay6]
    exact (congrArg (· + ∑ r : Fin 1024, k0_pay7 (F := Ideal) (iblk m c 0 t) (iblk m c 2 t) (ix2 r (z 1))) (zeros (ix2 (0 : Fin 8) (z 1)))).trans (zero_add _)
  · rw [part, if_neg hz, add_zero]
    exact (row_not_mem _ _ z hz).trans (zeros z)

theorem final4 (c : Dev nD) : (dats m 0 c).arrAt 4 (cfgs 0).N = RX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4, dx_block m c t, gain m c t]
  pointwise [padg, k0_pay4, k0_pay3, k0_pay2, RX, UG, DS, MS]
  refine (entry (ms_pos fun x => iblk m c 0 t (ix2 (y 0) x)) _ _ _ _).trans ?_
  blk_point [iblk, V, idx t]

/-- the norm before its gain -/
abbrev XR (x : FVec Ideal Cert.Reference22Ideal.S4096x1024 .f32) : FVec Ideal Cert.Reference22Ideal.S4096x1024 .f32 :=
  mulf x (broadcastInDim Cert.Reference22Ideal.S4096x1024 ![0, 1] Cert.Reference22Ideal.Gen.bcast_S4096x1_S4096x1024_0_1 (Host.rsqrt (MS x)))

/-- what a row adds to the gradient in the gain -/
abbrev term (x u : FVec Ideal Cert.Reference22Ideal.S4096x1024 .f32) (l : Fin 4096) (j : Fin 1024) : EReal := u (ix2 l j) * XR x (ix2 l j)

/-- the gradient in the gain, above rows of zeros -/
def DG (x u : FVec Ideal Cert.Reference22Ideal.S4096x1024 .f32) : FVec Ideal S8x1024 .f32 :=
  fun z => (if (z 0).val < 1 then RG x u (ValueIdx.ix1 (z 1)) else 0 : EReal)

theorem RG_rows (x u : FVec Ideal Cert.Reference22Ideal.S4096x1024 .f32) (j : Fin 1024) :
    RG x u (ValueIdx.ix1 j) = ∑ s : Fin 4, ∑ r : Fin 1024, term x u (⟨s.val * 1024 + r.val, by omega⟩ : Fin 4096) j := by
  have h : RG x u (ValueIdx.ix1 j) = ∑ l : Fin 4096, term x u l j := by
    refine Eq.trans ?_ (Finset.sum_congr rfl fun l _ => mul_comm (XR x (ix2 l j)) (u (ix2 l j)))
    pointwise [RG, XR, MS]
    rw [Fin.sum_univ_one]
  rw [h]
  exact (Fin.sum_mul_add_congr fun s k hl => rfl).symm

theorem part_eq (c : Dev nD) (t : Fin cfg0.N) (z : S8x1024.Idx) (hz : (z 0).val < 1) (h : t.val < 4) :
    part m c t z = ∑ r : Fin 1024, term (m ((c : Thread nD τ).loc main_arg0)) (m ((c : Thread nD τ).loc main_arg2)) (⟨t.val * 1024 + r.val, by omega⟩ : Fin 4096) (z 1) := by
  rw [part, if_pos hz]
  refine Finset.sum_congr rfl fun r _ => ?_
  pointwise [k0_pay7, k0_pay3, k0_pay2, term, XR, MS]
  blk_point [iblk, V, idx t]

theorem final5 (c : Dev nD) : (dats m 0 c).arrAt 5 (cfgs 0).N = DG (m ((c : Thread nD τ).loc main_arg0)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0) (part m c)
    (fun t h i => dg_first m c t h i) (fun t h i => dg_step m c t h i) t ((flush0_5 t).mp hf) _, zero_add]
  have ht : t.val < 4 := t.isLt
  have hq : t.val / 4 = 0 := by omega
  have hemb : ((cfg0.win 5).blk t).view.emb y = (y : S8x1024.Idx) := by
    blk_ext [idx t]
  refine Eq.trans ?_ (congrArg (DG (m ((c : Thread nD τ).loc main_arg0)) (m ((c : Thread nD τ).loc main_arg2))) hemb.symm)
  change @Eq EReal _ _
  unfold DG
  by_cases hz : ((y : S8x1024.Idx) 0).val < 1
  · rw [if_pos hz]
    refine Eq.trans ?_ (RG_rows _ _ _).symm
    change @Eq EReal _ _
    refine Finset.sum_congr rfl fun s _ => ?_
    refine (part_eq m c _ y hz (by dsimp only; omega)).trans ?_
    simp only [hq, Nat.mul_zero, Nat.zero_add]
  · rw [if_neg hz]
    exact Finset.sum_eq_zero fun s _ => by rw [part, if_neg hz]

/-- the gain's row of the sums -/
abbrev row (a : FVec Ideal S8x1024 .f32) : FVec Ideal S1024 .f32 :=
  shapeCast _ (extractStridedSlice S1x1024 ![0, 0] a slices_S8x1024_S1x1024_0_0) shapeCasts_S1x1024_S1024

theorem row_apply (a : FVec Ideal S8x1024 .f32) (j : Fin 1024) : row a (ValueIdx.ix1 j) = a (ix2 (0 : Fin 8) j) := by
  pointwise [row]

theorem out5 (c : Dev nD) : Pipeline.afterTail₀ cfgs (dats m) 0 (V0 m) [hostOps1] c main_v3 = RG (m ((c : Thread nD τ).loc main_arg0)) (m ((c : Thread nD τ).loc main_arg2)) := by
  have e : Pipeline.afterTail₀ cfgs (dats m) 0 (V0 m) [hostOps1] c main_v3 = row ((dats m 0 c).arrAt 5 (cfgs 0).N) := by
    unfold Pipeline.afterTail₀
    simp only [List.flatten_cons, List.flatten_nil, List.append_nil]
    after_results
    exact congrArg row (Pipeline.withArrays_arr spec0 (by decide) c (V0 m c) (fun w => (dats m 0 c).arrAt w (cfgs 0).N) 5)
  refine e.trans ?_
  rw [final5]
  funext z
  rw [ValueIdx.eq_ix1 z]
  refine (row_apply _ _).trans ?_
  exact if_pos Nat.zero_lt_one

end Cert.Kernel22Ideal.Rms0

end
-- ==== Proof.Rms1.lean ====
module
public import proofs.«01_k».proof.Proof.Gen.Kernel23Ideal.Frame
public import proofs.«01_k».proof.Proof.Gen.Reference23Ideal
public import Idealize.ShloMosaic.Lib.Pipeline.ValueKit
public import Idealize.ShloMosaic.Lib.WritesUnit

/-! The gradient of the norm of layer 1: every row of the gradient in the input, and the gradient in the gain. -/

set_option maxRecDepth 16384

@[expose] public section

noncomputable section

open Idealize.ShloMosaic Idealize.ShloMosaic.TcCoe Idealize.SL.Sem
open Idealize.ShloMosaic.Pipeline (Dat)
open scoped BigOperators

namespace Cert.Kernel23Ideal.Rms1

open Cert.Kernel23Ideal Cert.Kernel23Ideal.Gen

variable (m : (ℓ : Loc nD τ sig) → Buf (Elt Ideal) ℓ)

/-- the mean of the squares of every row, and a little more -/
abbrev MS (x : FVec Ideal Cert.Reference23Ideal.S4096x1024 .f32) : FVec Ideal Cert.Reference23Ideal.S4096x1 .f32 :=
  addf (Host.divf (broadcastInDim Cert.Reference23Ideal.S4096x1 ![0] Cert.Reference23Ideal.Gen.bcast_S4096_S4096x1_0 (Host.reduceAdd (mulf x x) (constant Cert.Reference23Ideal.S_ .f32 0x00000000#32) Cert.Reference23Ideal.Gen.reducesTo_S4096x1024_S4096_d1 Cert.Reference23Ideal.Gen.h_S_))
    (broadcastInDim Cert.Reference23Ideal.S4096x1 ![] Cert.Reference23Ideal.Gen.bcast_S_S4096x1 (constant Cert.Reference23Ideal.S_ .f32 0x44800000#32))) (broadcastInDim Cert.Reference23Ideal.S4096x1 ![] Cert.Reference23Ideal.Gen.bcast_S_S4096x1 (constant Cert.Reference23Ideal.S_ .f32 0x358637BD#32))

/-- the gradient in the norm times the gain -/
abbrev UG (g : FVec Ideal Cert.Reference23Ideal.S2x1024 .f32) (u : FVec Ideal Cert.Reference23Ideal.S4096x1024 .f32) : FVec Ideal Cert.Reference23Ideal.S4096x1024 .f32 :=
  mulf u (broadcastInDim Cert.Reference23Ideal.S4096x1024 ![0, 1] Cert.Reference23Ideal.Gen.bcast_S1x1024_S4096x1024_0_1 (broadcastInDim Cert.Reference23Ideal.S1x1024 ![1] Cert.Reference23Ideal.Gen.bcast_S1024_S1x1024_1
    (shapeCast _ (extractStridedSlice Cert.Reference23Ideal.S1x1024 ![1, 0] g Cert.Reference23Ideal.Gen.slices_S2x1024_S1x1024_1_0) Cert.Reference23Ideal.Gen.shapeCasts_S1x1024_S1024)))

/-- the gradient in the sum of the squares of every row -/
abbrev DS (x : FVec Ideal Cert.Reference23Ideal.S4096x1024 .f32) (g : FVec Ideal Cert.Reference23Ideal.S2x1024 .f32) (u : FVec Ideal Cert.Reference23Ideal.S4096x1024 .f32) : FVec Ideal Cert.Reference23Ideal.S4096x1024 .f32 :=
  broadcastInDim Cert.Reference23Ideal.S4096x1024 ![0] Cert.Reference23Ideal.Gen.bcast_S4096_S4096x1024_0 (Host.reduceAdd (Host.divf (mulf (shapeCast _ (Host.reduceAdd (mulf x (UG g u)) (constant Cert.Reference23Ideal.S_ .f32 0x00000000#32)
      Cert.Reference23Ideal.Gen.reducesTo_S4096x1024_S4096_d1 Cert.Reference23Ideal.Gen.h_S_) Cert.Reference23Ideal.Gen.shapeCasts_S4096_S4096x1)
    (mulf (broadcastInDim Cert.Reference23Ideal.S4096x1 ![] Cert.Reference23Ideal.Gen.bcast_S_S4096x1 (constant Cert.Reference23Ideal.S_ .f32 0xBF000000#32)) (Host.divf (Host.rsqrt (MS x)) (MS x))))
    (broadcastInDim Cert.Reference23Ideal.S4096x1 ![] Cert.Reference23Ideal.Gen.bcast_S_S4096x1 (constant Cert.Reference23Ideal.S_ .f32 0x44800000#32))) (constant Cert.Reference23Ideal.S_ .f32 0x00000000#32) Cert.Reference23Ideal.Gen.reducesTo_S4096x1_S4096_d1 Cert.Reference23Ideal.Gen.h_S_)

abbrev RX (x : FVec Ideal Cert.Reference23Ideal.S4096x1024 .f32) (g : FVec Ideal Cert.Reference23Ideal.S2x1024 .f32) (u v : FVec Ideal Cert.Reference23Ideal.S4096x1024 .f32) : FVec Ideal Cert.Reference23Ideal.S4096x1024 .f32 :=
  addf v (addf (addf (mulf (UG g u) (broadcastInDim Cert.Reference23Ideal.S4096x1024 ![0, 1] Cert.Reference23Ideal.Gen.bcast_S4096x1_S4096x1024_0_1 (Host.rsqrt (MS x)))) (mulf x (DS x g u))) (mulf (DS x g u) x))

abbrev RG (x u : FVec Ideal Cert.Reference23Ideal.S4096x1024 .f32) : FVec Ideal Cert.Reference23Ideal.S1024 .f32 :=
  Host.reduceAdd (shapeCast _ (Host.reduceAdd (mulf (mulf x (broadcastInDim Cert.Reference23Ideal.S4096x1024 ![0, 1] Cert.Reference23Ideal.Gen.bcast_S4096x1_S4096x1024_0_1 (Host.rsqrt (MS x)))) u)
    (constant Cert.Reference23Ideal.S_ .f32 0x00000000#32) Cert.Reference23Ideal.Gen.reducesTo_S4096x1024_S1024_d0 Cert.Reference23Ideal.Gen.h_S_) Cert.Reference23Ideal.Gen.shapeCasts_S1024_S1x1024) (constant Cert.Reference23Ideal.S_ .f32 0x00000000#32) Cert.Reference23Ideal.Gen.reducesTo_S1x1024_S1024_d0 Cert.Reference23Ideal.Gen.h_S_

theorem c1024 : Ideal.ofBits .f32 0x44800000#32 = ((1024 : ℝ) : EReal) := by
  simp [Ideal.ofBits, Ideal.ieee, -EReal.coe_mul]; norm_num

theorem chalf : Ideal.ofBits .f32 0xBF000000#32 = ((-(1 / 2) : ℝ) : EReal) := by
  simp [Ideal.ofBits, Ideal.ieee, -EReal.coe_mul, -EReal.coe_neg]; norm_num

theorem ceps : 0 < Ideal.ofBits .f32 0x358637BD#32 := by
  simp [Ideal.ofBits, Ideal.ieee, -EReal.coe_mul]

theorem sq_nonneg' (x : EReal) : 0 ≤ x * x := by
  induction x with
  | bot => simp
  | top => simp
  | coe r => rw [← EReal.coe_mul]; exact EReal.coe_nonneg.mpr (mul_self_nonneg r)

/-- the mean of the squares, and a little more, is positive -/
theorem ms_pos {ι : Type} [Fintype ι] (f : ι → EReal) : 0 < Ideal.div (∑ x, f x * f x) (Ideal.ofBits .f32 0x44800000#32) + Ideal.ofBits .f32 0x358637BD#32 := by
  refine lt_of_lt_of_le ceps (le_add_of_nonneg_left ?_)
  rw [c1024, Ideal.div_coe (by norm_num)]
  exact mul_nonneg (Finset.sum_nonneg fun x _ => sq_nonneg' (f x)) (EReal.coe_nonneg.mpr (by norm_num))

theorem rsqrt_div {M : EReal} (h : 0 < M) : Ideal.div (Ideal.rsqrt M) M = Ideal.rsqrt M * (Ideal.rsqrt M * Ideal.rsqrt M) := by
  induction M with
  | bot => exact absurd h (by simp)
  | top => simp [Ideal.div]
  | coe r =>
    have hr : 0 < r := EReal.coe_pos.mp h
    have hs : Real.sqrt r ≠ 0 := (Real.sqrt_pos.mpr hr).ne'
    rw [Ideal.div_coe hr.ne', Ideal.rsqrt_coe, if_neg (not_lt.mpr hr.le), if_neg hr.ne', ← EReal.coe_mul, ← EReal.coe_mul, ← EReal.coe_mul]
    congr 2
    rw [one_div, ← mul_inv, Real.mul_self_sqrt hr.le]

theorem half_add_half (y : EReal) : y * ((-(1 / 2) : ℝ) : EReal) + y * ((-(1 / 2) : ℝ) : EReal) = -y := by
  induction y with
  | bot => rw [EReal.bot_mul_coe_of_neg (by norm_num)]; rfl
  | top => rw [EReal.top_mul_coe_of_neg (by norm_num)]; rfl
  | coe r => rw [← EReal.coe_mul, ← EReal.coe_add, ← EReal.coe_neg]; congr 1; ring

/-- a row's entry of the gradient, by its closed form and by the derivatives of its parts -/
theorem entry {M : EReal} (h : 0 < M) (a w x S : EReal) :
    a + Ideal.rsqrt M * w - x * Ideal.rsqrt M * (Ideal.rsqrt M * Ideal.rsqrt M) * Ideal.div S (Ideal.ofBits .f32 0x44800000#32)
      = a + (w * Ideal.rsqrt M + x * ∑ _ : Fin 1, Ideal.div (S * (Ideal.ofBits .f32 0xBF000000#32 * Ideal.div (Ideal.rsqrt M) M)) (Ideal.ofBits .f32 0x44800000#32)
          + (∑ _ : Fin 1, Ideal.div (S * (Ideal.ofBits .f32 0xBF000000#32 * Ideal.div (Ideal.rsqrt M) M)) (Ideal.ofBits .f32 0x44800000#32)) * x) := by
  rw [rsqrt_div h, c1024, chalf, Fin.sum_univ_one, Ideal.div_coe (by norm_num), Ideal.div_coe (by norm_num)]
  have e : x * (S * (((-(1 / 2) : ℝ) : EReal) * (Ideal.rsqrt M * (Ideal.rsqrt M * Ideal.rsqrt M))) * ((1 / 1024 : ℝ) : EReal))
      = (x * Ideal.rsqrt M * (Ideal.rsqrt M * Ideal.rsqrt M) * (S * ((1 / 1024 : ℝ) : EReal))) * ((-(1 / 2) : ℝ) : EReal) := by ac_rfl
  rw [mul_comm _ x, e, add_assoc (w * _), half_add_half, sub_eq_add_neg, add_assoc, mul_comm w]

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

def padg (a : FVec Ideal S2x1024 .f32) : FVec Ideal S8x1024 .f32 :=
  pad S8x1024 ![0, 0] ![6, 0] ![0, 0] a (sitofp (F := Ideal) .f32 (constantI S_ 32 0#32)) pads_S2x1024_S8x1024_060_000 h_S_

theorem V_g (c : Dev nD) : V m c main_v0 = padg (m ((c : Thread nD τ).loc main_arg1)) := by
  entry_read; rfl

/-- the block of gains at a point of the grid is all of them -/
theorem gain (c : Dev nD) (t : Fin cfg0.N) : iblk m c 1 t = padg (m ((c : Thread nD τ).loc main_arg1)) := by
  rw [← V_g m c]
  funext z
  blk_point [iblk, idx t]

theorem dx_block (c : Dev nD) (t : Fin cfg0.N) : (outsAt0 m c t.val t.isLt).1
    = k0_pay4 (iblk m c 0 t) (iblk m c 2 t) (View.ld (iblk m c 1 t) (Rect.unit ![1, 0] ![1, 1024] inb_S8x1024_S1x1024_1_0)) (iblk m c 3 t) := by
  by_cases h0 : t.val % 4 = 0
  · rw [outsAt0_A m c t h0]; dsimp only; frame_out; rfl
  · rw [outsAt0_B m c t h0]; dsimp only; frame_out; rfl

/-- what a point of the grid adds to the gradient in the gain: the sum over its rows -/
def part (c : Dev nD) (t : Fin cfg0.N) (z : S8x1024.Idx) : EReal :=
  if (z 0).val < 1 then ∑ r : Fin 1024, k0_pay7 (F := Ideal) (iblk m c 0 t) (iblk m c 2 t) (ix2 r (z 1)) else 0

theorem row_eq (z : S8x1024.Idx) (hz : (z 0).val < 1) : (ix2 (0 : Fin 8) (z 1) : S8x1024.Idx) = z := by
  funext a; revert a
  exact Fin.forall_fin_two.mpr ⟨Fin.ext (by show 0 = (z 0).val; omega), rfl⟩

theorem dg_step (c : Dev nD) (t : Fin cfg0.N) (h0 : ¬ t.val % 4 = 0) (z : S8x1024.Idx) :
    (outsAt0 m c t.val t.isLt).2 z = (outsAt0 m c (t.val - 1) (Nat.lt_of_le_of_lt (Nat.sub_le _ _) t.isLt)).2 z + part m c t z := by
  rw [outsAt0_B m c t h0]; dsimp only; frame_out
  by_cases hz : (z 0).val < 1
  · rw [part, if_pos hz]
    refine (View.read_writes_cons_unit_of_mem _ _ _ _ _ z (ix2 (0 : Fin 1) (z 1)) rfl (Fin.forall_fin_two.mpr ⟨by show (z 0).val = 0 + 0; omega, (Nat.zero_add _).symm⟩)).trans ?_
    pointwise [k0_pay1, k0_pay6]
    exact congrArg (fun i => (outsAt0 m c (t.val - 1) (Nat.lt_of_le_of_lt (Nat.sub_le _ _) t.isLt)).2 i + ∑ r : Fin 1024, k0_pay7 (F := Ideal) (iblk m c 0 t) (iblk m c 2 t) (ix2 r (z 1))) (row_eq z hz)
  · rw [part, if_neg hz, add_zero]
    refine (View.read_writes_cons_unit_of_not_mem _ _ _ _ _ z rfl (0 : Fin 2) (Or.inr (by show 0 + 1 ≤ (z 0).val; omega))).trans ?_
    rw [View.writes_nil, Memref.IsWhole.read_unread]

theorem row_mem (w : S1x1024.Idx → EReal) (L : List (View.Piece (Elt Ideal) S8x1024 .f32)) (z : S8x1024.Idx) (hz : (z 0).val < 1) :
    View.canon ((⟨Rect.unit ![0, 0] ![1, 1024] inb_S8x1024_S1x1024_0_0, w⟩ : View.Piece (Elt Ideal) S8x1024 .f32) :: L) z = w (ix2 (0 : Fin 1) (z 1)) := by
  have e : (Rect.unit ![0, 0] ![1, 1024] inb_S8x1024_S1x1024_0_0 : Rect S8x1024).emb (ix2 (0 : Fin 1) (z 1)) = z := by
    funext a; revert a
    refine Fin.forall_fin_two.mpr ⟨Fin.ext ?_, Fin.ext ?_⟩
    · show 0 + 1 * 0 = (z 0).val; omega
    · show 0 + 1 * (z 1).val = (z 1).val; omega
  conv_lhs => rw [← e]
  exact View.canon_cons_emb _ _ _ _

theorem row_not_mem (w : S1x1024.Idx → EReal) (L : List (View.Piece (Elt Ideal) S8x1024 .f32)) (z : S8x1024.Idx) (hz : ¬ (z 0).val < 1) :
    View.canon ((⟨Rect.unit ![0, 0] ![1, 1024] inb_S8x1024_S1x1024_0_0, w⟩ : View.Piece (Elt Ideal) S8x1024 .f32) :: L) z = View.canon L z := by
  refine View.canon_cons_of_not_mem _ _ ?_
  rw [Rect.mem_set_unit]
  intro h
  have := (h (0 : Fin 2)).2
  exact hz this

theorem zeros (z : S8x1024.Idx) : View.canon [(⟨Rect.unit ![0, 0] ![8, 1024] inb_S8x1024_S8x1024_0_0, k0_pay5 (F := Ideal)⟩ : View.Piece (Elt Ideal) S8x1024 .f32)] z = (0 : EReal) := by
  refine (congrFun (View.canon_cons_unit_lit' (Val := Elt Ideal) (e := .f32) inb_S8x1024_S8x1024_0_0 (k0_pay5 (F := Ideal)) [] (by decide)) z).trans ?_
  pointwise [k0_pay5]

theorem dg_first (c : Dev nD) (t : Fin cfg0.N) (h0 : t.val % 4 = 0) (z : S8x1024.Idx) : (outsAt0 m c t.val t.isLt).2 z = 0 + part m c t z := by
  rw [outsAt0_A m c t h0]; dsimp only; frame_out
  by_cases hz : (z 0).val < 1
  · rw [part, if_pos hz]
    refine (row_mem _ _ z hz).trans ?_
    rw [View.readCov_eq_canon']
    pointwise [k0_pay1, k0_pay6]
    exact (congrArg (· + ∑ r : Fin 1024, k0_pay7 (F := Ideal) (iblk m c 0 t) (iblk m c 2 t) (ix2 r (z 1))) (zeros (ix2 (0 : Fin 8) (z 1)))).trans (zero_add _)
  · rw [part, if_neg hz, add_zero]
    exact (row_not_mem _ _ z hz).trans (zeros z)

theorem final4 (c : Dev nD) : (dats m 0 c).arrAt 4 (cfgs 0).N = RX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4, dx_block m c t, gain m c t]
  pointwise [padg, k0_pay4, k0_pay3, k0_pay2, RX, UG, DS, MS]
  refine (entry (ms_pos fun x => iblk m c 0 t (ix2 (y 0) x)) _ _ _ _).trans ?_
  blk_point [iblk, V, idx t]

/-- the norm before its gain -/
abbrev XR (x : FVec Ideal Cert.Reference23Ideal.S4096x1024 .f32) : FVec Ideal Cert.Reference23Ideal.S4096x1024 .f32 :=
  mulf x (broadcastInDim Cert.Reference23Ideal.S4096x1024 ![0, 1] Cert.Reference23Ideal.Gen.bcast_S4096x1_S4096x1024_0_1 (Host.rsqrt (MS x)))

/-- what a row adds to the gradient in the gain -/
abbrev term (x u : FVec Ideal Cert.Reference23Ideal.S4096x1024 .f32) (l : Fin 4096) (j : Fin 1024) : EReal := u (ix2 l j) * XR x (ix2 l j)

/-- the gradient in the gain, above rows of zeros -/
def DG (x u : FVec Ideal Cert.Reference23Ideal.S4096x1024 .f32) : FVec Ideal S8x1024 .f32 :=
  fun z => (if (z 0).val < 1 then RG x u (ValueIdx.ix1 (z 1)) else 0 : EReal)

theorem RG_rows (x u : FVec Ideal Cert.Reference23Ideal.S4096x1024 .f32) (j : Fin 1024) :
    RG x u (ValueIdx.ix1 j) = ∑ s : Fin 4, ∑ r : Fin 1024, term x u (⟨s.val * 1024 + r.val, by omega⟩ : Fin 4096) j := by
  have h : RG x u (ValueIdx.ix1 j) = ∑ l : Fin 4096, term x u l j := by
    refine Eq.trans ?_ (Finset.sum_congr rfl fun l _ => mul_comm (XR x (ix2 l j)) (u (ix2 l j)))
    pointwise [RG, XR, MS]
    rw [Fin.sum_univ_one]
  rw [h]
  exact (Fin.sum_mul_add_congr fun s k hl => rfl).symm

theorem part_eq (c : Dev nD) (t : Fin cfg0.N) (z : S8x1024.Idx) (hz : (z 0).val < 1) (h : t.val < 4) :
    part m c t z = ∑ r : Fin 1024, term (m ((c : Thread nD τ).loc main_arg0)) (m ((c : Thread nD τ).loc main_arg2)) (⟨t.val * 1024 + r.val, by omega⟩ : Fin 4096) (z 1) := by
  rw [part, if_pos hz]
  refine Finset.sum_congr rfl fun r _ => ?_
  pointwise [k0_pay7, k0_pay3, k0_pay2, term, XR, MS]
  blk_point [iblk, V, idx t]

theorem final5 (c : Dev nD) : (dats m 0 c).arrAt 5 (cfgs 0).N = DG (m ((c : Thread nD τ).loc main_arg0)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0) (part m c)
    (fun t h i => dg_first m c t h i) (fun t h i => dg_step m c t h i) t ((flush0_5 t).mp hf) _, zero_add]
  have ht : t.val < 4 := t.isLt
  have hq : t.val / 4 = 0 := by omega
  have hemb : ((cfg0.win 5).blk t).view.emb y = (y : S8x1024.Idx) := by
    blk_ext [idx t]
  refine Eq.trans ?_ (congrArg (DG (m ((c : Thread nD τ).loc main_arg0)) (m ((c : Thread nD τ).loc main_arg2))) hemb.symm)
  change @Eq EReal _ _
  unfold DG
  by_cases hz : ((y : S8x1024.Idx) 0).val < 1
  · rw [if_pos hz]
    refine Eq.trans ?_ (RG_rows _ _ _).symm
    change @Eq EReal _ _
    refine Finset.sum_congr rfl fun s _ => ?_
    refine (part_eq m c _ y hz (by dsimp only; omega)).trans ?_
    simp only [hq, Nat.mul_zero, Nat.zero_add]
  · rw [if_neg hz]
    exact Finset.sum_eq_zero fun s _ => by rw [part, if_neg hz]

/-- the gain's row of the sums -/
abbrev row (a : FVec Ideal S8x1024 .f32) : FVec Ideal S1024 .f32 :=
  shapeCast _ (extractStridedSlice S1x1024 ![0, 0] a slices_S8x1024_S1x1024_0_0) shapeCasts_S1x1024_S1024

theorem row_apply (a : FVec Ideal S8x1024 .f32) (j : Fin 1024) : row a (ValueIdx.ix1 j) = a (ix2 (0 : Fin 8) j) := by
  pointwise [row]

theorem out5 (c : Dev nD) : Pipeline.afterTail₀ cfgs (dats m) 0 (V0 m) [hostOps1] c main_v3 = RG (m ((c : Thread nD τ).loc main_arg0)) (m ((c : Thread nD τ).loc main_arg2)) := by
  have e : Pipeline.afterTail₀ cfgs (dats m) 0 (V0 m) [hostOps1] c main_v3 = row ((dats m 0 c).arrAt 5 (cfgs 0).N) := by
    unfold Pipeline.afterTail₀
    simp only [List.flatten_cons, List.flatten_nil, List.append_nil]
    after_results
    exact congrArg row (Pipeline.withArrays_arr spec0 (by decide) c (V0 m c) (fun w => (dats m 0 c).arrAt w (cfgs 0).N) 5)
  refine e.trans ?_
  rw [final5]
  funext z
  rw [ValueIdx.eq_ix1 z]
  refine (row_apply _ _).trans ?_
  exact if_pos Nat.zero_lt_one

end Cert.Kernel23Ideal.Rms1

end
-- ==== Proof.GateMath.lean ====
module
public import Idealize.ShloMosaic.PureOps.Ideal.Laws
public import Idealize.ShloMosaic.Lib.Pipeline.ValueKit

/-! The functions of the gates over the extended reals, and sums along a chunk of 64 rows by doubling. -/

@[expose] public section

noncomputable section

open Idealize.ShloMosaic
open scoped BigOperators

namespace Cert.GateMath

theorem chalf : Ideal.ofBits .f32 0x3F000000#32 = ((1 / 2 : ℝ) : EReal) := by
  simp [Ideal.ofBits, Ideal.ieee, -EReal.coe_mul]; norm_num

theorem cone : Ideal.ofBits .f32 0x3F800000#32 = (1 : EReal) := by
  rw [← EReal.coe_one]
  simp [Ideal.ofBits, Ideal.ieee, -EReal.coe_mul, -EReal.coe_one]; norm_num

theorem cinf : Ideal.ofBits .f32 0x7F800000#32 = (⊤ : EReal) := by
  simp [Ideal.ofBits, Ideal.ieee]

/-- the logistic function -/
def logistic (x : EReal) : EReal := Ideal.div 1 (1 + Ideal.exp (-x))

theorem logistic_top : logistic ⊤ = 1 := by
  show Ideal.div 1 (1 + Ideal.exp (-⊤)) = 1
  rw [EReal.neg_top, show Ideal.exp ⊥ = 0 from rfl, add_zero]
  simp [Ideal.div]

theorem logistic_bot : logistic ⊥ = 0 := by
  show Ideal.div 1 (1 + Ideal.exp (-⊥)) = 0
  rw [EReal.neg_bot, show Ideal.exp ⊤ = ⊤ from rfl]
  rw [show (1 : EReal) + ⊤ = ⊤ from rfl]
  simp [Ideal.div]

theorem logistic_coe (r : ℝ) : logistic (r : EReal) = ((1 / (1 + Real.exp (-r)) : ℝ) : EReal) := by
  have h : (0 : ℝ) < 1 + Real.exp (-r) := by positivity
  show Ideal.div 1 (1 + Ideal.exp (-(r : EReal))) = _
  rw [← EReal.coe_neg, show Ideal.exp ((-r : ℝ) : EReal) = ((Real.exp (-r) : ℝ) : EReal) from rfl, ← EReal.coe_one, ← EReal.coe_add,
    Ideal.div_coe h.ne', ← EReal.coe_mul, one_mul]

/-- the logistic function by the hyperbolic tangent -/
theorem logistic_tanh (x : EReal) : Ideal.ofBits .f32 0x3F000000#32 * Ideal.tanh (Ideal.ofBits .f32 0x3F000000#32 * x) + Ideal.ofBits .f32 0x3F000000#32 = logistic x := by
  rw [chalf]
  induction x with
  | bot =>
    rw [logistic_bot, EReal.coe_mul_bot_of_pos (by norm_num), show Ideal.tanh ⊥ = ((-1 : ℝ) : EReal) from rfl, ← EReal.coe_mul, ← EReal.coe_add, ← EReal.coe_zero]
    congr 1; norm_num
  | top =>
    rw [logistic_top, EReal.coe_mul_top_of_pos (by norm_num), show Ideal.tanh ⊤ = ((1 : ℝ) : EReal) from rfl, ← EReal.coe_mul, ← EReal.coe_add, ← EReal.coe_one]
    congr 1; norm_num
  | coe r =>
    rw [logistic_coe, ← EReal.coe_mul, show ∀ s : ℝ, Ideal.tanh (s : EReal) = ((Real.tanh s : ℝ) : EReal) from fun _ => rfl, ← EReal.coe_mul, ← EReal.coe_add]
    congr 1
    have h : Real.exp (-r) = Real.exp (-(1 / 2 * r)) * Real.exp (-(1 / 2 * r)) := by rw [← Real.exp_add]; congr 1; ring
    have e : Real.exp (1 / 2 * r) * Real.exp (-(1 / 2 * r)) = 1 := by rw [← Real.exp_add, add_neg_cancel, Real.exp_zero]
    rw [h, Real.tanh_eq_sinh_div_cosh, Real.sinh_eq, Real.cosh_eq]
    generalize Real.exp (1 / 2 * r) = a at *
    have hb := Real.exp_pos (-(1 / 2 * r))
    generalize Real.exp (-(1 / 2 * r)) = b at *
    have ha : a = 1 / b := by field_simp; exact e
    subst ha
    have : 0 < 1 + b * b := by positivity
    field_simp
    ring

/-- the logarithm of one plus the exponential -/
def sp (y : EReal) : EReal := max y 0 + Ideal.log1p (Ideal.exp (-(max y (-y))))

theorem sp_top : sp ⊤ = ⊤ := by
  show max ⊤ 0 + Ideal.log (1 + Ideal.exp (-(max ⊤ (-⊤)))) = ⊤
  rw [EReal.neg_top, max_eq_left bot_le, max_eq_left le_top, EReal.neg_top, show Ideal.exp ⊥ = 0 from rfl, add_zero, ← EReal.coe_one,
    show Ideal.log ((1 : ℝ) : EReal) = if (1 : ℝ) ≤ 0 then ⊥ else ((Real.log 1 : ℝ) : EReal) from rfl, if_neg (by norm_num)]
  rfl

theorem sp_bot : sp ⊥ = 0 := by
  show max ⊥ 0 + Ideal.log (1 + Ideal.exp (-(max ⊥ (-⊥)))) = 0
  rw [EReal.neg_bot, max_eq_right bot_le, max_eq_right bot_le, EReal.neg_top, show Ideal.exp ⊥ = 0 from rfl, add_zero, zero_add, ← EReal.coe_one,
    show Ideal.log ((1 : ℝ) : EReal) = if (1 : ℝ) ≤ 0 then ⊥ else ((Real.log 1 : ℝ) : EReal) from rfl, if_neg (by norm_num), Real.log_one]
  rfl

theorem coe_max' (a b : ℝ) : max (a : EReal) (b : EReal) = ((max a b : ℝ) : EReal) :=
  (EReal.coe_strictMono.monotone.map_max).symm

theorem sp_coe (r : ℝ) : sp (r : EReal) = ((max r 0 + Real.log (1 + Real.exp (-|r|)) : ℝ) : EReal) := by
  have h : (0 : ℝ) < 1 + Real.exp (-|r|) := by positivity
  show max (r : EReal) 0 + Ideal.log (1 + Ideal.exp (-(max (r : EReal) (-(r : EReal))))) = _
  rw [← EReal.coe_neg, ← EReal.coe_zero, coe_max', coe_max', show max r (-r) = |r| from rfl, ← EReal.coe_neg,
    show Ideal.exp ((-|r| : ℝ) : EReal) = ((Real.exp (-|r|) : ℝ) : EReal) from rfl, ← EReal.coe_one, ← EReal.coe_add,
    show ∀ s : ℝ, Ideal.log (s : EReal) = if s ≤ 0 then ⊥ else ((Real.log s : ℝ) : EReal) from fun _ => rfl, if_neg (not_le.mpr h), ← EReal.coe_add]

/-- its derivative, from its value, is the logistic function -/
theorem exp_sub_sp (y : EReal) : Ideal.exp ((if y = ⊤ then 0 else y) - (if sp y = ⊤ then 0 else sp y)) = logistic y := by
  induction y with
  | bot =>
    rw [sp_bot, logistic_bot, if_neg bot_ne_top, if_neg EReal.zero_ne_top, sub_zero]
    rfl
  | top =>
    rw [sp_top, logistic_top, if_pos rfl, sub_zero, ← EReal.coe_zero, show Ideal.exp ((0 : ℝ) : EReal) = ((Real.exp 0 : ℝ) : EReal) from rfl, Real.exp_zero]
    rfl
  | coe r =>
    rw [sp_coe, logistic_coe, if_neg (EReal.coe_ne_top _), if_neg (EReal.coe_ne_top _), ← EReal.coe_sub,
      show ∀ s : ℝ, Ideal.exp (s : EReal) = ((Real.exp s : ℝ) : EReal) from fun _ => rfl]
    congr 1
    have h : (0 : ℝ) < 1 + Real.exp (-|r|) := by positivity
    rw [show r - (max r 0 + Real.log (1 + Real.exp (-|r|))) = (r - max r 0) - Real.log (1 + Real.exp (-|r|)) by ring, Real.exp_sub, Real.exp_log h]
    rcases le_total 0 r with hr | hr
    · rw [max_eq_left hr, abs_of_nonneg hr, sub_self, Real.exp_zero]
    · rw [max_eq_right hr, abs_of_nonpos hr, sub_zero, neg_neg]
      have e : Real.exp r * Real.exp (-r) = 1 := by rw [← Real.exp_add, add_neg_cancel, Real.exp_zero]
      rw [div_eq_div_iff (by positivity) (by positivity)]
      linear_combination e

/-! ### Sums along a chunk -/

/-- the sum of the `s` entries that end at `r`, of those in `r`'s chunk -/
def pre (f : ℕ → EReal) (s r : ℕ) : EReal := ∑ k ∈ Finset.range s, if k ≤ r % 64 then f (r - k) else 0

/-- the sum of the `s` entries that begin at `r`, of those in `r`'s chunk -/
def suf (f : ℕ → EReal) (s r : ℕ) : EReal := ∑ k ∈ Finset.range s, if r % 64 + k < 64 then f (r + k) else 0

theorem pre_one (f : ℕ → EReal) (r : ℕ) : pre f 1 r = f r := by
  simp [pre]

theorem suf_one (f : ℕ → EReal) (r : ℕ) : suf f 1 r = f r := by
  have : r % 64 < 64 := Nat.mod_lt _ (by norm_num)
  simp [suf, this]

theorem pre_two (f : ℕ → EReal) (s r : ℕ) : pre f (s + s) r = pre f s r + if s ≤ r % 64 then pre f s (r - s) else 0 := by
  unfold pre
  rw [Finset.sum_range_add]
  congr 1
  by_cases h : s ≤ r % 64
  · rw [if_pos h]
    refine Finset.sum_congr rfl fun k _ => ?_
    have e : (r - s) % 64 = r % 64 - s := by omega
    rw [e, Nat.sub_sub]
    by_cases h2 : s + k ≤ r % 64
    · rw [if_pos h2, if_pos (by omega)]
    · rw [if_neg h2, if_neg (by omega)]
  · rw [if_neg h]
    exact Finset.sum_eq_zero fun k _ => if_neg (by omega)

theorem suf_two (f : ℕ → EReal) (s r : ℕ) : suf f (s + s) r = suf f s r + if r % 64 + s < 64 then suf f s (r + s) else 0 := by
  unfold suf
  rw [Finset.sum_range_add]
  congr 1
  by_cases h : r % 64 + s < 64
  · rw [if_pos h]
    refine Finset.sum_congr rfl fun k _ => ?_
    have e : (r + s) % 64 = r % 64 + s := by omega
    rw [e, Nat.add_assoc, Nat.add_assoc]
  · rw [if_neg h]
    exact Finset.sum_eq_zero fun k _ => if_neg (by omega)

/-- the whole sum up to `r` in its chunk -/
theorem pre_all (f : ℕ → EReal) (r : ℕ) : pre f 64 r = ∑ j : Fin 64, if j.val ≤ r % 64 then f (r / 64 * 64 + j.val) else 0 := by
  have hm : r % 64 < 64 := Nat.mod_lt _ (by norm_num)
  rw [Fin.sum_univ_eq_sum_range (fun j => if j ≤ r % 64 then f (r / 64 * 64 + j) else 0) 64]
  unfold pre
  rw [← Finset.sum_filter, ← Finset.sum_filter]
  refine Finset.sum_bij' (fun k _ => r % 64 - k) (fun k _ => r % 64 - k) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_filter, Finset.mem_range] at hk; omega
  · intro k hk
    simp only [Finset.mem_filter, Finset.mem_range] at hk
    congr 1; omega

/-- the whole sum from `r` on in its chunk -/
theorem suf_all (f : ℕ → EReal) (r : ℕ) : suf f 64 r = ∑ j : Fin 64, if r % 64 ≤ j.val then f (r / 64 * 64 + j.val) else 0 := by
  have hm : r % 64 < 64 := Nat.mod_lt _ (by norm_num)
  rw [Fin.sum_univ_eq_sum_range (fun j => if r % 64 ≤ j then f (r / 64 * 64 + j) else 0) 64]
  unfold suf
  rw [← Finset.sum_filter, ← Finset.sum_filter]
  refine Finset.sum_bij' (fun k _ => r % 64 + k) (fun k _ => k - r % 64) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_filter, Finset.mem_range] at hk; omega
  · intro k hk
    simp only [Finset.mem_filter, Finset.mem_range] at hk
    congr 1; omega

end Cert.GateMath

end
-- ==== Proof.GatesFwd.lean ====
module
public import proofs.«01_k».proof.Proof.Gen.Kernel24Ideal.Frame
public import proofs.«01_k».proof.Proof.Gen.Reference24Ideal
public import Idealize.ShloMosaic.Lib.Pipeline.ValueKit
public import Idealize.ShloMosaic.Lib.WritesUnit
public import proofs.«01_k».proof.Proof.Row
public import proofs.«01_k».proof.Proof.GateMath

/-! The gates of the recurrent layer: every row of them, and the same by columns. -/

set_option maxRecDepth 16384

@[expose] public section

noncomputable section

open Idealize.ShloMosaic Idealize.ShloMosaic.TcCoe Idealize.SL.Sem
open Idealize.ShloMosaic.Pipeline (Dat)
open scoped BigOperators

namespace Cert.Reference24Ideal.Terms

open Cert.GateMath Cert.Reference24Ideal Cert.Reference24Ideal.Gen

/-- the decay's logits with their bias -/
abbrev Y (x : FVec Ideal S4096x6272 .f32) (b : FVec Ideal S1x8 .f32) : FVec Ideal S4096x8 .f32 :=
  addf (extractStridedSlice S4096x8 ![0, 6152] x slices_S4096x6272_S4096x8_0_6152) (broadcastInDim S4096x8 ![0, 1] bcast_S1x8_S4096x8_0_1 (broadcastInDim S1x8 ![1] bcast_S8_S1x8_1 (shapeCast _ b shapeCasts_S1x8_S8)))

/-- zeros -/
abbrev Z : FVec Ideal S4096x8 .f32 := broadcastInDim S4096x8 ![] bcast_S_S4096x8 (constant S_ .f32 0x00000000#32)

/-- the softplus as the reference takes it -/
abbrev SPV (y : FVec Ideal S4096x8 .f32) : FVec Ideal S4096x8 .f32 :=
  select (cmpf .une (subf y Z) (subf y Z)) (addf y Z) (addf (maximumf y Z) (Host.log1p (Host.exp (Host.negf (Host.absf (subf y Z))))))

/-- the logarithms of the decays -/
abbrev GV (x : FVec Ideal S4096x6272 .f32) (a b : FVec Ideal S1x8 .f32) : FVec Ideal S4096x8 .f32 :=
  mulf (broadcastInDim S4096x8 ![0, 1] bcast_S1x8_S4096x8_0_1 (broadcastInDim S1x8 ![1] bcast_S8_S1x8_1 (Host.negf (Host.exp (shapeCast _ a shapeCasts_S1x8_S8))))) (SPV (Y x b))

/-- the rows at or above a row of a chunk -/
abbrev MASK : FVec Ideal S64x64 .f32 :=
  uitofp .f32 (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))

/-- the sums from the start of the chunk -/
abbrev SUMS (x : FVec Ideal S4096x6272 .f32) (a b : FVec Ideal S1x8 .f32) : FVec Ideal S4096x8 .f32 :=
  shapeCast _ (transpose S64x64x8 [0, 2, 1] (Host.dotGeneral dot_S64x64x8_S64x64_S64x8x64_1_1_02_0_n_n none (shapeCast _ (GV x a b) shapeCasts_S4096x8_S64x64x8) MASK) transposes_S64x8x64_S64x64x8_0_2_1) shapeCasts_S64x64x8_S4096x8

/-- what a step writes -/
abbrev BETA (x : FVec Ideal S4096x6272 .f32) : FVec Ideal S4096x8 .f32 :=
  Host.divf (broadcastInDim S4096x8 ![] bcast_S_S4096x8 (constant S_ .f32 0x3F800000#32)) (addf (broadcastInDim S4096x8 ![] bcast_S_S4096x8 (constant S_ .f32 0x3F800000#32)) (Host.exp (Host.negf (extractStridedSlice S4096x8 ![0, 6144] x slices_S4096x6272_S4096x8_0_6144))))

abbrev BOTH (x : FVec Ideal S4096x6272 .f32) (a b : FVec Ideal S1x8 .f32) : FVec Ideal S4096x16 .f32 :=
  concatenate S4096x16 1 [⟨S4096x8, BETA x⟩, ⟨S4096x8, SUMS x a b⟩] concatenates_S4096x8_S4096x8_S4096x16_d1

abbrev OUT0 (x : FVec Ideal S4096x6272 .f32) (a b : FVec Ideal S1x8 .f32) : FVec Ideal S4096x128 .f32 :=
  pad S4096x128 ![0, 0] ![0, 112] ![0, 0] (BOTH x a b) (sitofp .f32 (constantI S_ 32 0#32)) pads_S4096x16_S4096x128_000_01120 h_S_

abbrev OUT1 (x : FVec Ideal S4096x6272 .f32) (a b : FVec Ideal S1x8 .f32) : FVec Ideal S2x16x2048 .f32 :=
  transpose S2x16x2048 [0, 2, 1] (shapeCast _ (BOTH x a b) shapeCasts_S4096x16_S2x2048x16) transposes_S2x2048x16_S2x16x2048_0_2_1

theorem beta (x : FVec Ideal S4096x6272 .f32) (l : Fin 4096) (k : Fin 8) : BETA x (ix2 l k) = logistic (x (ix2 l (⟨6144 + k.val, by omega⟩ : Fin 6272))) := by
  have e : BETA x (ix2 l k) = Ideal.div (Ideal.ofBits .f32 0x3F800000#32) (Ideal.ofBits .f32 0x3F800000#32 + Ideal.exp (-(x (ix2 l (⟨6144 + k.val, by omega⟩ : Fin 6272))))) := by
    pointwise [BETA]
  rw [e, cone]
  rfl

theorem softplus (y : FVec Ideal S4096x8 .f32) (l : Fin 4096) (k : Fin 8) : SPV y (ix2 l k) = sp (y (ix2 l k)) := by
  have e : SPV y (ix2 l k) = if y (ix2 l k) ≠ y (ix2 l k) then y (ix2 l k) else sp (y (ix2 l k)) := by
    pointwise [SPV]
    rfl
  rw [e, if_neg (fun h => h rfl)]

theorem gv (x : FVec Ideal S4096x6272 .f32) (a b : FVec Ideal S1x8 .f32) (l : Fin 4096) (k : Fin 8) :
    GV x a b (ix2 l k) = (-Ideal.exp (a (ix2 (0 : Fin 1) k))) * sp (x (ix2 l (⟨6152 + k.val, by omega⟩ : Fin 6272)) + b (ix2 (0 : Fin 1) k)) := by
  have e : GV x a b (ix2 l k) = (-Ideal.exp (a (ix2 (0 : Fin 1) k))) * SPV (Y x b) (ix2 l k) := by
    unfold GV
    generalize SPV (Y x b) = z
    pointwise
  have e' : Y x b (ix2 l k) = x (ix2 l (⟨6152 + k.val, by omega⟩ : Fin 6272)) + b (ix2 (0 : Fin 1) k) := by
    pointwise [Y]
  rw [e, softplus, e']

theorem sge_at : ∀ a b : Fin 64, IntOp.cmpi .sge (BitVec.ofNat 32 a.val) (BitVec.ofNat 32 b.val) = if b.val ≤ a.val then 1#1 else 0#1 := by
  decide +kernel

theorem mask (i j : Fin 64) : MASK (ix2 i j) = if j.val ≤ i.val then 1 else 0 := by
  have e : MASK (ix2 i j) = FloatOps.uitofp (F := Ideal) .f32 (IntOp.cmpi .sge (BitVec.ofNat 32 i.val) (BitVec.ofNat 32 j.val)) := by
    pointwise [MASK]
  rw [e, sge_at]
  by_cases h : j.val ≤ i.val
  · rw [if_pos h, if_pos h]
    show ((((1#1 : BitVec 1).toNat : ℕ) : ℝ) : EReal) = 1
    simp
  · rw [if_neg h, if_neg h]
    show ((((0#1 : BitVec 1).toNat : ℕ) : ℝ) : EReal) = 0
    simp

theorem sums (x : FVec Ideal S4096x6272 .f32) (a b : FVec Ideal S1x8 .f32) (l : Fin 4096) (k : Fin 8) :
    SUMS x a b (ix2 l k) = ∑ j : Fin 64, if j.val ≤ l.val % 64 then GV x a b (ix2 (⟨l.val / 64 * 64 + j.val, by omega⟩ : Fin 4096) k) else 0 := by
  unfold SUMS
  have hm := mask
  generalize GV x a b = g
  generalize MASK = M at hm ⊢
  pointwise
  refine Finset.sum_congr rfl fun j _ => ?_
  rw [hm]
  show g _ * (if j.val ≤ l.val % 64 then (1 : EReal) else 0) = _
  by_cases h : j.val ≤ l.val % 64
  · rw [if_pos h, if_pos h, mul_one]
  · rw [if_neg h, if_neg h, mul_zero]

theorem out0 (x : FVec Ideal S4096x6272 .f32) (a b : FVec Ideal S1x8 .f32) (l : Fin 4096) (k : Fin 128) :
    OUT0 x a b (ix2 l k) = if h : k.val < 8 then BETA x (ix2 l (⟨k.val, h⟩ : Fin 8)) else if h' : k.val < 16 then SUMS x a b (ix2 l (⟨k.val - 8, by omega⟩ : Fin 8)) else 0 := by
  unfold OUT0 BOTH
  generalize BETA x = u
  generalize SUMS x a b = v
  have z : FloatOps.sitofp (F := Ideal) .f32 (0#32) = (0 : EReal) := by
    show ((((0#32 : BitVec 32).toInt : ℤ) : ℝ) : EReal) = 0
    simp
  pointwise
  rw [z]
  by_cases h8 : k.val < 8
  · rw [dif_pos (by omega), dif_pos h8, dif_pos h8]
  · by_cases h16 : k.val < 16
    · rw [dif_pos h16, dif_neg h8, dif_neg h8, dif_pos h16]
    · rw [dif_neg h16, dif_neg h8, dif_neg h16]

theorem out1 (x : FVec Ideal S4096x6272 .f32) (a b : FVec Ideal S1x8 .f32) (s : Fin 2) (k : Fin 16) (l : Fin 2048) :
    OUT1 x a b (ix3 s k l) = if h : k.val < 8 then BETA x (ix2 (⟨s.val * 2048 + l.val, by omega⟩ : Fin 4096) (⟨k.val, h⟩ : Fin 8)) else SUMS x a b (ix2 (⟨s.val * 2048 + l.val, by omega⟩ : Fin 4096) (⟨k.val - 8, by omega⟩ : Fin 8)) := by
  unfold OUT1 BOTH
  generalize BETA x = u
  generalize SUMS x a b = v
  pointwise

end Cert.Reference24Ideal.Terms

namespace Cert.Kernel24Ideal.GatesFwd

open Cert.GateMath Cert.Kernel24Ideal Cert.Kernel24Ideal.Gen

variable (m : (ℓ : Loc nD τ sig) → Buf (Elt Ideal) ℓ)

/-- the row and the first column of a leaf of eight numbers -/
def at8 (r : BitVec 32) : IVec S2 32 :=
  concatenate S2 0 [⟨S1, broadcastInDim S1 ![] bcast_S_S1 (constantI S_ 32 r)⟩, ⟨S1, broadcastInDim S1 ![] bcast_S_S1 (constantI S_ 32 8#32)⟩] concatenates_S1_S1_S2_d0

/-- the two leaves of the decay gates, in rows 0 and 1 from column 8 -/
def gateRows (a b : FVec Ideal S1x8 .f32) : FVec Ideal S8x128 .f32 :=
  Host.scatter scatter_S8x128_S2_S8_0_0_01_0 (fun _ b => b)
    (Host.scatter scatter_S8x128_S2_S8_0_0_01_0 (fun _ b => b) (broadcastInDim S8x128 ![] bcast_S_S8x128 (constant (F := Ideal) S_ .f32 0x00000000#32)) (at8 0#32)
      (shapeCast S8 a shapeCasts_S1x8_S8))
    (at8 1#32) (shapeCast S8 b shapeCasts_S1x8_S8)

theorem at8_0 (r : BitVec 32) : at8 r (ValueIdx.ix1 (0 : Fin 2)) = r := by
  pointwise [at8]

theorem at8_1 (r : BitVec 32) : at8 r (ValueIdx.ix1 (1 : Fin 2)) = 8#32 := by
  pointwise [at8]

theorem gate0 (a b : FVec Ideal S1x8 .f32) (k : Fin 8) (c : Fin 128) (h : c.val = 8 + k.val) : gateRows a b (ix2 (0 : Fin 8) c) = a (ix2 (0 : Fin 1) k) := by
  unfold gateRows
  refine (Cert.Row.row_miss scatter_S8x128_S2_S8_0_0_01_0 rfl rfl rfl _ _ _ (0 : Fin 8) c
    (by rw [show (at8 1#32 (ValueIdx.ix1 (0 : Fin 2))) = 1#32 from at8_0 _]; decide)).trans ?_
  refine (Cert.Row.row_hit scatter_S8x128_S2_S8_0_0_01_0 rfl rfl rfl _ _ _ k (0 : Fin 8) c
    ((congrArg BitVec.toInt (show at8 0#32 (ValueIdx.ix1 (0 : Fin 2)) = 0#32 from at8_0 _)).trans (by decide))
    (by rw [show at8 0#32 (ValueIdx.ix1 (1 : Fin 2)) = 8#32 from at8_1 _, h]; push_cast; rfl)).trans ?_
  pointwise

theorem gate1 (a b : FVec Ideal S1x8 .f32) (k : Fin 8) (c : Fin 128) (h : c.val = 8 + k.val) : gateRows a b (ix2 (1 : Fin 8) c) = b (ix2 (0 : Fin 1) k) := by
  unfold gateRows
  refine (Cert.Row.row_hit scatter_S8x128_S2_S8_0_0_01_0 rfl rfl rfl _ _ _ k (1 : Fin 8) c
    ((congrArg BitVec.toInt (show at8 1#32 (ValueIdx.ix1 (0 : Fin 2)) = 1#32 from at8_0 _)).trans (by decide))
    (by rw [show at8 1#32 (ValueIdx.ix1 (1 : Fin 2)) = 8#32 from at8_1 _, h]; push_cast; rfl)).trans ?_
  pointwise

theorem V_g (c : Dev nD) : V m c main_v10 = gateRows (m ((c : Thread nD τ).loc main_arg1)) (m ((c : Thread nD τ).loc main_arg2)) := by
  unfold V
  after_results
  rfl

/-- one step of a doubling: the rows `n` away added where the mask says so -/
def stepv (mask : IVec S512x1 1) (n : BitVec 32) (v : FVec Ideal S512x128 .f32) : FVec Ideal S512x128 .f32 :=
  addf v (select (broadcastTo S512x128 (shapeCast S512x1 mask shapeCasts_S512x1_S512x1) broadcasts_S512x1_S512x128)
    (dynamicRotate 0 n none v rotates_S512x128_d0) (broadcast S512x128 (Scalar.ofBits (F := Ideal) .f32 0x00000000#32)))

theorem stepv_apply (mask : IVec S512x1 1) (n : BitVec 32) (v : FVec Ideal S512x128 .f32) (r : Fin 512) (c : Fin 128) (q : Fin 512)
    (hq : q.val = (r.val + 512 - n.toNat % 512) % 512) :
    stepv mask n v (ix2 r c) = v (ix2 r c) + if mask (ix2 r (0 : Fin 1)) = 1#1 then v (ix2 q c) else 0 := by
  have e : dynamicRotate 0 n none v rotates_S512x128_d0 (ix2 r c) = v (ix2 q c) := by
    rw [show q = (⟨(r.val + 512 - n.toNat % 512) % 512, Nat.mod_lt _ (by norm_num)⟩ : Fin 512) from Fin.ext hq]
    pointwise
  rw [← e]
  have b : stepv mask n v (ix2 r c) = v (ix2 r c) + Scalar.select (mask (ix2 r (0 : Fin 1))) (dynamicRotate 0 n none v rotates_S512x128_d0 (ix2 r c)) (0 : EReal) := by
    pointwise [stepv]
  rw [b, e]
  rfl

/-- a column of a block, as a sequence of numbers -/
def colSeq (v : FVec Ideal S512x128 .f32) (c : Fin 128) (n : ℕ) : EReal := if h : n < 512 then v (ix2 ⟨n, h⟩ c) else 0

/-- the place of a row in its chunk -/
abbrev place : IVec S512x1 32 := k0_pay8 k0_pay5 k0_pay6 k0_pay7

theorem place_at : ∀ r : Fin 512, place (ix2 r (0 : Fin 1)) = BitVec.ofNat 32 (r.val % 64) := by
  decide +kernel

theorem pay9 (v : FVec Ideal S512x128 .f32) : k0_pay9 v k0_pay5 k0_pay6 k0_pay7
    = stepv (cmpi .sge place (broadcast S512x1 16#32)) 16#32 (stepv (cmpi .sge place (broadcast S512x1 8#32)) 8#32 (stepv (cmpi .sge place (broadcast S512x1 4#32)) 4#32
      (stepv (cmpi .sge place (broadcast S512x1 2#32)) 2#32 (stepv (cmpi .sge place (broadcast S512x1 1#32)) 1#32 v)))) := rfl

theorem mask_at (n : ℕ) (hn : n < 64) (r : Fin 512) : (cmpi .sge place (broadcast S512x1 (BitVec.ofNat 32 n))) (ix2 r (0 : Fin 1)) = if n ≤ r.val % 64 then 1#1 else 0#1 := by
  have e : (cmpi .sge place (broadcast S512x1 (BitVec.ofNat 32 n))) (ix2 r (0 : Fin 1)) = IntOp.cmpi .sge (place (ix2 r (0 : Fin 1))) (BitVec.ofNat 32 n) := by
    pointwise
  rw [e, place_at]
  exact Cert.Reference24Ideal.Terms.sge_at ⟨r.val % 64, Nat.mod_lt _ (by norm_num)⟩ ⟨n, hn⟩

/-- a doubling: from sums of `s` rows to sums of twice as many -/
theorem step_pre (v0 v : FVec Ideal S512x128 .f32) (c : Fin 128) (s : ℕ) (hs : s < 64)
    (h : ∀ r : Fin 512, v (ix2 r c) = pre (colSeq v0 c) s r.val) (r : Fin 512) :
    stepv (cmpi .sge place (broadcast S512x1 (BitVec.ofNat 32 s))) (BitVec.ofNat 32 s) v (ix2 r c) = pre (colSeq v0 c) (s + s) r.val := by
  have hn : (BitVec.ofNat 32 s).toNat % 512 = s := by
    simp only [BitVec.toNat_ofNat]
    omega
  have hr := r.isLt
  rw [stepv_apply _ _ _ r c ⟨(r.val + 512 - s) % 512, Nat.mod_lt _ (by norm_num)⟩ (by rw [hn]), mask_at s hs, pre_two, h, h]
  refine congrArg (fun z : EReal => pre (colSeq v0 c) s r.val + z) ?_
  by_cases g : s ≤ r.val % 64
  · rw [if_pos g, if_pos g, if_pos rfl]
    refine congrArg (pre (colSeq v0 c) s) ?_
    show (r.val + 512 - s) % 512 = r.val - s
    have : r.val % 64 ≤ r.val := Nat.mod_le _ _
    omega
  · rw [if_neg g, if_neg g, if_neg (by decide)]

theorem sums (v : FVec Ideal S512x128 .f32) (r : Fin 512) (c : Fin 128) :
    stepv (cmpi .sge place (broadcast S512x1 32#32)) 32#32 (k0_pay9 v k0_pay5 k0_pay6 k0_pay7) (ix2 r c) = pre (colSeq v c) 64 r.val := by
  rw [pay9]
  have h0 : ∀ r : Fin 512, v (ix2 r c) = pre (colSeq v c) 1 r.val := fun r => by
    rw [pre_one]
    unfold colSeq
    rw [dif_pos r.isLt]
  have h1 := step_pre v _ c 1 (by norm_num) h0
  have h2 := step_pre v _ c 2 (by norm_num) h1
  have h3 := step_pre v _ c 4 (by norm_num) h2
  have h4 := step_pre v _ c 8 (by norm_num) h3
  have h5 := step_pre v _ c 16 (by norm_num) h4
  exact step_pre v _ c 32 (by norm_num) h5 r

/-- a gate's logarithm of a decay before the sums -/
def lg (a b x : EReal) : EReal := (-Ideal.exp a) * sp (x + b)

theorem pay4 (x : FVec Ideal S512x128 .f32) (g : FVec Ideal S8x128 .f32) (r : Fin 512) (c : Fin 128) :
    k0_pay4 (F := Ideal) x g (ix2 r c) = lg (g (ix2 (0 : Fin 8) c)) (g (ix2 (1 : Fin 8) c)) (x (ix2 r c)) := by
  have e : k0_pay4 (F := Ideal) x g (ix2 r c) = (0 - Ideal.exp (g (ix2 (0 : Fin 8) c))) * (max (x (ix2 r c) + g (ix2 (1 : Fin 8) c)) 0
      + Ideal.log1p (Ideal.exp (0 - max (x (ix2 r c) + g (ix2 (1 : Fin 8) c)) (-(x (ix2 r c) + g (ix2 (1 : Fin 8) c)))))) := by
    pointwise [k0_pay4]
    rfl
  rw [e, zero_sub, zero_sub]
  rfl

theorem pay3 (x : FVec Ideal S512x128 .f32) (r : Fin 512) (c : Fin 128) : k0_pay3 (F := Ideal) x (ix2 r c) = logistic (x (ix2 r c)) := by
  refine Eq.trans ?_ (logistic_tanh _)
  pointwise [k0_pay3]

theorem slt_at8 : ∀ c : Fin 128, IntOp.cmpi .slt (BitVec.ofNat 32 c.val) 8#32 = if c.val < 8 then 1#1 else 0#1 := by
  decide +kernel

theorem slt_at16 : ∀ c : Fin 128, IntOp.cmpi .slt (BitVec.ofNat 32 c.val) 16#32 = if c.val < 16 then 1#1 else 0#1 := by
  decide +kernel

theorem pay1 (x : FVec Ideal S512x128 .f32) (g : FVec Ideal S8x128 .f32) (r : Fin 512) (c : Fin 128) :
    k0_pay1 (F := Ideal) (k0_pay3 x) (k0_pay9 (k0_pay4 x g) k0_pay5 k0_pay6 k0_pay7) (k0_pay10 k0_pay5 k0_pay6 k0_pay7) (ix2 r c)
      = if c.val < 8 then logistic (x (ix2 r c)) else if c.val < 16 then pre (colSeq (k0_pay4 x g) c) 64 r.val else 0 := by
  rw [← sums, ← pay3]
  have e : k0_pay1 (F := Ideal) (k0_pay3 x) (k0_pay9 (k0_pay4 x g) k0_pay5 k0_pay6 k0_pay7) (k0_pay10 k0_pay5 k0_pay6 k0_pay7)
      = select (cmpi .slt (iota .tc S512x128 32 [1] iota_S512x128_d1_w32) (broadcast S512x128 8#32)) (k0_pay3 x)
        (select (cmpi .slt (iota .tc S512x128 32 [1] iota_S512x128_d1_w32) (broadcast S512x128 16#32))
          (stepv (cmpi .sge place (broadcast S512x1 32#32)) 32#32 (k0_pay9 (k0_pay4 x g) k0_pay5 k0_pay6 k0_pay7))
          (broadcast S512x128 (Scalar.ofBits (F := Ideal) .f32 0x00000000#32))) := rfl
  rw [e]
  have p : (select (cmpi .slt (iota .tc S512x128 32 [1] iota_S512x128_d1_w32) (broadcast S512x128 8#32)) (k0_pay3 x)
        (select (cmpi .slt (iota .tc S512x128 32 [1] iota_S512x128_d1_w32) (broadcast S512x128 16#32))
          (stepv (cmpi .sge place (broadcast S512x1 32#32)) 32#32 (k0_pay9 (k0_pay4 x g) k0_pay5 k0_pay6 k0_pay7))
          (broadcast S512x128 (Scalar.ofBits (F := Ideal) .f32 0x00000000#32)))) (ix2 r c)
      = Scalar.select (IntOp.cmpi .slt (BitVec.ofNat 32 c.val) 8#32) (k0_pay3 (F := Ideal) x (ix2 r c)) (Scalar.select (IntOp.cmpi .slt (BitVec.ofNat 32 c.val) 16#32)
        (stepv (cmpi .sge place (broadcast S512x1 32#32)) 32#32 (k0_pay9 (k0_pay4 x g) k0_pay5 k0_pay6 k0_pay7) (ix2 r c)) (0 : EReal)) := by
    pointwise
  rw [p, slt_at8, slt_at16]
  by_cases h8 : c.val < 8
  · rw [if_pos h8, if_pos h8]; rfl
  · rw [if_neg h8, if_neg h8]
    by_cases h16 : c.val < 16
    · rw [if_pos h16, if_pos h16]; rfl
    · rw [if_neg h16, if_neg h16]; rfl

/-- the same with the sums of a chunk written out -/
theorem pay1_sum (x : FVec Ideal S512x128 .f32) (g : FVec Ideal S8x128 .f32) (r : Fin 512) (c : Fin 128) :
    k0_pay1 (F := Ideal) (k0_pay3 x) (k0_pay9 (k0_pay4 x g) k0_pay5 k0_pay6 k0_pay7) (k0_pay10 k0_pay5 k0_pay6 k0_pay7) (ix2 r c)
      = if c.val < 8 then logistic (x (ix2 r c)) else if c.val < 16 then ∑ j : Fin 64, (if j.val ≤ r.val % 64 then
          lg (g (ix2 (0 : Fin 8) c)) (g (ix2 (1 : Fin 8) c)) (x (ix2 (⟨r.val / 64 * 64 + j.val, by omega⟩ : Fin 512) c)) else 0) else 0 := by
  rw [pay1, pre_all]
  refine congrArg (fun z : EReal => if c.val < 8 then logistic (x (ix2 r c)) else if c.val < 16 then z else 0) (Finset.sum_congr rfl fun j _ => ?_)
  refine congrArg (fun z : EReal => if j.val ≤ r.val % 64 then z else 0) ?_
  unfold colSeq
  rw [dif_pos (by omega : r.val / 64 * 64 + j.val < 512), pay4]

/-- the gates' rows as one closed form -/
def FN (X : FVec Ideal S4096x6272 .f32) (T : FVec Ideal S8x128 .f32) (l : Fin 4096) (c : Fin 128) : EReal :=
  if c.val < 8 then logistic (X (ix2 l (⟨6144 + c.val, by omega⟩ : Fin 6272))) else if c.val < 16 then ∑ j : Fin 64, (if j.val ≤ l.val % 64 then
    lg (T (ix2 (0 : Fin 8) c)) (T (ix2 (1 : Fin 8) c)) (X (ix2 (⟨l.val / 64 * 64 + j.val, by omega⟩ : Fin 4096) (⟨6144 + c.val, by omega⟩ : Fin 6272))) else 0) else 0

/-- the block every window shows at a point of the grid -/
theorem idx : ∀ t : Fin cfg0.N, win0_0.index t = ![t.val, 48]
    ∧ win0_1.index t = ![0, 0]
    ∧ win0_2.index t = ![t.val, 0]
    ∧ win0_3.index t = ![t.val / 4, 0, t.val % 4] :=
  (by decide +kernel : ∀ t : Fin grid0.N, _)

/-- the block of the table at a point of the grid is all of it -/
theorem table (c : Dev nD) (t : Fin cfg0.N) : iblk m c 1 t = gateRows (m ((c : Thread nD τ).loc main_arg1)) (m ((c : Thread nD τ).loc main_arg2)) := by
  rw [← V_g m c]
  funext z
  blk_point [iblk, idx t]

theorem xblk (c : Dev nD) (t : Fin cfg0.N) (r : Fin 512) (k : Fin 128) :
    iblk m c 0 t (ix2 r k) = m ((c : Thread nD τ).loc main_arg0) (ix2 (⟨t.val * 512 + r.val, by have : t.val < 8 := t.isLt; omega⟩ : Fin 4096) (⟨6144 + k.val, by omega⟩ : Fin 6272)) := by
  blk_point [iblk, V, idx t]

/-- the stored rows at a point of the grid -/
theorem rows (c : Dev nD) (t : Fin cfg0.N) (r : Fin 512) (k : Fin 128) :
    k0_pay1 (F := Ideal) (k0_pay3 (iblk m c 0 t)) (k0_pay9 (k0_pay4 (iblk m c 0 t) (iblk m c 1 t)) k0_pay5 k0_pay6 k0_pay7) (k0_pay10 k0_pay5 k0_pay6 k0_pay7) (ix2 r k)
      = FN (m ((c : Thread nD τ).loc main_arg0)) (gateRows (m ((c : Thread nD τ).loc main_arg1)) (m ((c : Thread nD τ).loc main_arg2)))
        (⟨t.val * 512 + r.val, by have : t.val < 8 := t.isLt; omega⟩ : Fin 4096) k := by
  rw [pay1_sum, table m c t, xblk m c t]
  unfold FN
  refine congrArg (fun z : EReal => if k.val < 8 then logistic _ else if k.val < 16 then z else 0) (Finset.sum_congr rfl fun j _ => ?_)
  rw [xblk m c t]
  have e1 : (t.val * 512 + r.val) % 64 = r.val % 64 := by omega
  have e2 : t.val * 512 + (r.val / 64 * 64 + j.val) = (t.val * 512 + r.val) / 64 * 64 + j.val := by omega
  simp only [e1, e2]

theorem p11 (x : FVec Ideal S512x128 .f32) (g : FVec Ideal S8x128 .f32) : k0_pay11 x g = k0_pay3 (F := Ideal) x := by
  unfold k0_pay11
  frame_out

theorem p15 (x : FVec Ideal S512x128 .f32) (g : FVec Ideal S8x128 .f32) : k0_pay15 x g = k0_pay9 (k0_pay4 (F := Ideal) x g) k0_pay5 k0_pay6 k0_pay7 := by
  unfold k0_pay15 k0_pay12 k0_pay13 k0_pay14
  frame_out

theorem p16 (x : FVec Ideal S512x128 .f32) (g : FVec Ideal S8x128 .f32) : k0_pay16 (F := Ideal) x g = k0_pay10 k0_pay5 k0_pay6 k0_pay7 := by
  unfold k0_pay16 k0_pay12 k0_pay13 k0_pay14
  rfl

/-- the rows a point of the grid stores -/
def block (X : FVec Ideal S4096x6272 .f32) (T : FVec Ideal S8x128 .f32) (t : ℕ) (ht : t < 8) : FVec Ideal S512x128 .f32 := fun z : S512x128.Idx =>
  FN X T (⟨t * 512 + (z 0).val, by have h : (z 0).val < 512 := (z 0).isLt; omega⟩ : Fin 4096) (⟨(z 1).val, (z 1).isLt⟩ : Fin 128)

theorem stored (c : Dev nD) (t : Fin cfg0.N) : k0_pay1 (F := Ideal) (k0_pay11 (iblk m c 0 t) (iblk m c 1 t)) (k0_pay15 (iblk m c 0 t) (iblk m c 1 t)) (k0_pay16 (iblk m c 0 t) (iblk m c 1 t))
    = block (m ((c : Thread nD τ).loc main_arg0)) (gateRows (m ((c : Thread nD τ).loc main_arg1)) (m ((c : Thread nD τ).loc main_arg2))) t.val t.isLt := by
  rw [p11, p15, p16]
  funext z
  rw [ValueIdx.eq_ix2 z]
  exact rows m c t _ _

theorem final2 (c : Dev nD) : (dats m 0 c).arrAt 2 (cfgs 0).N = fun z : S4096x128.Idx =>
    FN (m ((c : Thread nD τ).loc main_arg0)) (gateRows (m ((c : Thread nD τ).loc main_arg1)) (m ((c : Thread nD τ).loc main_arg2))) (z 0) (z 1) := by
  refine (dats m 0 c).arrAt_eq_of_covers 2 _ (by decide +kernel) fun t hf y => ?_
  blk_simp; rw [after0_2]
  frame_out
  rw [stored m c t]
  generalize m ((c : Thread nD τ).loc main_arg0) = X
  generalize gateRows (m ((c : Thread nD τ).loc main_arg1)) (m ((c : Thread nD τ).loc main_arg2)) = T
  have hemb : ((cfg0.win 2).blk t).view.emb y = ix2 (⟨t.val * 512 + ((y : S512x128.Idx) 0).val, by
      have ht : t.val < 8 := t.isLt; have h : ((y : S512x128.Idx) 0).val < 512 := ((y : S512x128.Idx) 0).isLt; omega⟩ : Fin 4096) (⟨((y : S512x128.Idx) 1).val, ((y : S512x128.Idx) 1).isLt⟩ : Fin 128) := by
    blk_ext [idx t]
  exact (congrArg (fun z : S4096x128.Idx => FN X T (z 0) (z 1)) hemb.symm)

theorem final3 (c : Dev nD) : (dats m 0 c).arrAt 3 (cfgs 0).N = fun z : S2x16x2048.Idx =>
    FN (m ((c : Thread nD τ).loc main_arg0)) (gateRows (m ((c : Thread nD τ).loc main_arg1)) (m ((c : Thread nD τ).loc main_arg2)))
      (⟨(z 0).val * 2048 + (z 2).val, by have h0 : (z 0).val < 2 := (z 0).isLt; have h2 : (z 2).val < 2048 := (z 2).isLt; omega⟩ : Fin 4096)
      (⟨(z 1).val, by have h1 : (z 1).val < 16 := (z 1).isLt; omega⟩ : Fin 128) := by
  refine (dats m 0 c).arrAt_eq_of_covers 3 _ (by decide +kernel) fun t hf y => ?_
  blk_simp; rw [after0_3]
  frame_out
  unfold k0_pay2
  rw [stored m c t]
  generalize m ((c : Thread nD τ).loc main_arg0) = X
  generalize gateRows (m ((c : Thread nD τ).loc main_arg1)) (m ((c : Thread nD τ).loc main_arg2)) = T
  have ht : t.val < 8 := t.isLt
  have h1 : ((y : S1x16x512.Idx) 1).val < 16 := ((y : S1x16x512.Idx) 1).isLt
  have h2 : ((y : S1x16x512.Idx) 2).val < 512 := ((y : S1x16x512.Idx) 2).isLt
  have h0 : ((y : S1x16x512.Idx) 0).val < 1 := ((y : S1x16x512.Idx) 0).isLt
  generalize hB : block X T t.val t.isLt = B
  refine Eq.trans (b := B (ix2 (⟨((y : S1x16x512.Idx) 2).val, h2⟩ : Fin 512) (⟨((y : S1x16x512.Idx) 1).val, by omega⟩ : Fin 128))) ?_ ?_
  · pointwise
  rw [← hB]
  unfold block
  refine congrArg₂ (FN X T) (Fin.ext ?_) (Fin.ext ?_)
  · have e0 : win0_3.index t 0 = t.val / 4 := congrFun (idx t).2.2.2 0
    have e2 : win0_3.index t 2 = t.val % 4 := congrFun (idx t).2.2.2 2
    show t.val * 512 + ((y : S1x16x512.Idx) 2).val = win0_3.index t 0 * 2048 + (win0_3.index t 2 * 512 + ((y : S1x16x512.Idx) 2).val)
    rw [e0, e2]
    omega
  · have e1 : win0_3.index t 1 = 0 := congrFun (idx t).2.2.2 1
    show ((y : S1x16x512.Idx) 1).val = win0_3.index t 1 * 16 + ((y : S1x16x512.Idx) 1).val
    rw [e1]
    omega

theorem ref_sums (x : FVec Ideal S4096x6272 .f32) (a b : FVec Ideal S1x8 .f32) (l : Fin 4096) (k : Fin 8) (c : Fin 128) (hc : c.val = 8 + k.val) :
    Cert.Reference24Ideal.Terms.SUMS x a b (ix2 l k) = ∑ j : Fin 64, (if j.val ≤ l.val % 64 then
      lg (gateRows a b (ix2 (0 : Fin 8) c)) (gateRows a b (ix2 (1 : Fin 8) c)) (x (ix2 (⟨l.val / 64 * 64 + j.val, by omega⟩ : Fin 4096) (⟨6144 + c.val, by omega⟩ : Fin 6272))) else 0) := by
  refine (Cert.Reference24Ideal.Terms.sums x a b l k).trans (Finset.sum_congr rfl fun j _ => ?_)
  rw [Cert.Reference24Ideal.Terms.gv, gate0 a b k c hc, gate1 a b k c hc]
  have e : (⟨6152 + k.val, by omega⟩ : Fin 6272) = (⟨6144 + c.val, by omega⟩ : Fin 6272) := Fin.ext (by show 6152 + k.val = 6144 + c.val; omega)
  rw [e]
  rfl

theorem value0 (c : Dev nD) : (dats m 0 c).arrAt 2 (cfgs 0).N
    = Cert.Reference24Ideal.Terms.OUT0 (m ((c : Thread nD τ).loc main_arg0)) (m ((c : Thread nD τ).loc main_arg1)) (m ((c : Thread nD τ).loc main_arg2)) := by
  rw [final2]
  generalize m ((c : Thread nD τ).loc main_arg0) = x
  generalize m ((c : Thread nD τ).loc main_arg1) = a
  generalize m ((c : Thread nD τ).loc main_arg2) = b
  funext z
  rw [ValueIdx.eq_ix2 z]
  refine Eq.trans ?_ (Cert.Reference24Ideal.Terms.out0 x a b _ _).symm
  show FN x (gateRows a b) (z 0) (z 1) = _
  unfold FN
  by_cases h8 : (z 1).val < 8
  · rw [if_pos h8, dif_pos h8]
    exact (Cert.Reference24Ideal.Terms.beta x _ (⟨(z 1).val, h8⟩ : Fin 8)).symm
  · rw [if_neg h8, dif_neg h8]
    by_cases h16 : (z 1).val < 16
    · rw [if_pos h16, dif_pos h16]
      exact (ref_sums x a b _ _ _ (by show (z 1).val = 8 + ((z 1).val - 8); omega)).symm
    · rw [if_neg h16, dif_neg h16]

theorem value1 (c : Dev nD) : (dats m 0 c).arrAt 3 (cfgs 0).N
    = Cert.Reference24Ideal.Terms.OUT1 (m ((c : Thread nD τ).loc main_arg0)) (m ((c : Thread nD τ).loc main_arg1)) (m ((c : Thread nD τ).loc main_arg2)) := by
  rw [final3]
  generalize m ((c : Thread nD τ).loc main_arg0) = x
  generalize m ((c : Thread nD τ).loc main_arg1) = a
  generalize m ((c : Thread nD τ).loc main_arg2) = b
  funext z
  rw [ValueIdx.eq_ix3 z]
  refine Eq.trans ?_ (Cert.Reference24Ideal.Terms.out1 x a b _ _ _).symm
  have h1 : (z 1).val < 16 := (z 1).isLt
  have h0 : (z 0).val < 2 := (z 0).isLt
  have h2 : (z 2).val < 2048 := (z 2).isLt
  show FN x (gateRows a b) (⟨(z 0).val * 2048 + (z 2).val, by omega⟩ : Fin 4096) (⟨(z 1).val, by omega⟩ : Fin 128) = _
  unfold FN
  by_cases h8 : (z 1).val < 8
  · rw [if_pos h8, dif_pos h8]
    exact (Cert.Reference24Ideal.Terms.beta x _ (⟨(z 1).val, h8⟩ : Fin 8)).symm
  · rw [if_neg h8, dif_neg h8, if_pos h1]
    exact (ref_sums x a b _ _ _ (by show (z 1).val = 8 + ((z 1).val - 8); omega)).symm

end Cert.Kernel24Ideal.GatesFwd

end
-- ==== Proof.GatesBwd.lean ====
module
public import proofs.«01_k».proof.Proof.Gen.Kernel25Ideal.Frame
public import proofs.«01_k».proof.Proof.Gen.Reference25Ideal
public import Idealize.ShloMosaic.Lib.Pipeline.ValueKit
public import Idealize.ShloMosaic.Lib.WritesUnit
public import proofs.«01_k».proof.Proof.Row
public import proofs.«01_k».proof.Proof.GateMath

/-! The gradient of the gates of the recurrent layer: every row of the gradient in their logits, and the gradients in the rates and in the bias. -/

set_option maxRecDepth 16384

@[expose] public section

noncomputable section

open Idealize.ShloMosaic Idealize.ShloMosaic.TcCoe Idealize.SL.Sem
open Idealize.ShloMosaic.Pipeline (Dat)
open scoped BigOperators

namespace Cert.Reference25Ideal.Terms

open Cert.GateMath Cert.Reference25Ideal Cert.Reference25Ideal.Gen

/-- the decay's logits with their bias -/
abbrev Y (x : FVec Ideal S4096x6272 .f32) (b : FVec Ideal S1x8 .f32) : FVec Ideal S4096x8 .f32 :=
  addf (extractStridedSlice S4096x8 ![0, 6152] x slices_S4096x6272_S4096x8_0_6152) (broadcastInDim S4096x8 ![0, 1] bcast_S1x8_S4096x8_0_1 (broadcastInDim S1x8 ![1] bcast_S8_S1x8_1 (shapeCast _ b shapeCasts_S1x8_S8)))

/-- zeros -/
abbrev Z : FVec Ideal S4096x8 .f32 := broadcastInDim S4096x8 ![] bcast_S_S4096x8 (constant S_ .f32 0x00000000#32)

/-- the softplus as the reference takes it -/
abbrev SPV (y : FVec Ideal S4096x8 .f32) : FVec Ideal S4096x8 .f32 :=
  select (cmpf .une (subf y Z) (subf y Z)) (addf y Z) (addf (maximumf y Z) (Host.log1p (Host.exp (Host.negf (Host.absf (subf y Z))))))

/-- the rows at or above a row of a chunk -/
abbrev MASK : FVec Ideal S64x64 .f32 :=
  uitofp .f32 (cmpi .sge (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))

/-- what a step writes -/
abbrev BETA (x : FVec Ideal S4096x6272 .f32) : FVec Ideal S4096x8 .f32 :=
  Host.divf (broadcastInDim S4096x8 ![] bcast_S_S4096x8 (constant S_ .f32 0x3F800000#32)) (addf (broadcastInDim S4096x8 ![] bcast_S_S4096x8 (constant S_ .f32 0x3F800000#32)) (Host.exp (Host.negf (extractStridedSlice S4096x8 ![0, 6144] x slices_S4096x6272_S4096x8_0_6144))))

/-- the gradient in the sums, summed to the end of the chunk -/
abbrev RS (d : FVec Ideal S4096x128 .f32) : FVec Ideal S4096x8 .f32 :=
  shapeCast _ (transpose S64x64x8 [0, 2, 1] (Host.dotGeneral dot_S64x8x64_S64x64_S64x8x64_2_0_01_1_n_n none (transpose S64x8x64 [0, 2, 1] (shapeCast _ (extractStridedSlice S4096x8 ![0, 8] d slices_S4096x128_S4096x8_0_8) shapeCasts_S4096x8_S64x64x8) transposes_S64x64x8_S64x8x64_0_2_1) MASK) transposes_S64x8x64_S64x64x8_0_2_1) shapeCasts_S64x64x8_S4096x8

/-- infinities -/
abbrev INF : FVec Ideal S4096x8 .f32 := broadcastInDim S4096x8 ![] bcast_S_S4096x8 (constant S_ .f32 0x7F800000#32)

/-- the rates, one for every row -/
abbrev RATE (a : FVec Ideal S1x8 .f32) : FVec Ideal S4096x8 .f32 := Host.exp (broadcastInDim S4096x8 ![0, 1] bcast_S1x8_S4096x8_0_1 a)

/-- the gradient in the decay's logits -/
abbrev DA (x : FVec Ideal S4096x6272 .f32) (a b : FVec Ideal S1x8 .f32) (d : FVec Ideal S4096x128 .f32) : FVec Ideal S4096x8 .f32 :=
  mulf (mulf (Host.negf (RATE a)) (RS d)) (Host.exp (subf (select (cmpf .oeq (Y x b) INF) Z (Y x b)) (select (cmpf .oeq (SPV (Y x b)) INF) Z (SPV (Y x b)))))

/-- the gradient in the other logits -/
abbrev DB (x : FVec Ideal S4096x6272 .f32) (d : FVec Ideal S4096x128 .f32) : FVec Ideal S4096x8 .f32 :=
  mulf (extractStridedSlice S4096x8 ![0, 0] d slices_S4096x128_S4096x8_0_0) (mulf (BETA x) (subf (broadcastInDim S4096x8 ![] bcast_S_S4096x8 (constant S_ .f32 0x3F800000#32)) (BETA x)))

/-- the two side by side, with zeros -/
abbrev OUT0 (x : FVec Ideal S4096x6272 .f32) (a b : FVec Ideal S1x8 .f32) (d : FVec Ideal S4096x128 .f32) : FVec Ideal S4096x128 .bf16 :=
  pad S4096x128 ![0, 0] ![0, 112] ![0, 0] (truncf .bf16 (concatenate S4096x16 1 [⟨S4096x8, DB x d⟩, ⟨S4096x8, DA x a b d⟩] concatenates_S4096x8_S4096x8_S4096x16_d1) bitsLt_bf16_f32) (sitofp .bf16 (constantI S_ 32 0#32)) pads_S4096x16_S4096x128_000_01120 h_S_

/-- the gradient in the rates' logarithms -/
abbrev OUT1 (x : FVec Ideal S4096x6272 .f32) (a b : FVec Ideal S1x8 .f32) (d : FVec Ideal S4096x128 .f32) : FVec Ideal S8 .f32 :=
  Host.reduceAdd (mulf (Host.negf (mulf (RS d) (SPV (Y x b)))) (RATE a)) (constant S_ .f32 0x00000000#32) reducesTo_S4096x8_S8_d0 h_S_

/-- the gradient in the bias -/
abbrev OUT2 (x : FVec Ideal S4096x6272 .f32) (a b : FVec Ideal S1x8 .f32) (d : FVec Ideal S4096x128 .f32) : FVec Ideal S8 .f32 :=
  Host.reduceAdd (shapeCast _ (Host.reduceAdd (DA x a b d) (constant S_ .f32 0x00000000#32) reducesTo_S4096x8_S8_d0 h_S_) shapeCasts_S8_S1x8) (constant S_ .f32 0x00000000#32) reducesTo_S1x8_S8_d0 h_S_

theorem beta (x : FVec Ideal S4096x6272 .f32) (l : Fin 4096) (k : Fin 8) : BETA x (ix2 l k) = logistic (x (ix2 l (⟨6144 + k.val, by omega⟩ : Fin 6272))) := by
  have e : BETA x (ix2 l k) = Ideal.div (Ideal.ofBits .f32 0x3F800000#32) (Ideal.ofBits .f32 0x3F800000#32 + Ideal.exp (-(x (ix2 l (⟨6144 + k.val, by omega⟩ : Fin 6272))))) := by
    pointwise [BETA]
  rw [e, cone]
  rfl

theorem softplus (y : FVec Ideal S4096x8 .f32) (l : Fin 4096) (k : Fin 8) : SPV y (ix2 l k) = sp (y (ix2 l k)) := by
  have e : SPV y (ix2 l k) = if y (ix2 l k) ≠ y (ix2 l k) then y (ix2 l k) else sp (y (ix2 l k)) := by
    pointwise [SPV]
    rfl
  rw [e, if_neg (fun h => h rfl)]

theorem sge_at : ∀ a b : Fin 64, IntOp.cmpi .sge (BitVec.ofNat 32 a.val) (BitVec.ofNat 32 b.val) = if b.val ≤ a.val then 1#1 else 0#1 := by
  decide +kernel

theorem mask (i j : Fin 64) : MASK (ix2 i j) = if j.val ≤ i.val then 1 else 0 := by
  have e : MASK (ix2 i j) = FloatOps.uitofp (F := Ideal) .f32 (IntOp.cmpi .sge (BitVec.ofNat 32 i.val) (BitVec.ofNat 32 j.val)) := by
    pointwise [MASK]
  rw [e, sge_at]
  by_cases h : j.val ≤ i.val
  · rw [if_pos h, if_pos h]
    show ((((1#1 : BitVec 1).toNat : ℕ) : ℝ) : EReal) = 1
    simp
  · rw [if_neg h, if_neg h]
    show ((((0#1 : BitVec 1).toNat : ℕ) : ℝ) : EReal) = 0
    simp

theorem rs (d : FVec Ideal S4096x128 .f32) (l : Fin 4096) (k : Fin 8) :
    RS d (ix2 l k) = ∑ j : Fin 64, if l.val % 64 ≤ j.val then d (ix2 (⟨l.val / 64 * 64 + j.val, by omega⟩ : Fin 4096) (⟨8 + k.val, by omega⟩ : Fin 128)) else 0 := by
  unfold RS
  have hm := mask
  generalize MASK = M at hm ⊢
  pointwise
  refine Finset.sum_congr rfl fun j _ => ?_
  rw [hm]
  show d _ * (if l.val % 64 ≤ j.val then (1 : EReal) else 0) = _
  by_cases h : l.val % 64 ≤ j.val
  · rw [if_pos h, if_pos h, mul_one]
  · rw [if_neg h, if_neg h, mul_zero]

theorem y_at (x : FVec Ideal S4096x6272 .f32) (b : FVec Ideal S1x8 .f32) (l : Fin 4096) (k : Fin 8) :
    Y x b (ix2 l k) = x (ix2 l (⟨6152 + k.val, by omega⟩ : Fin 6272)) + b (ix2 (0 : Fin 1) k) := by
  pointwise [Y]

theorem da (x : FVec Ideal S4096x6272 .f32) (a b : FVec Ideal S1x8 .f32) (d : FVec Ideal S4096x128 .f32) (l : Fin 4096) (k : Fin 8) :
    DA x a b d (ix2 l k) = (-Ideal.exp (a (ix2 (0 : Fin 1) k))) * RS d (ix2 l k) * logistic (x (ix2 l (⟨6152 + k.val, by omega⟩ : Fin 6272)) + b (ix2 (0 : Fin 1) k)) := by
  have hs := softplus (Y x b) l k
  rw [← y_at]
  unfold DA
  generalize RS d = r
  generalize SPV (Y x b) = s at hs ⊢
  generalize Y x b = y at hs ⊢
  rw [← exp_sub_sp, ← hs]
  rw [← cinf]
  pointwise

theorem db (x : FVec Ideal S4096x6272 .f32) (d : FVec Ideal S4096x128 .f32) (l : Fin 4096) (k : Fin 8) :
    DB x d (ix2 l k) = d (ix2 l (⟨k.val, by omega⟩ : Fin 128)) * (BETA x (ix2 l k) * (1 - BETA x (ix2 l k))) := by
  unfold DB
  rw [← cone]
  generalize BETA x = u
  pointwise

theorem out0 (x : FVec Ideal S4096x6272 .f32) (a b : FVec Ideal S1x8 .f32) (d : FVec Ideal S4096x128 .f32) (l : Fin 4096) (k : Fin 128) :
    (OUT0 x a b d (ix2 l k) : EReal) = if h : k.val < 8 then DB x d (ix2 l (⟨k.val, h⟩ : Fin 8)) else if h' : k.val < 16 then DA x a b d (ix2 l (⟨k.val - 8, by omega⟩ : Fin 8)) else 0 := by
  unfold OUT0
  generalize DB x d = u
  generalize DA x a b d = v
  have z : FloatOps.sitofp (F := Ideal) .bf16 (0#32) = (0 : EReal) := by
    show ((((0#32 : BitVec 32).toInt : ℤ) : ℝ) : EReal) = 0
    simp
  pointwise
  rw [z]
  by_cases h8 : k.val < 8
  · rw [dif_pos (by omega), dif_pos h8, dif_pos h8]
  · by_cases h16 : k.val < 16
    · rw [dif_pos h16, dif_neg h8, dif_neg h8, dif_pos h16]
    · rw [dif_neg h16, dif_neg h8, dif_neg h16]

theorem out1 (x : FVec Ideal S4096x6272 .f32) (a b : FVec Ideal S1x8 .f32) (d : FVec Ideal S4096x128 .f32) (k : Fin 8) :
    OUT1 x a b d (ValueIdx.ix1 k) = ∑ l : Fin 4096, RS d (ix2 l k) * ((-Ideal.exp (a (ix2 (0 : Fin 1) k))) * sp (x (ix2 l (⟨6152 + k.val, by omega⟩ : Fin 6272)) + b (ix2 (0 : Fin 1) k))) := by
  have e : OUT1 x a b d (ValueIdx.ix1 k) = ∑ l : Fin 4096, (-(RS d (ix2 l k) * SPV (Y x b) (ix2 l k))) * Ideal.exp (a (ix2 (0 : Fin 1) k)) := by
    unfold OUT1
    generalize RS d = r
    generalize SPV (Y x b) = s
    pointwise
  rw [e]
  refine Finset.sum_congr rfl fun l _ => ?_
  rw [softplus, y_at, neg_mul, neg_mul, mul_neg, mul_assoc, mul_comm (sp _)]

theorem out2 (x : FVec Ideal S4096x6272 .f32) (a b : FVec Ideal S1x8 .f32) (d : FVec Ideal S4096x128 .f32) (k : Fin 8) :
    OUT2 x a b d (ValueIdx.ix1 k) = ∑ l : Fin 4096, DA x a b d (ix2 l k) := by
  unfold OUT2
  generalize DA x a b d = v
  pointwise
  rw [Fin.sum_univ_one]

end Cert.Reference25Ideal.Terms

namespace Cert.Kernel25Ideal.GatesBwd

open Cert.GateMath Cert.Kernel25Ideal Cert.Kernel25Ideal.Gen

variable (m : (ℓ : Loc nD τ sig) → Buf (Elt Ideal) ℓ)

/-- the row and the first column of a leaf of eight numbers -/
def at8 (r : BitVec 32) : IVec S2 32 :=
  concatenate S2 0 [⟨S1, broadcastInDim S1 ![] bcast_S_S1 (constantI S_ 32 r)⟩, ⟨S1, broadcastInDim S1 ![] bcast_S_S1 (constantI S_ 32 8#32)⟩] concatenates_S1_S1_S2_d0

/-- the two leaves of the decay gates, in rows 0 and 1 from column 8 -/
def gateRows (a b : FVec Ideal S1x8 .f32) : FVec Ideal S8x128 .f32 :=
  Host.scatter scatter_S8x128_S2_S8_0_0_01_0 (fun _ b => b)
    (Host.scatter scatter_S8x128_S2_S8_0_0_01_0 (fun _ b => b) (broadcastInDim S8x128 ![] bcast_S_S8x128 (constant (F := Ideal) S_ .f32 0x00000000#32)) (at8 0#32)
      (shapeCast S8 a shapeCasts_S1x8_S8))
    (at8 1#32) (shapeCast S8 b shapeCasts_S1x8_S8)

theorem at8_0 (r : BitVec 32) : at8 r (ValueIdx.ix1 (0 : Fin 2)) = r := by
  pointwise [at8]

theorem at8_1 (r : BitVec 32) : at8 r (ValueIdx.ix1 (1 : Fin 2)) = 8#32 := by
  pointwise [at8]

theorem gate0 (a b : FVec Ideal S1x8 .f32) (k : Fin 8) (c : Fin 128) (h : c.val = 8 + k.val) : gateRows a b (ix2 (0 : Fin 8) c) = a (ix2 (0 : Fin 1) k) := by
  unfold gateRows
  refine (Cert.Row.row_miss scatter_S8x128_S2_S8_0_0_01_0 rfl rfl rfl _ _ _ (0 : Fin 8) c
    (by rw [show (at8 1#32 (ValueIdx.ix1 (0 : Fin 2))) = 1#32 from at8_0 _]; decide)).trans ?_
  refine (Cert.Row.row_hit scatter_S8x128_S2_S8_0_0_01_0 rfl rfl rfl _ _ _ k (0 : Fin 8) c
    ((congrArg BitVec.toInt (show at8 0#32 (ValueIdx.ix1 (0 : Fin 2)) = 0#32 from at8_0 _)).trans (by decide))
    (by rw [show at8 0#32 (ValueIdx.ix1 (1 : Fin 2)) = 8#32 from at8_1 _, h]; push_cast; rfl)).trans ?_
  pointwise

theorem gate1 (a b : FVec Ideal S1x8 .f32) (k : Fin 8) (c : Fin 128) (h : c.val = 8 + k.val) : gateRows a b (ix2 (1 : Fin 8) c) = b (ix2 (0 : Fin 1) k) := by
  unfold gateRows
  refine (Cert.Row.row_hit scatter_S8x128_S2_S8_0_0_01_0 rfl rfl rfl _ _ _ k (1 : Fin 8) c
    ((congrArg BitVec.toInt (show at8 1#32 (ValueIdx.ix1 (0 : Fin 2)) = 1#32 from at8_0 _)).trans (by decide))
    (by rw [show at8 1#32 (ValueIdx.ix1 (1 : Fin 2)) = 8#32 from at8_1 _, h]; push_cast; rfl)).trans ?_
  pointwise

set_option maxHeartbeats 8000000 in
theorem V_g (c : Dev nD) : V m c main_v10 = gateRows (m ((c : Thread nD τ).loc main_arg1)) (m ((c : Thread nD τ).loc main_arg2)) := by
  unfold V V0
  simp only [List.flatten_cons, List.flatten_nil, List.append_nil]
  after_results
  rfl

/-- one step of a doubling: the rows `n` away added where the mask says so -/
def stepv (mask : IVec S512x1 1) (n : BitVec 32) (v : FVec Ideal S512x128 .f32) : FVec Ideal S512x128 .f32 :=
  addf v (select (broadcastTo S512x128 (shapeCast S512x1 mask shapeCasts_S512x1_S512x1) broadcasts_S512x1_S512x128)
    (dynamicRotate 0 n none v rotates_S512x128_d0) (broadcast S512x128 (Scalar.ofBits (F := Ideal) .f32 0x00000000#32)))

theorem stepv_apply (mask : IVec S512x1 1) (n : BitVec 32) (v : FVec Ideal S512x128 .f32) (r : Fin 512) (c : Fin 128) (q : Fin 512)
    (hq : q.val = (r.val + 512 - n.toNat % 512) % 512) :
    stepv mask n v (ix2 r c) = v (ix2 r c) + if mask (ix2 r (0 : Fin 1)) = 1#1 then v (ix2 q c) else 0 := by
  have e : dynamicRotate 0 n none v rotates_S512x128_d0 (ix2 r c) = v (ix2 q c) := by
    rw [show q = (⟨(r.val + 512 - n.toNat % 512) % 512, Nat.mod_lt _ (by norm_num)⟩ : Fin 512) from Fin.ext hq]
    pointwise
  rw [← e]
  have b : stepv mask n v (ix2 r c) = v (ix2 r c) + Scalar.select (mask (ix2 r (0 : Fin 1))) (dynamicRotate 0 n none v rotates_S512x128_d0 (ix2 r c)) (0 : EReal) := by
    pointwise [stepv]
  rw [b, e]
  rfl

/-- a column of a block, as a sequence of numbers -/
def colSeq (v : FVec Ideal S512x128 .f32) (c : Fin 128) (n : ℕ) : EReal := if h : n < 512 then v (ix2 ⟨n, h⟩ c) else 0

/-- the place of a row in its chunk -/
abbrev place : IVec S512x1 32 := k0_pay11 64#32 k0_pay8 k0_pay9 k0_pay10

theorem place_at : ∀ r : Fin 512, place (ix2 r (0 : Fin 1)) = BitVec.ofNat 32 (r.val % 64) := by
  decide +kernel

theorem slt_at : ∀ a b : Fin 64, IntOp.cmpi .slt (BitVec.ofNat 32 a.val) (BitVec.ofNat 32 b.val) = if a.val < b.val then 1#1 else 0#1 := by
  decide +kernel

theorem mask_at (n : ℕ) (hn : n < 64) (r : Fin 512) : (cmpi .slt place (broadcast S512x1 (BitVec.ofNat 32 n))) (ix2 r (0 : Fin 1)) = if r.val % 64 < n then 1#1 else 0#1 := by
  have e : (cmpi .slt place (broadcast S512x1 (BitVec.ofNat 32 n))) (ix2 r (0 : Fin 1)) = IntOp.cmpi .slt (place (ix2 r (0 : Fin 1))) (BitVec.ofNat 32 n) := by
    pointwise
  rw [e, place_at]
  exact slt_at ⟨r.val % 64, Nat.mod_lt _ (by norm_num)⟩ ⟨n, hn⟩

/-- a doubling: from sums of `s` rows to sums of twice as many -/
theorem step_suf (v0 v : FVec Ideal S512x128 .f32) (c : Fin 128) (s : ℕ) (hs : s < 64) (hp : 0 < s)
    (h : ∀ r : Fin 512, v (ix2 r c) = suf (colSeq v0 c) s r.val) (r : Fin 512) :
    stepv (cmpi .slt place (broadcast S512x1 (BitVec.ofNat 32 (64 - s)))) (BitVec.ofNat 32 (512 - s)) v (ix2 r c) = suf (colSeq v0 c) (s + s) r.val := by
  have hn : (BitVec.ofNat 32 (512 - s)).toNat % 512 = 512 - s := by
    simp only [BitVec.toNat_ofNat]
    omega
  have hr := r.isLt
  rw [stepv_apply _ _ _ r c ⟨(r.val + 512 - (512 - s)) % 512, Nat.mod_lt _ (by norm_num)⟩ (by rw [hn]), mask_at (64 - s) (by omega), suf_two, h, h]
  refine congrArg (fun z : EReal => suf (colSeq v0 c) s r.val + z) ?_
  by_cases g : r.val % 64 + s < 64
  · rw [if_pos g, if_pos (by omega : r.val % 64 < 64 - s), if_pos rfl]
    refine congrArg (suf (colSeq v0 c) s) ?_
    show (r.val + 512 - (512 - s)) % 512 = r.val + s
    omega
  · rw [if_neg g, if_neg (by omega : ¬ r.val % 64 < 64 - s), if_neg (by decide)]

/-- the gradient in the sums of a block, summed to the end of the chunk -/
abbrev back (d : FVec Ideal S512x128 .f32) : FVec Ideal S512x128 .f32 :=
  k0_pay15 place (k0_pay12 d 64#32 k0_pay8 k0_pay9 k0_pay10)
    (k0_pay13 64#32 k0_pay8 k0_pay9 k0_pay10)
    (k0_pay14 d 64#32 k0_pay8 k0_pay9 k0_pay10) (Scalar.ofBits (F := Ideal) .f32 0x00000000#32)

theorem back_steps (d : FVec Ideal S512x128 .f32) : back d
    = stepv (cmpi .slt place (broadcast S512x1 32#32)) 480#32 (stepv (cmpi .slt place (broadcast S512x1 48#32)) 496#32 (stepv (cmpi .slt place (broadcast S512x1 56#32)) 504#32
      (stepv (cmpi .slt place (broadcast S512x1 60#32)) 508#32 (stepv (cmpi .slt place (broadcast S512x1 62#32)) 510#32 (stepv (cmpi .slt place (broadcast S512x1 63#32)) 511#32 d))))) := rfl

theorem back_at (v : FVec Ideal S512x128 .f32) (r : Fin 512) (c : Fin 128) :
    back v (ix2 r c) = ∑ j : Fin 64, if r.val % 64 ≤ j.val then v (ix2 (⟨r.val / 64 * 64 + j.val, by omega⟩ : Fin 512) c) else 0 := by
  have h0 : ∀ r : Fin 512, v (ix2 r c) = suf (colSeq v c) 1 r.val := fun r => by
    rw [suf_one]
    unfold colSeq
    rw [dif_pos r.isLt]
  have h1 := step_suf v _ c 1 (by norm_num) (by norm_num) h0
  have h2 := step_suf v _ c 2 (by norm_num) (by norm_num) h1
  have h3 := step_suf v _ c 4 (by norm_num) (by norm_num) h2
  have h4 := step_suf v _ c 8 (by norm_num) (by norm_num) h3
  have h5 := step_suf v _ c 16 (by norm_num) (by norm_num) h4
  have h6 := step_suf v _ c 32 (by norm_num) (by norm_num) h5 r
  rw [back_steps]
  refine h6.trans ((suf_all _ _).trans (Finset.sum_congr rfl fun j _ => ?_))
  refine congrArg (fun z : EReal => if r.val % 64 ≤ j.val then z else 0) ?_
  unfold colSeq
  rw [dif_pos (by omega : r.val / 64 * 64 + j.val < 512)]

theorem slt_at8 : ∀ c : Fin 128, IntOp.cmpi .slt (BitVec.ofNat 32 c.val) 8#32 = if c.val < 8 then 1#1 else 0#1 := by
  decide +kernel

theorem in_at : ∀ c : Fin 128, IntOp.andi (IntOp.cmpi .sge (BitVec.ofNat 32 c.val) 8#32) (IntOp.cmpi .slt (BitVec.ofNat 32 c.val) 16#32) = if 8 ≤ c.val ∧ c.val < 16 then 1#1 else 0#1 := by
  decide +kernel

/-- the block every window shows at a point of the grid -/
theorem idx : ∀ t : Fin cfg0.N, win0_0.index t = ![t.val, 48]
    ∧ win0_1.index t = ![0, 0]
    ∧ win0_2.index t = ![t.val, 0]
    ∧ win0_3.index t = ![t.val, 0]
    ∧ win0_4.index t = ![0, 0] :=
  (by decide +kernel : ∀ t : Fin grid0.N, _)

/-- the block of the table at a point of the grid is all of it -/
theorem table (c : Dev nD) (t : Fin cfg0.N) : iblk m c 1 t = gateRows (m ((c : Thread nD τ).loc main_arg1)) (m ((c : Thread nD τ).loc main_arg2)) := by
  rw [← V_g m c]
  funext z
  blk_point [iblk, idx t]

theorem xblk (c : Dev nD) (t : Fin cfg0.N) (r : Fin 512) (k : Fin 128) :
    iblk m c 0 t (ix2 r k) = m ((c : Thread nD τ).loc main_arg0) (ix2 (⟨t.val * 512 + r.val, by have : t.val < 8 := t.isLt; omega⟩ : Fin 4096) (⟨6144 + k.val, by omega⟩ : Fin 6272)) := by
  blk_point [iblk, V, idx t]

theorem dblk (c : Dev nD) (t : Fin cfg0.N) (r : Fin 512) (k : Fin 128) :
    iblk m c 2 t (ix2 r k) = m ((c : Thread nD τ).loc main_arg3) (ix2 (⟨t.val * 512 + r.val, by have : t.val < 8 := t.isLt; omega⟩ : Fin 4096) k) := by
  blk_point [iblk, V, idx t]

theorem pay4 (x : FVec Ideal S512x128 .f32) (r : Fin 512) (c : Fin 128) : k0_pay4 (F := Ideal) x (ix2 r c) = logistic (x (ix2 r c)) := by
  refine Eq.trans ?_ (logistic_tanh _)
  pointwise [k0_pay4]

theorem pay7 (x : FVec Ideal S512x128 .f32) (g : FVec Ideal S8x128 .f32) (r : Fin 512) (c : Fin 128) :
    k0_pay7 (F := Ideal) x g (ix2 r c) = (-Ideal.exp (g (ix2 (0 : Fin 8) c))) * sp (x (ix2 r c) + g (ix2 (1 : Fin 8) c)) := by
  have e : k0_pay7 (F := Ideal) x g (ix2 r c) = (0 - Ideal.exp (g (ix2 (0 : Fin 8) c))) * (max (x (ix2 r c) + g (ix2 (1 : Fin 8) c)) 0
      + Ideal.log1p (Ideal.exp (0 - max (x (ix2 r c) + g (ix2 (1 : Fin 8) c)) (-(x (ix2 r c) + g (ix2 (1 : Fin 8) c)))))) := by
    pointwise [k0_pay7, k0_pay6, k0_pay5, k0_pay3]
    rfl
  rw [e, zero_sub, zero_sub]
  rfl

theorem pay16 (r : Fin 512) (c : Fin 128) : k0_pay16 (ix2 r c) = if 8 ≤ c.val ∧ c.val < 16 then 1#1 else 0#1 := by
  rw [← in_at]
  pointwise [k0_pay16]

/-- the gradient in the decay's logits, of a block -/
abbrev grad (x : FVec Ideal S512x128 .f32) (g : FVec Ideal S8x128 .f32) (d : FVec Ideal S512x128 .f32) : FVec Ideal S512x128 .f32 :=
  k0_pay17 (k0_pay5 x g) (k0_pay6 g) (k0_pay11 64#32 k0_pay8 k0_pay9 k0_pay10) (k0_pay12 d 64#32 k0_pay8 k0_pay9 k0_pay10)
    (k0_pay13 64#32 k0_pay8 k0_pay9 k0_pay10) (k0_pay14 d 64#32 k0_pay8 k0_pay9 k0_pay10) (Scalar.ofBits (F := Ideal) .f32 0x00000000#32)

theorem grad_at (x : FVec Ideal S512x128 .f32) (g : FVec Ideal S8x128 .f32) (d : FVec Ideal S512x128 .f32) (r : Fin 512) (c : Fin 128) :
    grad x g d (ix2 r c) = if 8 ≤ c.val ∧ c.val < 16 then
      (back d (ix2 r c) * (-Ideal.exp (g (ix2 (0 : Fin 8) c)))) * logistic (x (ix2 r c) + g (ix2 (1 : Fin 8) c)) else 0 := by
  have e : grad x g d = select k0_pay16 (mulf (mulf (back d) (broadcastTo S512x128 (k0_pay6 (F := Ideal) g) broadcasts_S1x128_S512x128)) (k0_pay4 (F := Ideal) (k0_pay5 (F := Ideal) x g)))
      (broadcast S512x128 (Scalar.ofBits (F := Ideal) .f32 0x00000000#32)) := by
    unfold grad back place k0_pay17 k0_pay4
    rfl
  have e5 : k0_pay5 (F := Ideal) x g (ix2 r c) = x (ix2 r c) + g (ix2 (1 : Fin 8) c) := by
    pointwise [k0_pay5, k0_pay3]
  have e6 : k0_pay6 (F := Ideal) g (ix2 (0 : Fin 1) c) = -Ideal.exp (g (ix2 (0 : Fin 8) c)) := by
    rw [← zero_sub]
    pointwise [k0_pay6, k0_pay3]
  rw [e, ← e5, ← e6, ← pay4]
  generalize back d = u
  generalize k0_pay4 (F := Ideal) (k0_pay5 (F := Ideal) x g) = v
  generalize k0_pay6 (F := Ideal) g = w
  have p : (select k0_pay16 (mulf (mulf u (broadcastTo S512x128 w broadcasts_S1x128_S512x128)) v) (broadcast S512x128 (Scalar.ofBits (F := Ideal) .f32 0x00000000#32))) (ix2 r c)
      = Scalar.select (k0_pay16 (ix2 r c)) (u (ix2 r c) * w (ix2 (0 : Fin 1) c) * v (ix2 r c)) (0 : EReal) := by
    pointwise
  rw [p, pay16]
  by_cases h : 8 ≤ c.val ∧ c.val < 16
  · rw [if_pos h, if_pos h]; rfl
  · rw [if_neg h, if_neg h]; rfl

/-- what a row adds to the gradient in the rates -/
theorem rate_at (x : FVec Ideal S512x128 .f32) (g : FVec Ideal S8x128 .f32) (d : FVec Ideal S512x128 .f32) (r : Fin 512) (c : Fin 128) :
    Scalar.select (k0_pay16 (ix2 r c)) (back d (ix2 r c) * k0_pay7 (F := Ideal) x g (ix2 r c)) (0 : EReal) = if 8 ≤ c.val ∧ c.val < 16 then
      back d (ix2 r c) * ((-Ideal.exp (g (ix2 (0 : Fin 8) c))) * sp (x (ix2 r c) + g (ix2 (1 : Fin 8) c))) else 0 := by
  rw [pay16, pay7]
  by_cases h : 8 ≤ c.val ∧ c.val < 16
  · rw [if_pos h, if_pos h]; rfl
  · rw [if_neg h, if_neg h]; rfl

theorem pay1 (p b : FVec Ideal S512x128 .f32) (v : FVec Ideal S1x128 .f32) (c : Fin 128) :
    k0_pay1 (F := Ideal) p b k0_pay16 v (ix2 (0 : Fin 1) c) = v (ix2 (0 : Fin 1) c) + ∑ r : Fin 512, Scalar.select (k0_pay16 (ix2 r c)) (b (ix2 r c) * p (ix2 r c)) (0 : EReal) := by
  pointwise [k0_pay1]

theorem pay2 (p : FVec Ideal S512x128 .f32) (v : FVec Ideal S1x128 .f32) (c : Fin 128) :
    k0_pay2 (F := Ideal) p v (ix2 (0 : Fin 1) c) = v (ix2 (0 : Fin 1) c) + ∑ r : Fin 512, p (ix2 r c) := by
  pointwise [k0_pay2]

/-- the block of the gradient in the logits at a point of the grid -/
abbrev dxb (x : FVec Ideal S512x128 .f32) (g : FVec Ideal S8x128 .f32) (d : FVec Ideal S512x128 .f32) : FVec Ideal S512x128 .bf16 :=
  k0_pay18 (k0_pay4 x) (k0_pay5 x g) (k0_pay6 g) d (k0_pay11 64#32 k0_pay8 k0_pay9 k0_pay10) (k0_pay12 d 64#32 k0_pay8 k0_pay9 k0_pay10)
    (k0_pay13 64#32 k0_pay8 k0_pay9 k0_pay10) (k0_pay14 d 64#32 k0_pay8 k0_pay9 k0_pay10) (Scalar.ofBits (F := Ideal) .f32 0x00000000#32)

theorem dxb_at (x : FVec Ideal S512x128 .f32) (g : FVec Ideal S8x128 .f32) (d : FVec Ideal S512x128 .f32) (r : Fin 512) (c : Fin 128) :
    (dxb x g d (ix2 r c) : EReal) = if c.val < 8 then d (ix2 r c) * logistic (x (ix2 r c)) * (1 - logistic (x (ix2 r c))) else grad x g d (ix2 r c) := by
  have e : dxb x g d = truncf .bf16 (select (cmpi .slt (iota .tc S512x128 32 [1] iota_S512x128_d1_w32) (broadcast S512x128 8#32))
      (mulf (mulf d (k0_pay4 (F := Ideal) x)) (subf (broadcast S512x128 (Scalar.ofBits (F := Ideal) .f32 0x3F800000#32)) (k0_pay4 (F := Ideal) x))) (grad x g d)) bitsLt_bf16_f32 := rfl
  rw [e, ← pay4, ← cone]
  generalize grad x g d = u
  generalize k0_pay4 (F := Ideal) x = v
  have p : ((truncf .bf16 (select (cmpi .slt (iota .tc S512x128 32 [1] iota_S512x128_d1_w32) (broadcast S512x128 8#32))
      (mulf (mulf d v) (subf (broadcast S512x128 (Scalar.ofBits (F := Ideal) .f32 0x3F800000#32)) v)) u) bitsLt_bf16_f32 : FVec Ideal S512x128 .bf16) (ix2 r c) : EReal)
      = Scalar.select (IntOp.cmpi .slt (BitVec.ofNat 32 c.val) 8#32) (d (ix2 r c) * v (ix2 r c) * (Ideal.ofBits .f32 0x3F800000#32 - v (ix2 r c))) (u (ix2 r c)) := by
    pointwise
  refine p.trans ?_
  rw [slt_at8]
  by_cases h8 : c.val < 8
  · rw [if_pos h8, if_pos h8]; rfl
  · rw [if_neg h8, if_neg h8]; rfl

theorem dx_block (c : Dev nD) (t : Fin cfg0.N) : (outsAt0 m c t.val t.isLt).1 = dxb (iblk m c 0 t) (iblk m c 1 t) (iblk m c 2 t) := by
  by_cases h0 : t.val % 8 = 0
  · rw [outsAt0_A m c t h0]; dsimp only; frame_out
  · rw [outsAt0_B m c t h0]; dsimp only; frame_out

/-- what a point of the grid adds to the gradients in the rates (row 0) and in the bias (row 1): sums over its rows -/
def part (x : FVec Ideal S512x128 .f32) (g : FVec Ideal S8x128 .f32) (d : FVec Ideal S512x128 .f32) (z : S8x128.Idx) : EReal :=
  if (z 0).val = 0 then ∑ r : Fin 512, Scalar.select (k0_pay16 (ix2 r (z 1))) (back d (ix2 r (z 1)) * k0_pay7 (F := Ideal) x g (ix2 r (z 1))) (0 : EReal)
  else if (z 0).val = 1 then ∑ r : Fin 512, grad x g d (ix2 r (z 1)) else 0

theorem row_eq0 (z : S8x128.Idx) (hz : (z 0).val = 0) : (ix2 (0 : Fin 8) (z 1) : S8x128.Idx) = z := by
  funext a; revert a
  exact Fin.forall_fin_two.mpr ⟨Fin.ext (by show 0 = (z 0).val; omega), rfl⟩

theorem row_eq1 (z : S8x128.Idx) (hz : (z 0).val = 1) : (ix2 (1 : Fin 8) (z 1) : S8x128.Idx) = z := by
  funext a; revert a
  exact Fin.forall_fin_two.mpr ⟨Fin.ext (by show 1 = (z 0).val; omega), rfl⟩

theorem ld0 (v : FVec Ideal S8x128 .f32) (k : Fin 128) : (View.ld (Val := Elt Ideal) (S := S8x128) (e' := .f32) v (Rect.unit ![0, 0] ![1, 128] inb_S8x128_S1x128_0_0) : S1x128.Idx → EReal) (ix2 (0 : Fin 1) k) = v (ix2 (0 : Fin 8) k) := by
  pointwise

theorem ld1 (v : FVec Ideal S8x128 .f32) (k : Fin 128) : (View.ld (Val := Elt Ideal) (S := S8x128) (e' := .f32) v (Rect.unit ![1, 0] ![1, 128] inb_S8x128_S1x128_1_0) : S1x128.Idx → EReal) (ix2 (0 : Fin 1) k) = v (ix2 (1 : Fin 8) k) := by
  pointwise

theorem dg_step (c : Dev nD) (t : Fin cfg0.N) (h0 : ¬ t.val % 8 = 0) (z : S8x128.Idx) :
    (outsAt0 m c t.val t.isLt).2 z = (outsAt0 m c (t.val - 1) (Nat.lt_of_le_of_lt (Nat.sub_le _ _) t.isLt)).2 z + part (iblk m c 0 t) (iblk m c 1 t) (iblk m c 2 t) z := by
  rw [outsAt0_B m c t h0]; dsimp only; frame_out
  generalize (outsAt0 m c (t.val - 1) (Nat.lt_of_le_of_lt (Nat.sub_le _ _) t.isLt)).2 = u
  by_cases h1 : (z 0).val = 1
  · rw [part, if_neg (by omega), if_pos h1]
    refine (View.read_writes_cons_unit_of_mem _ _ _ _ _ z (ix2 (0 : Fin 1) (z 1)) rfl (Fin.forall_fin_two.mpr ⟨by show (z 0).val = 1 + 0; omega, (Nat.zero_add _).symm⟩)).trans ?_
    refine (pay2 _ _ _).trans ?_
    exact congrArg (fun q : EReal => q + _) ((ld1 u (z 1)).trans (congrArg u (row_eq1 z h1)))
  · refine (View.read_writes_cons_unit_of_not_mem _ _ _ _ _ z rfl (0 : Fin 2) (by
      by_cases h : (z 0).val = 0
      · exact Or.inl (by show (z 0).val < 1; omega)
      · exact Or.inr (by show 1 + 1 ≤ (z 0).val; omega))).trans ?_
    by_cases hz : (z 0).val = 0
    · rw [part, if_pos hz]
      refine (View.read_writes_cons_unit_of_mem _ _ _ _ _ z (ix2 (0 : Fin 1) (z 1)) rfl (Fin.forall_fin_two.mpr ⟨by show (z 0).val = 0 + 0; omega, (Nat.zero_add _).symm⟩)).trans ?_
      refine (pay1 _ _ _ _).trans ?_
      exact congrArg (fun q : EReal => q + _) ((ld0 u (z 1)).trans (congrArg u (row_eq0 z hz)))
    · rw [part, if_neg hz, if_neg h1, add_zero]
      refine (View.read_writes_cons_unit_of_not_mem _ _ _ _ _ z rfl (0 : Fin 2) (Or.inr (by show 0 + 1 ≤ (z 0).val; omega))).trans ?_
      rw [View.writes_nil, Memref.IsWhole.read_unread]

theorem row_mem0 (w : S1x128.Idx → EReal) (L : List (View.Piece (Elt Ideal) S8x128 .f32)) (z : S8x128.Idx) (hz : (z 0).val = 0) :
    View.canon ((⟨Rect.unit ![0, 0] ![1, 128] inb_S8x128_S1x128_0_0, w⟩ : View.Piece (Elt Ideal) S8x128 .f32) :: L) z = w (ix2 (0 : Fin 1) (z 1)) := by
  have e : (Rect.unit ![0, 0] ![1, 128] inb_S8x128_S1x128_0_0 : Rect S8x128).emb (ix2 (0 : Fin 1) (z 1)) = z := by
    funext a; revert a
    refine Fin.forall_fin_two.mpr ⟨Fin.ext ?_, Fin.ext ?_⟩
    · show 0 + 1 * 0 = (z 0).val; omega
    · show 0 + 1 * (z 1).val = (z 1).val; omega
  conv_lhs => rw [← e]
  exact View.canon_cons_emb _ _ _ _

theorem row_mem1 (w : S1x128.Idx → EReal) (L : List (View.Piece (Elt Ideal) S8x128 .f32)) (z : S8x128.Idx) (hz : (z 0).val = 1) :
    View.canon ((⟨Rect.unit ![1, 0] ![1, 128] inb_S8x128_S1x128_1_0, w⟩ : View.Piece (Elt Ideal) S8x128 .f32) :: L) z = w (ix2 (0 : Fin 1) (z 1)) := by
  have e : (Rect.unit ![1, 0] ![1, 128] inb_S8x128_S1x128_1_0 : Rect S8x128).emb (ix2 (0 : Fin 1) (z 1)) = z := by
    funext a; revert a
    refine Fin.forall_fin_two.mpr ⟨Fin.ext ?_, Fin.ext ?_⟩
    · show 1 + 1 * 0 = (z 0).val; omega
    · show 0 + 1 * (z 1).val = (z 1).val; omega
  conv_lhs => rw [← e]
  exact View.canon_cons_emb _ _ _ _

theorem row_not_mem0 (w : S1x128.Idx → EReal) (L : List (View.Piece (Elt Ideal) S8x128 .f32)) (z : S8x128.Idx) (hz : ¬ (z 0).val = 0) :
    View.canon ((⟨Rect.unit ![0, 0] ![1, 128] inb_S8x128_S1x128_0_0, w⟩ : View.Piece (Elt Ideal) S8x128 .f32) :: L) z = View.canon L z := by
  refine View.canon_cons_of_not_mem _ _ ?_
  rw [Rect.mem_set_unit]
  intro h
  have h2 : (z 0).val < 0 + 1 := (h (0 : Fin 2)).2
  omega

theorem row_not_mem1 (w : S1x128.Idx → EReal) (L : List (View.Piece (Elt Ideal) S8x128 .f32)) (z : S8x128.Idx) (hz : ¬ (z 0).val = 1) :
    View.canon ((⟨Rect.unit ![1, 0] ![1, 128] inb_S8x128_S1x128_1_0, w⟩ : View.Piece (Elt Ideal) S8x128 .f32) :: L) z = View.canon L z := by
  refine View.canon_cons_of_not_mem _ _ ?_
  rw [Rect.mem_set_unit]
  intro h
  have h1 : 1 ≤ (z 0).val := (h (0 : Fin 2)).1
  have h2 : (z 0).val < 1 + 1 := (h (0 : Fin 2)).2
  omega

theorem zeros (z : S8x128.Idx) : View.canon [(⟨Rect.unit ![0, 0] ![8, 128] inb_S8x128_S8x128_0_0, k0_pay19 (F := Ideal)⟩ : View.Piece (Elt Ideal) S8x128 .f32)] z = (0 : EReal) := by
  refine (congrFun (View.canon_cons_unit_lit' (Val := Elt Ideal) (e := .f32) inb_S8x128_S8x128_0_0 (k0_pay19 (F := Ideal)) [] (by decide)) z).trans ?_
  pointwise [k0_pay19]

theorem dg_first (c : Dev nD) (t : Fin cfg0.N) (h0 : t.val % 8 = 0) (z : S8x128.Idx) : (outsAt0 m c t.val t.isLt).2 z = 0 + part (iblk m c 0 t) (iblk m c 1 t) (iblk m c 2 t) z := by
  rw [outsAt0_A m c t h0]; dsimp only; frame_out
  by_cases h1 : (z 0).val = 1
  · rw [part, if_neg (by omega), if_pos h1]
    refine (row_mem1 _ _ z h1).trans ?_
    refine (pay2 _ _ _).trans ?_
    rw [View.readCov_eq_canon']
    refine congrArg (· + ∑ r : Fin 512, grad (iblk m c 0 t) (iblk m c 1 t) (iblk m c 2 t) (ix2 r (z 1))) ?_
    pointwise
    exact (row_not_mem0 _ _ _ (by show ¬ (1 : ℕ) = 0; omega)).trans (zeros _)
  · refine (row_not_mem1 _ _ z h1).trans ?_
    by_cases hz : (z 0).val = 0
    · rw [part, if_pos hz]
      refine (row_mem0 _ _ z hz).trans ?_
      refine (pay1 _ _ _ _).trans ?_
      rw [View.readCov_eq_canon']
      refine congrArg (· + ∑ r : Fin 512, Scalar.select (k0_pay16 (ix2 r (z 1))) (back (iblk m c 2 t) (ix2 r (z 1)) * k0_pay7 (F := Ideal) (iblk m c 0 t) (iblk m c 1 t) (ix2 r (z 1))) (0 : EReal)) ?_
      pointwise
      exact zeros _
    · rw [part, if_neg hz, if_neg h1, add_zero]
      exact (row_not_mem0 _ _ z hz).trans (zeros z)

/-- the gradient in the sums, summed to the end of the chunk -/
def RSK (d : FVec Ideal S4096x128 .f32) (l : Fin 4096) (c : Fin 128) : EReal :=
  ∑ j : Fin 64, if l.val % 64 ≤ j.val then d (ix2 (⟨l.val / 64 * 64 + j.val, by omega⟩ : Fin 4096) c) else 0

/-- what a row adds to the gradient in the rates -/
def G0 (X : FVec Ideal S4096x6272 .f32) (T : FVec Ideal S8x128 .f32) (d : FVec Ideal S4096x128 .f32) (l : Fin 4096) (c : Fin 128) : EReal :=
  if 8 ≤ c.val ∧ c.val < 16 then RSK d l c * ((-Ideal.exp (T (ix2 (0 : Fin 8) c))) * sp (X (ix2 l (⟨6144 + c.val, by omega⟩ : Fin 6272)) + T (ix2 (1 : Fin 8) c))) else 0

/-- what a row adds to the gradient in the bias -/
def G1 (X : FVec Ideal S4096x6272 .f32) (T : FVec Ideal S8x128 .f32) (d : FVec Ideal S4096x128 .f32) (l : Fin 4096) (c : Fin 128) : EReal :=
  if 8 ≤ c.val ∧ c.val < 16 then (RSK d l c * (-Ideal.exp (T (ix2 (0 : Fin 8) c)))) * logistic (X (ix2 l (⟨6144 + c.val, by omega⟩ : Fin 6272)) + T (ix2 (1 : Fin 8) c)) else 0

/-- the gradient in the logits as one closed form -/
def DX (X : FVec Ideal S4096x6272 .f32) (T : FVec Ideal S8x128 .f32) (d : FVec Ideal S4096x128 .f32) (l : Fin 4096) (c : Fin 128) : EReal :=
  if c.val < 8 then d (ix2 l c) * logistic (X (ix2 l (⟨6144 + c.val, by omega⟩ : Fin 6272))) * (1 - logistic (X (ix2 l (⟨6144 + c.val, by omega⟩ : Fin 6272)))) else G1 X T d l c

/-- the gradients in the rates and in the bias, above rows of zeros -/
def DP (X : FVec Ideal S4096x6272 .f32) (T : FVec Ideal S8x128 .f32) (d : FVec Ideal S4096x128 .f32) : FVec Ideal S8x128 .f32 :=
  fun z => (if (z 0).val = 0 then ∑ l : Fin 4096, G0 X T d l (z 1) else if (z 0).val = 1 then ∑ l : Fin 4096, G1 X T d l (z 1) else 0 : EReal)

theorem back_rows (c : Dev nD) (t : Fin cfg0.N) (r : Fin 512) (k : Fin 128) :
    back (iblk m c 2 t) (ix2 r k) = RSK (m ((c : Thread nD τ).loc main_arg3)) (⟨t.val * 512 + r.val, by have : t.val < 8 := t.isLt; omega⟩ : Fin 4096) k := by
  refine (back_at (iblk m c 2 t) r k).trans ?_
  unfold RSK
  refine Finset.sum_congr rfl fun j _ => ?_
  rw [dblk m c t]
  have e1 : (t.val * 512 + r.val) % 64 = r.val % 64 := by omega
  have e2 : t.val * 512 + (r.val / 64 * 64 + j.val) = (t.val * 512 + r.val) / 64 * 64 + j.val := by omega
  simp only [e1, e2]

theorem grad_rows (c : Dev nD) (t : Fin cfg0.N) (r : Fin 512) (k : Fin 128) : grad (iblk m c 0 t) (iblk m c 1 t) (iblk m c 2 t) (ix2 r k)
    = G1 (m ((c : Thread nD τ).loc main_arg0)) (gateRows (m ((c : Thread nD τ).loc main_arg1)) (m ((c : Thread nD τ).loc main_arg2))) (m ((c : Thread nD τ).loc main_arg3))
      (⟨t.val * 512 + r.val, by have : t.val < 8 := t.isLt; omega⟩ : Fin 4096) k := by
  refine (grad_at (iblk m c 0 t) (iblk m c 1 t) (iblk m c 2 t) r k).trans ?_
  rw [back_rows m c t, xblk m c t, table m c t]
  rfl

theorem rate_rows (c : Dev nD) (t : Fin cfg0.N) (r : Fin 512) (k : Fin 128) :
    Scalar.select (k0_pay16 (ix2 r k)) (back (iblk m c 2 t) (ix2 r k) * k0_pay7 (F := Ideal) (iblk m c 0 t) (iblk m c 1 t) (ix2 r k)) (0 : EReal)
    = G0 (m ((c : Thread nD τ).loc main_arg0)) (gateRows (m ((c : Thread nD τ).loc main_arg1)) (m ((c : Thread nD τ).loc main_arg2))) (m ((c : Thread nD τ).loc main_arg3))
      (⟨t.val * 512 + r.val, by have : t.val < 8 := t.isLt; omega⟩ : Fin 4096) k := by
  refine (rate_at (iblk m c 0 t) (iblk m c 1 t) (iblk m c 2 t) r k).trans ?_
  rw [back_rows m c t, xblk m c t, table m c t]
  rfl

/-- the rows a point of the grid stores -/
def block (X : FVec Ideal S4096x6272 .f32) (T : FVec Ideal S8x128 .f32) (d : FVec Ideal S4096x128 .f32) (t : ℕ) (ht : t < 8) : FVec Ideal S512x128 .bf16 := fun z : S512x128.Idx =>
  DX X T d (⟨t * 512 + (z 0).val, by have h : (z 0).val < 512 := (z 0).isLt; omega⟩ : Fin 4096) (⟨(z 1).val, (z 1).isLt⟩ : Fin 128)

theorem stored_at (c : Dev nD) (t : Fin cfg0.N) (r : Fin 512) (k : Fin 128) : dxb (iblk m c 0 t) (iblk m c 1 t) (iblk m c 2 t) (ix2 r k)
    = DX (m ((c : Thread nD τ).loc main_arg0)) (gateRows (m ((c : Thread nD τ).loc main_arg1)) (m ((c : Thread nD τ).loc main_arg2))) (m ((c : Thread nD τ).loc main_arg3))
      (⟨t.val * 512 + r.val, by have : t.val < 8 := t.isLt; omega⟩ : Fin 4096) k := by
  refine (dxb_at (iblk m c 0 t) (iblk m c 1 t) (iblk m c 2 t) r k).trans ?_
  rw [grad_rows m c t, xblk m c t, dblk m c t]
  rfl

theorem stored (c : Dev nD) (t : Fin cfg0.N) : dxb (iblk m c 0 t) (iblk m c 1 t) (iblk m c 2 t)
    = block (m ((c : Thread nD τ).loc main_arg0)) (gateRows (m ((c : Thread nD τ).loc main_arg1)) (m ((c : Thread nD τ).loc main_arg2))) (m ((c : Thread nD τ).loc main_arg3)) t.val t.isLt := by
  funext z
  rw [ValueIdx.eq_ix2 z]
  exact stored_at m c t (z 0) (z 1)

theorem final3 (c : Dev nD) : (dats m 0 c).arrAt 3 (cfgs 0).N = fun z : S4096x128.Idx =>
    DX (m ((c : Thread nD τ).loc main_arg0)) (gateRows (m ((c : Thread nD τ).loc main_arg1)) (m ((c : Thread nD τ).loc main_arg2))) (m ((c : Thread nD τ).loc main_arg3)) (z 0) (z 1) := by
  refine (dats m 0 c).arrAt_eq_of_covers 3 _ (by decide +kernel) fun t hf y => ?_
  blk_simp; rw [after0_3, dx_block m c t, stored m c t]
  generalize m ((c : Thread nD τ).loc main_arg0) = X
  generalize m ((c : Thread nD τ).loc main_arg3) = d
  generalize gateRows (m ((c : Thread nD τ).loc main_arg1)) (m ((c : Thread nD τ).loc main_arg2)) = T
  have hemb : ((cfg0.win 3).blk t).view.emb y = ix2 (⟨t.val * 512 + ((y : S512x128.Idx) 0).val, by
      have ht : t.val < 8 := t.isLt; have h : ((y : S512x128.Idx) 0).val < 512 := ((y : S512x128.Idx) 0).isLt; omega⟩ : Fin 4096) (⟨((y : S512x128.Idx) 1).val, ((y : S512x128.Idx) 1).isLt⟩ : Fin 128) := by
    blk_ext [idx t]
  exact (congrArg (fun z : S4096x128.Idx => DX X T d (z 0) (z 1)) hemb.symm)

theorem part_rows (c : Dev nD) (t : Fin cfg0.N) (z : S8x128.Idx) : part (iblk m c 0 t) (iblk m c 1 t) (iblk m c 2 t) z
    = if (z 0).val = 0 then ∑ r : Fin 512, G0 (m ((c : Thread nD τ).loc main_arg0)) (gateRows (m ((c : Thread nD τ).loc main_arg1)) (m ((c : Thread nD τ).loc main_arg2))) (m ((c : Thread nD τ).loc main_arg3))
        (⟨t.val * 512 + r.val, by have : t.val < 8 := t.isLt; omega⟩ : Fin 4096) (z 1)
      else if (z 0).val = 1 then ∑ r : Fin 512, G1 (m ((c : Thread nD τ).loc main_arg0)) (gateRows (m ((c : Thread nD τ).loc main_arg1)) (m ((c : Thread nD τ).loc main_arg2))) (m ((c : Thread nD τ).loc main_arg3))
        (⟨t.val * 512 + r.val, by have : t.val < 8 := t.isLt; omega⟩ : Fin 4096) (z 1) else 0 := by
  unfold part
  rw [Finset.sum_congr rfl fun r _ => rate_rows m c t r (z 1), Finset.sum_congr rfl fun r _ => grad_rows m c t r (z 1)]

theorem final4 (c : Dev nD) : (dats m 0 c).arrAt 4 (cfgs 0).N = DP (m ((c : Thread nD τ).loc main_arg0)) (gateRows (m ((c : Thread nD τ).loc main_arg1)) (m ((c : Thread nD τ).loc main_arg2))) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => (outsAt0 m c n h).2) 8 (fun _ => 0) (fun t z => part (iblk m c 0 t) (iblk m c 1 t) (iblk m c 2 t) z)
    (fun t h i => dg_first m c t h i) (fun t h i => dg_step m c t h i) t ((flush0_4 t).mp hf) _, zero_add]
  have ht : t.val < 8 := t.isLt
  have hq : t.val / 8 = 0 := by omega
  have hemb : ((cfg0.win 4).blk t).view.emb y = (y : S8x128.Idx) := by
    blk_ext [idx t]
  refine Eq.trans ?_ (congrArg (DP (m ((c : Thread nD τ).loc main_arg0)) (gateRows (m ((c : Thread nD τ).loc main_arg1)) (m ((c : Thread nD τ).loc main_arg2))) (m ((c : Thread nD τ).loc main_arg3))) hemb.symm)
  change @Eq EReal _ _
  rw [Finset.sum_congr rfl fun s _ => part_rows m c _ y]
  generalize m ((c : Thread nD τ).loc main_arg0) = X
  generalize m ((c : Thread nD τ).loc main_arg3) = d
  generalize gateRows (m ((c : Thread nD τ).loc main_arg1)) (m ((c : Thread nD τ).loc main_arg2)) = T
  unfold DP
  simp only [hq, Nat.mul_zero, Nat.zero_add]
  by_cases h0 : ((y : S8x128.Idx) 0).val = 0
  · simp only [if_pos h0]
    exact Fin.sum_mul_add_congr fun s k hl => rfl
  · by_cases h1 : ((y : S8x128.Idx) 0).val = 1
    · simp only [if_neg h0, if_pos h1]
      exact Fin.sum_mul_add_congr fun s k hl => rfl
    · simp only [if_neg h0, if_neg h1]
      exact Finset.sum_const_zero

theorem ref_rs (d : FVec Ideal S4096x128 .f32) (l : Fin 4096) (k : Fin 8) (c : Fin 128) (hc : c.val = 8 + k.val) : Cert.Reference25Ideal.Terms.RS d (ix2 l k) = RSK d l c := by
  refine (Cert.Reference25Ideal.Terms.rs d l k).trans ?_
  rw [show (⟨8 + k.val, by omega⟩ : Fin 128) = c from Fin.ext hc.symm]
  rfl

theorem ref_da (x : FVec Ideal S4096x6272 .f32) (a b : FVec Ideal S1x8 .f32) (d : FVec Ideal S4096x128 .f32) (l : Fin 4096) (k : Fin 8) (c : Fin 128) (hc : c.val = 8 + k.val) :
    Cert.Reference25Ideal.Terms.DA x a b d (ix2 l k) = G1 x (gateRows a b) d l c := by
  refine (Cert.Reference25Ideal.Terms.da x a b d l k).trans ?_
  unfold G1
  rw [ref_rs d l k c hc, if_pos (by omega), gate0 a b k c hc, gate1 a b k c hc, mul_comm (RSK d l c)]
  rw [show (⟨6152 + k.val, by omega⟩ : Fin 6272) = (⟨6144 + c.val, by omega⟩ : Fin 6272) from Fin.ext (by show 6152 + k.val = 6144 + c.val; omega)]

theorem ref_dx (x : FVec Ideal S4096x6272 .f32) (a b : FVec Ideal S1x8 .f32) (d : FVec Ideal S4096x128 .f32) (l : Fin 4096) (k : Fin 128) :
    DX x (gateRows a b) d l k = Cert.Reference25Ideal.Terms.OUT0 x a b d (ix2 l k) := by
  refine Eq.trans ?_ (Cert.Reference25Ideal.Terms.out0 x a b d l k).symm
  unfold DX
  by_cases h8 : k.val < 8
  · rw [if_pos h8, dif_pos h8]
    refine Eq.trans ?_ (Cert.Reference25Ideal.Terms.db x d l (⟨k.val, h8⟩ : Fin 8)).symm
    rw [Cert.Reference25Ideal.Terms.beta, mul_assoc]
  · rw [if_neg h8, dif_neg h8]
    by_cases h16 : k.val < 16
    · rw [dif_pos h16]
      exact (ref_da x a b d l _ k (by show k.val = 8 + (k.val - 8); omega)).symm
    · rw [dif_neg h16]
      exact if_neg (by omega)

theorem value0 (c : Dev nD) : (dats m 0 c).arrAt 3 (cfgs 0).N
    = Cert.Reference25Ideal.Terms.OUT0 (m ((c : Thread nD τ).loc main_arg0)) (m ((c : Thread nD τ).loc main_arg1)) (m ((c : Thread nD τ).loc main_arg2)) (m ((c : Thread nD τ).loc main_arg3)) := by
  rw [final3]
  funext z
  refine (ref_dx (m ((c : Thread nD τ).loc main_arg0)) (m ((c : Thread nD τ).loc main_arg1)) (m ((c : Thread nD τ).loc main_arg2)) (m ((c : Thread nD τ).loc main_arg3)) (z 0) (z 1)).trans ?_
  exact congrArg (Cert.Reference25Ideal.Terms.OUT0 (m ((c : Thread nD τ).loc main_arg0)) (m ((c : Thread nD τ).loc main_arg1)) (m ((c : Thread nD τ).loc main_arg2)) (m ((c : Thread nD τ).loc main_arg3))) (ValueIdx.eq_ix2 z).symm

/-- the row of the gradient in the rates -/
abbrev row0 (a : FVec Ideal S8x128 .f32) : FVec Ideal S8 .f32 :=
  shapeCast _ (extractStridedSlice S1x8 ![0, 8] a slices_S8x128_S1x8_0_8) shapeCasts_S1x8_S8

/-- the row of the gradient in the bias -/
abbrev row1 (a : FVec Ideal S8x128 .f32) : FVec Ideal S8 .f32 :=
  shapeCast _ (extractStridedSlice S1x8 ![1, 8] a slices_S8x128_S1x8_1_8) shapeCasts_S1x8_S8

theorem row0_apply (a : FVec Ideal S8x128 .f32) (j : Fin 8) : row0 a (ValueIdx.ix1 j) = a (ix2 (0 : Fin 8) (⟨8 + j.val, by omega⟩ : Fin 128)) := by
  pointwise [row0]

theorem row1_apply (a : FVec Ideal S8x128 .f32) (j : Fin 8) : row1 a (ValueIdx.ix1 j) = a (ix2 (1 : Fin 8) (⟨8 + j.val, by omega⟩ : Fin 128)) := by
  pointwise [row1]

theorem value1 (c : Dev nD) : row0 ((dats m 0 c).arrAt 4 (cfgs 0).N)
    = Cert.Reference25Ideal.Terms.OUT1 (m ((c : Thread nD τ).loc main_arg0)) (m ((c : Thread nD τ).loc main_arg1)) (m ((c : Thread nD τ).loc main_arg2)) (m ((c : Thread nD τ).loc main_arg3)) := by
  rw [final4]
  generalize m ((c : Thread nD τ).loc main_arg0) = x
  generalize m ((c : Thread nD τ).loc main_arg1) = a
  generalize m ((c : Thread nD τ).loc main_arg2) = b
  generalize m ((c : Thread nD τ).loc main_arg3) = d
  funext z
  rw [ValueIdx.eq_ix1 z]
  refine (row0_apply _ _).trans (Eq.trans ?_ (Cert.Reference25Ideal.Terms.out1 x a b d (z 0)).symm)
  have hz : (z 0).val < 8 := (z 0).isLt
  show ∑ l : Fin 4096, G0 x (gateRows a b) d l (⟨8 + (z 0).val, by omega⟩ : Fin 128) = _
  refine Finset.sum_congr rfl fun l _ => ?_
  unfold G0
  rw [ref_rs d l (z 0) (⟨8 + (z 0).val, by omega⟩ : Fin 128) rfl, if_pos ⟨by show 8 ≤ 8 + (z 0).val; omega, by show 8 + (z 0).val < 16; omega⟩,
    gate0 a b (z 0) (⟨8 + (z 0).val, by omega⟩ : Fin 128) rfl, gate1 a b (z 0) (⟨8 + (z 0).val, by omega⟩ : Fin 128) rfl]
  rw [show (⟨6144 + (⟨8 + (z 0).val, by omega⟩ : Fin 128).val, by show 6144 + (8 + (z 0).val) < 6272; omega⟩ : Fin 6272) = (⟨6152 + (z 0).val, by omega⟩ : Fin 6272) from
    Fin.ext (by show 6144 + (8 + (z 0).val) = 6152 + (z 0).val; omega)]

theorem value2 (c : Dev nD) : row1 ((dats m 0 c).arrAt 4 (cfgs 0).N)
    = Cert.Reference25Ideal.Terms.OUT2 (m ((c : Thread nD τ).loc main_arg0)) (m ((c : Thread nD τ).loc main_arg1)) (m ((c : Thread nD τ).loc main_arg2)) (m ((c : Thread nD τ).loc main_arg3)) := by
  rw [final4]
  generalize m ((c : Thread nD τ).loc main_arg0) = x
  generalize m ((c : Thread nD τ).loc main_arg1) = a
  generalize m ((c : Thread nD τ).loc main_arg2) = b
  generalize m ((c : Thread nD τ).loc main_arg3) = d
  funext z
  rw [ValueIdx.eq_ix1 z]
  refine (row1_apply _ _).trans (Eq.trans ?_ (Cert.Reference25Ideal.Terms.out2 x a b d (z 0)).symm)
  have hz : (z 0).val < 8 := (z 0).isLt
  show ∑ l : Fin 4096, G1 x (gateRows a b) d l (⟨8 + (z 0).val, by omega⟩ : Fin 128) = _
  exact Finset.sum_congr rfl fun l _ => (ref_da x a b d l (z 0) (⟨8 + (z 0).val, by omega⟩ : Fin 128) rfl).symm

theorem tail1 (c : Dev nD) : Pipeline.afterTail₀ cfgs (dats m) 0 (V0 m) [hostOps1] c main_v13 = row0 ((dats m 0 c).arrAt 4 (cfgs 0).N) := by
  unfold Pipeline.afterTail₀
  simp only [List.flatten_cons, List.flatten_nil, List.append_nil]
  after_results
  exact congrArg row0 (Pipeline.withArrays_arr spec0 (by decide) c (V0 m c) (fun w => (dats m 0 c).arrAt w (cfgs 0).N) 4)

theorem tail2 (c : Dev nD) : Pipeline.afterTail₀ cfgs (dats m) 0 (V0 m) [hostOps1] c main_v15 = row1 ((dats m 0 c).arrAt 4 (cfgs 0).N) := by
  unfold Pipeline.afterTail₀
  simp only [List.flatten_cons, List.flatten_nil, List.append_nil]
  after_results
  exact congrArg row1 (Pipeline.withArrays_arr spec0 (by decide) c (V0 m c) (fun w => (dats m 0 c).arrAt w (cfgs 0).N) 4)

end Cert.Kernel25Ideal.GatesBwd

end
-- ==== Proof.lean ====
/- The claims, from the frames of the programs and the value of every kernel. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.ReferenceIdeal.Run
public import proofs.«01_k».proof.Proof.DH1
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Reference2Ideal.Run
public import proofs.«01_k».proof.Proof.DWBIn
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Reference3Ideal.Run
public import proofs.«01_k».proof.Proof.DH0
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Reference4Ideal.Run
public import proofs.«01_k».proof.Proof.DWAIn
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Reference5Ideal.Run
public import proofs.«01_k».proof.Proof.DOgA
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Reference6Ideal.Run
public import proofs.«01_k».proof.Proof.DWAOut
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Reference7Ideal.Run
public import proofs.«01_k».proof.Proof.DOgB
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Reference8Ideal.Run
public import proofs.«01_k».proof.Proof.DWBOut
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Reference9Ideal.Run
public import proofs.«01_k».proof.Proof.ProjA
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Reference10Ideal.Run
public import proofs.«01_k».proof.Proof.ProjB
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.Gen.Reference11Ideal.Run
public import proofs.«01_k».proof.Proof.AdamBIn
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.Gen.Reference12Ideal.Run
public import proofs.«01_k».proof.Proof.AdamAIn
public import proofs.«01_k».proof.Proof.Gen.Kernel13
public import proofs.«01_k».proof.Proof.Gen.Kernel13Ideal
public import proofs.«01_k».proof.Proof.Gen.Reference13Ideal
public import proofs.«01_k».proof.Proof.Gen.Kernel13.Frame
public import proofs.«01_k».proof.Proof.Gen.Kernel13Ideal.Frame
public import proofs.«01_k».proof.Proof.Gen.Reference13Ideal.Run
public import proofs.«01_k».proof.Proof.AdamAOut
public import proofs.«01_k».proof.Proof.Gen.Kernel14
public import proofs.«01_k».proof.Proof.Gen.Kernel14Ideal
public import proofs.«01_k».proof.Proof.Gen.Reference14Ideal
public import proofs.«01_k».proof.Proof.Gen.Kernel14.Frame
public import proofs.«01_k».proof.Proof.Gen.Kernel14Ideal.Frame
public import proofs.«01_k».proof.Proof.Gen.Reference14Ideal.Run
public import proofs.«01_k».proof.Proof.AdamBOut
public import proofs.«01_k».proof.Proof.Gen.Kernel15
public import proofs.«01_k».proof.Proof.Gen.Kernel15Ideal
public import proofs.«01_k».proof.Proof.Gen.Reference15Ideal
public import proofs.«01_k».proof.Proof.Gen.Kernel15.Frame
public import proofs.«01_k».proof.Proof.Gen.Kernel15Ideal.Frame
public import proofs.«01_k».proof.Proof.Gen.Reference15Ideal.Run
public import proofs.«01_k».proof.Proof.AdamConv
public import proofs.«01_k».proof.Proof.Gen.Kernel16
public import proofs.«01_k».proof.Proof.Gen.Kernel16Ideal
public import proofs.«01_k».proof.Proof.Gen.Reference16Ideal
public import proofs.«01_k».proof.Proof.Gen.Kernel16.Frame
public import proofs.«01_k».proof.Proof.Gen.Kernel16Ideal.Frame
public import proofs.«01_k».proof.Proof.Gen.Reference16Ideal.Run
public import proofs.«01_k».proof.Proof.AdamSmallC
public import proofs.«01_k».proof.Proof.Gen.Kernel17
public import proofs.«01_k».proof.Proof.Gen.Kernel17Ideal
public import proofs.«01_k».proof.Proof.Gen.Reference17Ideal
public import proofs.«01_k».proof.Proof.Gen.Kernel17.Frame
public import proofs.«01_k».proof.Proof.Gen.Kernel17Ideal.Frame
public import proofs.«01_k».proof.Proof.Gen.Reference17Ideal.Run
public import proofs.«01_k».proof.Proof.OutNorm
public import proofs.«01_k».proof.Proof.Gen.Kernel18
public import proofs.«01_k».proof.Proof.Gen.Kernel18Ideal
public import proofs.«01_k».proof.Proof.Gen.Reference18Ideal
public import proofs.«01_k».proof.Proof.Gen.Kernel18.Frame
public import proofs.«01_k».proof.Proof.Gen.Kernel18Ideal.Frame
public import proofs.«01_k».proof.Proof.Gen.Reference18Ideal.Run
public import proofs.«01_k».proof.Proof.Norm0
public import proofs.«01_k».proof.Proof.Gen.Kernel19
public import proofs.«01_k».proof.Proof.Gen.Kernel19Ideal
public import proofs.«01_k».proof.Proof.Gen.Reference19Ideal
public import proofs.«01_k».proof.Proof.Gen.Kernel19.Frame
public import proofs.«01_k».proof.Proof.Gen.Kernel19Ideal.Frame
public import proofs.«01_k».proof.Proof.Gen.Reference19Ideal.Run
public import proofs.«01_k».proof.Proof.DWAGates
public import proofs.«01_k».proof.Proof.Gen.Kernel20
public import proofs.«01_k».proof.Proof.Gen.Kernel20Ideal
public import proofs.«01_k».proof.Proof.Gen.Reference20Ideal
public import proofs.«01_k».proof.Proof.Gen.Kernel20.Frame
public import proofs.«01_k».proof.Proof.Gen.Kernel20Ideal.Frame
public import proofs.«01_k».proof.Proof.Gen.Reference20Ideal.Run
public import proofs.«01_k».proof.Proof.DH0Gates
public import proofs.«01_k».proof.Proof.Gen.Kernel21
public import proofs.«01_k».proof.Proof.Gen.Kernel21Ideal
public import proofs.«01_k».proof.Proof.Gen.Reference21Ideal
public import proofs.«01_k».proof.Proof.Gen.Kernel21.Frame
public import proofs.«01_k».proof.Proof.Gen.Kernel21Ideal.Frame
public import proofs.«01_k».proof.Proof.Gen.Reference21Ideal.Run
public import proofs.«01_k».proof.Proof.OutLoss
public import proofs.«01_k».proof.Proof.Gen.Kernel22
public import proofs.«01_k».proof.Proof.Gen.Kernel22Ideal
public import proofs.«01_k».proof.Proof.Gen.Reference22Ideal
public import proofs.«01_k».proof.Proof.Gen.Kernel22.Frame
public import proofs.«01_k».proof.Proof.Gen.Kernel22Ideal.Frame
public import proofs.«01_k».proof.Proof.Gen.Reference22Ideal.Run
public import proofs.«01_k».proof.Proof.Rms0
public import proofs.«01_k».proof.Proof.Gen.Kernel23
public import proofs.«01_k».proof.Proof.Gen.Kernel23Ideal
public import proofs.«01_k».proof.Proof.Gen.Reference23Ideal
public import proofs.«01_k».proof.Proof.Gen.Kernel23.Frame
public import proofs.«01_k».proof.Proof.Gen.Kernel23Ideal.Frame
public import proofs.«01_k».proof.Proof.Gen.Reference23Ideal.Run
public import proofs.«01_k».proof.Proof.Rms1
public import proofs.«01_k».proof.Proof.Gen.Kernel24
public import proofs.«01_k».proof.Proof.Gen.Kernel24Ideal
public import proofs.«01_k».proof.Proof.Gen.Reference24Ideal
public import proofs.«01_k».proof.Proof.Gen.Kernel24.Frame
public import proofs.«01_k».proof.Proof.Gen.Kernel24Ideal.Frame
public import proofs.«01_k».proof.Proof.Gen.Reference24Ideal.Run
public import proofs.«01_k».proof.Proof.GatesFwd
public import proofs.«01_k».proof.Proof.Gen.Kernel25
public import proofs.«01_k».proof.Proof.Gen.Kernel25Ideal
public import proofs.«01_k».proof.Proof.Gen.Reference25Ideal
public import proofs.«01_k».proof.Proof.Gen.Kernel25.Frame
public import proofs.«01_k».proof.Proof.Gen.Kernel25Ideal.Frame
public import proofs.«01_k».proof.Proof.Gen.Reference25Ideal.Run
public import proofs.«01_k».proof.Proof.GatesBwd
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-! DH1 -/

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  Idealize.ShloMosaic.θ_run_mono (Cert.ReferenceIdeal.Value.run m ρ) fun r h =>
    ⟨fun c => (h c).2, sem_eq_zero_of_no_sems rfl r.2⟩

theorem value : Cert.algebraic_KernelIdeal_ReferenceIdeal := by
  pair_intro
  · run_from Cert.KernelIdeal.Gen.run_main m g
  · refine Idealize.ShloMosaic.θ_run_mono (Cert.ReferenceIdeal.Value.run m' g') ?_
    intro r h c
    obtain ⟨h0, hs⟩ := h c
    obtain ⟨e0, e1, e2⟩ := hagree c
    have e := congr (congr (congrArg Cert.KernelIdeal.DH1.REF e0) e1) e2
    exact ⟨(h0.trans e).trans (Cert.KernelIdeal.DH1.final m c).symm, hs⟩

/-! DWBIn -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  Idealize.ShloMosaic.θ_run_mono (Cert.Reference2Ideal.Value.run m ρ) fun r h =>
    ⟨fun c => (h c).2, sem_eq_zero_of_no_sems rfl r.2⟩

theorem value2 : Cert.algebraic_Kernel2Ideal_Reference2Ideal := by
  pair_intro
  · run_from Cert.Kernel2Ideal.Gen.run_main m g
  · refine Idealize.ShloMosaic.θ_run_mono (Cert.Reference2Ideal.Value.run m' g') ?_
    intro r h c
    obtain ⟨h0, hs⟩ := h c
    obtain ⟨e0, e1, e2⟩ := hagree c
    have e := congr (congr (congrArg Cert.Kernel2Ideal.DWBIn.REF e0) e1) e2
    exact ⟨(h0.trans e).trans (Cert.Kernel2Ideal.DWBIn.final m c).symm, hs⟩

/-! DH0 -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  Idealize.ShloMosaic.θ_run_mono (Cert.Reference3Ideal.Value.run m ρ) fun r h =>
    ⟨fun c => (h c).2, sem_eq_zero_of_no_sems rfl r.2⟩

theorem value3 : Cert.algebraic_Kernel3Ideal_Reference3Ideal := by
  pair_intro
  · run_from Cert.Kernel3Ideal.Gen.run_main m g
  · refine Idealize.ShloMosaic.θ_run_mono (Cert.Reference3Ideal.Value.run m' g') ?_
    intro r h c
    obtain ⟨h0, hs⟩ := h c
    obtain ⟨e0, e1, e2, e3, e4⟩ := hagree c
    have e := congr (congr (congr (congr (congrArg Cert.Kernel3Ideal.DH0.REF e0) e1) e2) e3) e4
    exact ⟨(h0.trans e).trans (Cert.Kernel3Ideal.DH0.final m c).symm, hs⟩

/-! DWAIn -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  Idealize.ShloMosaic.θ_run_mono (Cert.Reference4Ideal.Value.run m ρ) fun r h =>
    ⟨fun c => (h c).2, sem_eq_zero_of_no_sems rfl r.2⟩

theorem value4 : Cert.algebraic_Kernel4Ideal_Reference4Ideal := by
  pair_intro
  · run_from Cert.Kernel4Ideal.Gen.run_main m g
  · refine Idealize.ShloMosaic.θ_run_mono (Cert.Reference4Ideal.Value.run m' g') ?_
    intro r h c
    obtain ⟨h0, hs⟩ := h c
    obtain ⟨e0, e1, e2, e3, e4⟩ := hagree c
    have e := congr (congr (congr (congr (congrArg Cert.Kernel4Ideal.DWAIn.REF e0) e1) e2) e3) e4
    exact ⟨(h0.trans e).trans (Cert.Kernel4Ideal.DWAIn.final m c).symm, hs⟩

/-! DOgA -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  Idealize.ShloMosaic.θ_run_mono (Cert.Reference5Ideal.Value.run m ρ) fun r h =>
    ⟨fun c => (h c).2, sem_eq_zero_of_no_sems rfl r.2⟩

theorem value5 : Cert.algebraic_Kernel5Ideal_Reference5Ideal := by
  pair_intro
  · run_from Cert.Kernel5Ideal.Gen.run_main m g
  · refine Idealize.ShloMosaic.θ_run_mono (Cert.Reference5Ideal.Value.run m' g') ?_
    intro r h c
    obtain ⟨h0, hs⟩ := h c
    obtain ⟨e0, e1⟩ := hagree c
    have e := congr (congrArg Cert.Kernel5Ideal.DOgA.REF e0) e1
    exact ⟨(h0.trans e).trans (Cert.Kernel5Ideal.DOgA.final m c).symm, hs⟩

/-! DWAOut -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  Idealize.ShloMosaic.θ_run_mono (Cert.Reference6Ideal.Value.run m ρ) fun r h =>
    ⟨fun c => (h c).2, sem_eq_zero_of_no_sems rfl r.2⟩

theorem value6 : Cert.algebraic_Kernel6Ideal_Reference6Ideal := by
  pair_intro
  · run_from Cert.Kernel6Ideal.Gen.run_main m g
  · refine Idealize.ShloMosaic.θ_run_mono (Cert.Reference6Ideal.Value.run m' g') ?_
    intro r h c
    obtain ⟨h0, hs⟩ := h c
    obtain ⟨e0, e1⟩ := hagree c
    have e := congr (congrArg Cert.Kernel6Ideal.DWAOut.REF e0) e1
    exact ⟨(h0.trans e).trans (Cert.Kernel6Ideal.DWAOut.final m c).symm, hs⟩

/-! DOgB -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  Idealize.ShloMosaic.θ_run_mono (Cert.Reference7Ideal.Value.run m ρ) fun r h =>
    ⟨fun c => (h c).2, sem_eq_zero_of_no_sems rfl r.2⟩

theorem value7 : Cert.algebraic_Kernel7Ideal_Reference7Ideal := by
  pair_intro
  · run_from Cert.Kernel7Ideal.Gen.run_main m g
  · refine Idealize.ShloMosaic.θ_run_mono (Cert.Reference7Ideal.Value.run m' g') ?_
    intro r h c
    obtain ⟨h0, hs⟩ := h c
    obtain ⟨e0, e1⟩ := hagree c
    have e := congr (congrArg Cert.Kernel7Ideal.DOgB.REF e0) e1
    exact ⟨(h0.trans e).trans (Cert.Kernel7Ideal.DOgB.final m c).symm, hs⟩

/-! DWBOut -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  Idealize.ShloMosaic.θ_run_mono (Cert.Reference8Ideal.Value.run m ρ) fun r h =>
    ⟨fun c => (h c).2, sem_eq_zero_of_no_sems rfl r.2⟩

theorem value8 : Cert.algebraic_Kernel8Ideal_Reference8Ideal := by
  pair_intro
  · run_from Cert.Kernel8Ideal.Gen.run_main m g
  · refine Idealize.ShloMosaic.θ_run_mono (Cert.Reference8Ideal.Value.run m' g') ?_
    intro r h c
    obtain ⟨h0, hs⟩ := h c
    obtain ⟨e0, e1⟩ := hagree c
    have e := congr (congrArg Cert.Kernel8Ideal.DWBOut.REF e0) e1
    exact ⟨(h0.trans e).trans (Cert.Kernel8Ideal.DWBOut.final m c).symm, hs⟩

/-! ProjA -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  Idealize.ShloMosaic.θ_run_mono (Cert.Reference9Ideal.Value.run m ρ) fun r h =>
    ⟨fun c => (h c).2, sem_eq_zero_of_no_sems rfl r.2⟩

theorem value9 : Cert.algebraic_Kernel9Ideal_Reference9Ideal := by
  pair_intro
  · run_from Cert.Kernel9Ideal.Gen.run_main m g
  · refine Idealize.ShloMosaic.θ_run_mono (Cert.Reference9Ideal.Value.run m' g') ?_
    intro r h c
    obtain ⟨h0, hs⟩ := h c
    obtain ⟨e0, e1⟩ := hagree c
    have e := congr (congrArg Cert.Kernel9Ideal.ProjA.REF e0) e1
    exact ⟨(h0.trans e).trans (Cert.Kernel9Ideal.ProjA.final m c).symm, hs⟩

/-! ProjB -/

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  Idealize.ShloMosaic.θ_run_mono (Cert.Reference10Ideal.Value.run m ρ) fun r h =>
    ⟨fun c => (h c).2, sem_eq_zero_of_no_sems rfl r.2⟩

theorem value10 : Cert.algebraic_Kernel10Ideal_Reference10Ideal := by
  pair_intro
  · run_from Cert.Kernel10Ideal.Gen.run_main m g
  · refine Idealize.ShloMosaic.θ_run_mono (Cert.Reference10Ideal.Value.run m' g') ?_
    intro r h c
    obtain ⟨h0, hs⟩ := h c
    obtain ⟨e0, e1⟩ := hagree c
    have e := congr (congrArg Cert.Kernel10Ideal.ProjB.REF e0) e1
    exact ⟨(h0.trans e).trans (Cert.Kernel10Ideal.ProjB.final m c).symm, hs⟩

/-! AdamBIn -/

theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  Idealize.ShloMosaic.θ_run_mono (Cert.Reference11Ideal.Value.run m ρ) fun r h =>
    ⟨fun c => (h c).2.2.2.2, sem_eq_zero_of_no_sems rfl r.2⟩

theorem value11 : Cert.algebraic_Kernel11Ideal_Reference11Ideal := by
  pair_intro
  · run_from Cert.Kernel11Ideal.Gen.run_main m g
  · refine Idealize.ShloMosaic.θ_run_mono (Cert.Reference11Ideal.Value.run m' g') ?_
    intro r h c
    obtain ⟨h0, h1, h2, h3, hs⟩ := h c
    obtain ⟨e0, e1, e2, e3⟩ := hagree c
    simp only [e0, e1, e2, e3] at h0 h1 h2 h3
    exact ⟨h0.trans (Cert.Kernel11Ideal.AdamBIn.final4 m c).symm,
      h1.trans (Cert.Kernel11Ideal.AdamBIn.final5 m c).symm,
      h2.trans (Cert.Kernel11Ideal.AdamBIn.final6 m c).symm,
      h3.trans (Cert.Kernel11Ideal.AdamBIn.final7 m c).symm, hs⟩

/-! AdamAIn -/

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  Idealize.ShloMosaic.θ_run_mono (Cert.Reference12Ideal.Value.run m ρ) fun r h =>
    ⟨fun c => (h c).2.2.2.2, sem_eq_zero_of_no_sems rfl r.2⟩

theorem value12 : Cert.algebraic_Kernel12Ideal_Reference12Ideal := by
  pair_intro
  · run_from Cert.Kernel12Ideal.Gen.run_main m g
  · refine Idealize.ShloMosaic.θ_run_mono (Cert.Reference12Ideal.Value.run m' g') ?_
    intro r h c
    obtain ⟨h0, h1, h2, h3, hs⟩ := h c
    obtain ⟨e0, e1, e2, e3⟩ := hagree c
    simp only [e0, e1, e2, e3] at h0 h1 h2 h3
    exact ⟨h0.trans (Cert.Kernel12Ideal.AdamAIn.final4 m c).symm,
      h1.trans (Cert.Kernel12Ideal.AdamAIn.final5 m c).symm,
      h2.trans (Cert.Kernel12Ideal.AdamAIn.final6 m c).symm,
      h3.trans (Cert.Kernel12Ideal.AdamAIn.final7 m c).symm, hs⟩

/-! AdamAOut -/

theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  Idealize.ShloMosaic.θ_run_mono (Cert.Reference13Ideal.Value.run m ρ) fun r h =>
    ⟨fun c => (h c).2.2.2.2, sem_eq_zero_of_no_sems rfl r.2⟩

theorem value13 : Cert.algebraic_Kernel13Ideal_Reference13Ideal := by
  pair_intro
  · run_from Cert.Kernel13Ideal.Gen.run_main m g
  · refine Idealize.ShloMosaic.θ_run_mono (Cert.Reference13Ideal.Value.run m' g') ?_
    intro r h c
    obtain ⟨h0, h1, h2, h3, hs⟩ := h c
    obtain ⟨e0, e1, e2, e3⟩ := hagree c
    simp only [e0, e1, e2, e3] at h0 h1 h2 h3
    exact ⟨h0.trans (Cert.Kernel13Ideal.AdamAOut.final4 m c).symm,
      h1.trans (Cert.Kernel13Ideal.AdamAOut.final5 m c).symm,
      h2.trans (Cert.Kernel13Ideal.AdamAOut.final6 m c).symm,
      h3.trans (Cert.Kernel13Ideal.AdamAOut.final7 m c).symm, hs⟩

/-! AdamBOut -/

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  Idealize.ShloMosaic.θ_run_mono (Cert.Reference14Ideal.Value.run m ρ) fun r h =>
    ⟨fun c => (h c).2.2.2.2, sem_eq_zero_of_no_sems rfl r.2⟩

theorem value14 : Cert.algebraic_Kernel14Ideal_Reference14Ideal := by
  pair_intro
  · run_from Cert.Kernel14Ideal.Gen.run_main m g
  · refine Idealize.ShloMosaic.θ_run_mono (Cert.Reference14Ideal.Value.run m' g') ?_
    intro r h c
    obtain ⟨h0, h1, h2, h3, hs⟩ := h c
    obtain ⟨e0, e1, e2, e3⟩ := hagree c
    simp only [e0, e1, e2, e3] at h0 h1 h2 h3
    exact ⟨h0.trans (Cert.Kernel14Ideal.AdamBOut.final4 m c).symm,
      h1.trans (Cert.Kernel14Ideal.AdamBOut.final5 m c).symm,
      h2.trans (Cert.Kernel14Ideal.AdamBOut.final6 m c).symm,
      h3.trans (Cert.Kernel14Ideal.AdamBOut.final7 m c).symm, hs⟩

/-! AdamConv -/

theorem frame_kernel15 : Cert.quiescent_Kernel15 := fun m ρ _ => Cert.Kernel15.Gen.frame m ρ

theorem frame_ideal15 : Cert.quiescent_Kernel15Ideal := fun m ρ _ => Cert.Kernel15Ideal.Gen.frame m ρ

theorem frame_reference15 : Cert.quiescent_Reference15Ideal := fun m ρ _ =>
  Idealize.ShloMosaic.θ_run_mono (Cert.Reference15Ideal.Value.run m ρ) fun r h =>
    ⟨fun c => (h c).2.2.2.2, sem_eq_zero_of_no_sems rfl r.2⟩

theorem value15 : Cert.algebraic_Kernel15Ideal_Reference15Ideal := by
  pair_intro
  · run_from Cert.Kernel15Ideal.Gen.run_main m g
    · exact Cert.Kernel15Ideal.Gen.W_main_arg1 m (Cert.Kernel15Ideal.Gen.dats m) c
    · exact Cert.Kernel15Ideal.Gen.W_main_arg2 m (Cert.Kernel15Ideal.Gen.dats m) c
    · exact Cert.Kernel15Ideal.Gen.W_main_arg3 m (Cert.Kernel15Ideal.Gen.dats m) c
  · refine Idealize.ShloMosaic.θ_run_mono (Cert.Reference15Ideal.Value.run m' g') ?_
    intro r h c
    obtain ⟨h0, h1, h2, h3, hs⟩ := h c
    obtain ⟨e0, e1, e2, e3⟩ := hagree c
    simp only [e0, e1, e2, e3] at h0 h1 h2 h3
    exact ⟨h0.trans (Cert.Kernel15Ideal.AdamConv.out4 m c).symm,
      h1.trans (Cert.Kernel15Ideal.AdamConv.out5 m c).symm,
      h2.trans (Cert.Kernel15Ideal.AdamConv.out6 m c).symm,
      h3.trans (Cert.Kernel15Ideal.AdamConv.out7 m c).symm, hs⟩

/-! AdamSmallC -/

theorem frame_kernel16 : Cert.quiescent_Kernel16 := fun m ρ _ => Cert.Kernel16.Gen.frame m ρ

theorem frame_ideal16 : Cert.quiescent_Kernel16Ideal := fun m ρ _ => Cert.Kernel16Ideal.Gen.frame m ρ

theorem frame_reference16 : Cert.quiescent_Reference16Ideal := fun m ρ _ =>
  Idealize.ShloMosaic.θ_run_mono (Cert.Reference16Ideal.Value.run m ρ) fun r h =>
    ⟨fun c => (h c).2.2.2.2.2.2.2.2.2.2.2.2.2.2.2.2.2.2.2.2.2.2.2.2.2, sem_eq_zero_of_no_sems rfl r.2⟩

set_option maxHeartbeats 4000000 in
theorem value16 : Cert.algebraic_Kernel16Ideal_Reference16Ideal := by
  pair_intro
  · run_from Cert.Kernel16Ideal.Gen.run_main m g
    · exact Cert.Kernel16Ideal.Gen.W_main_arg0 m (Cert.Kernel16Ideal.Gen.dats m) c
    · exact Cert.Kernel16Ideal.Gen.W_main_arg1 m (Cert.Kernel16Ideal.Gen.dats m) c
    · exact Cert.Kernel16Ideal.Gen.W_main_arg2 m (Cert.Kernel16Ideal.Gen.dats m) c
    · exact Cert.Kernel16Ideal.Gen.W_main_arg3 m (Cert.Kernel16Ideal.Gen.dats m) c
    · exact Cert.Kernel16Ideal.Gen.W_main_arg4 m (Cert.Kernel16Ideal.Gen.dats m) c
    · exact Cert.Kernel16Ideal.Gen.W_main_arg5 m (Cert.Kernel16Ideal.Gen.dats m) c
    · exact Cert.Kernel16Ideal.Gen.W_main_arg6 m (Cert.Kernel16Ideal.Gen.dats m) c
    · exact Cert.Kernel16Ideal.Gen.W_main_arg7 m (Cert.Kernel16Ideal.Gen.dats m) c
    · exact Cert.Kernel16Ideal.Gen.W_main_arg8 m (Cert.Kernel16Ideal.Gen.dats m) c
    · exact Cert.Kernel16Ideal.Gen.W_main_arg9 m (Cert.Kernel16Ideal.Gen.dats m) c
    · exact Cert.Kernel16Ideal.Gen.W_main_arg10 m (Cert.Kernel16Ideal.Gen.dats m) c
    · exact Cert.Kernel16Ideal.Gen.W_main_arg11 m (Cert.Kernel16Ideal.Gen.dats m) c
    · exact Cert.Kernel16Ideal.Gen.W_main_arg12 m (Cert.Kernel16Ideal.Gen.dats m) c
    · exact Cert.Kernel16Ideal.Gen.W_main_arg13 m (Cert.Kernel16Ideal.Gen.dats m) c
    · exact Cert.Kernel16Ideal.Gen.W_main_arg14 m (Cert.Kernel16Ideal.Gen.dats m) c
    · exact Cert.Kernel16Ideal.Gen.W_main_arg15 m (Cert.Kernel16Ideal.Gen.dats m) c
    · exact Cert.Kernel16Ideal.Gen.W_main_arg16 m (Cert.Kernel16Ideal.Gen.dats m) c
    · exact Cert.Kernel16Ideal.Gen.W_main_arg17 m (Cert.Kernel16Ideal.Gen.dats m) c
    · exact Cert.Kernel16Ideal.Gen.W_main_arg18 m (Cert.Kernel16Ideal.Gen.dats m) c
  · refine Idealize.ShloMosaic.θ_run_mono (Cert.Reference16Ideal.Value.run m' g') ?_
    intro r h c
    obtain ⟨h0, h1, h2, h3, h4, h5, h6, h7, h8, h9, h10, h11, h12, h13, h14, h15, h16, h17, h18, h19, h20, h21, h22, h23, h24, hs⟩ := h c
    obtain ⟨e0, e1, e2, e3, e4, e5, e6, e7, e8, e9, e10, e11, e12, e13, e14, e15, e16, e17, e18⟩ := hagree c
    exact ⟨h0.trans ((congrArg Cert.Kernel16Ideal.AdamSmallC.LOSS e0).trans (Cert.Kernel16Ideal.AdamSmallC.outLoss m c).symm),
      h1.trans ((congrArg Cert.Kernel16Ideal.AdamSmallB.RGn e0).trans (Cert.Kernel16Ideal.AdamSmallC.out4n m c).symm),
      h2.trans ((congrArg Cert.Kernel16Ideal.AdamSmallB.RGa e0).trans (Cert.Kernel16Ideal.AdamSmallC.out4a m c).symm),
      h3.trans ((congrArg Cert.Kernel16Ideal.AdamSmallB.RGd e0).trans (Cert.Kernel16Ideal.AdamSmallC.out4d m c).symm),
      h4.trans ((congrArg Cert.Kernel16Ideal.AdamSmallB.RGg e0).trans (Cert.Kernel16Ideal.AdamSmallC.out4g m c).symm),
      h5.trans ((congrArg Cert.Kernel16Ideal.AdamSmallB.RGq e0).trans (Cert.Kernel16Ideal.AdamSmallC.out4q m c).symm),
      h6.trans ((congrArg Cert.Kernel16Ideal.AdamSmallB.RGk e0).trans (Cert.Kernel16Ideal.AdamSmallC.out4k m c).symm),
      h7.trans ((congr (congr (congr (congrArg Cert.Kernel16Ideal.AdamSmallB.RDn e0) e1) e7) e13).trans (Cert.Kernel16Ideal.AdamSmallC.out5n m c).symm),
      h8.trans ((congr (congr (congr (congrArg Cert.Kernel16Ideal.AdamSmallB.RDa e0) e2) e8) e14).trans (Cert.Kernel16Ideal.AdamSmallC.out5a m c).symm),
      h9.trans ((congr (congr (congr (congrArg Cert.Kernel16Ideal.AdamSmallB.RDd e0) e3) e9) e15).trans (Cert.Kernel16Ideal.AdamSmallC.out5d m c).symm),
      h10.trans ((congr (congr (congr (congrArg Cert.Kernel16Ideal.AdamSmallB.RDg e0) e4) e10) e16).trans (Cert.Kernel16Ideal.AdamSmallC.out5g m c).symm),
      h11.trans ((congr (congr (congr (congrArg Cert.Kernel16Ideal.AdamSmallB.RDq e0) e5) e11) e17).trans (Cert.Kernel16Ideal.AdamSmallC.out5q m c).symm),
      h12.trans ((congr (congr (congr (congrArg Cert.Kernel16Ideal.AdamSmallB.RDk e0) e6) e12) e18).trans (Cert.Kernel16Ideal.AdamSmallC.out5k m c).symm),
      h13.trans ((congr (congrArg Cert.Kernel16Ideal.AdamSmallB.RMn e0) e7).trans (Cert.Kernel16Ideal.AdamSmallC.out6n m c).symm),
      h14.trans ((congr (congrArg Cert.Kernel16Ideal.AdamSmallB.RMa e0) e8).trans (Cert.Kernel16Ideal.AdamSmallC.out6a m c).symm),
      h15.trans ((congr (congrArg Cert.Kernel16Ideal.AdamSmallB.RMd e0) e9).trans (Cert.Kernel16Ideal.AdamSmallC.out6d m c).symm),
      h16.trans ((congr (congrArg Cert.Kernel16Ideal.AdamSmallB.RMg e0) e10).trans (Cert.Kernel16Ideal.AdamSmallC.out6g m c).symm),
      h17.trans ((congr (congrArg Cert.Kernel16Ideal.AdamSmallB.RMq e0) e11).trans (Cert.Kernel16Ideal.AdamSmallC.out6q m c).symm),
      h18.trans ((congr (congrArg Cert.Kernel16Ideal.AdamSmallB.RMk e0) e12).trans (Cert.Kernel16Ideal.AdamSmallC.out6k m c).symm),
      h19.trans ((congr (congrArg Cert.Kernel16Ideal.AdamSmallB.RQn e0) e13).trans (Cert.Kernel16Ideal.AdamSmallC.out7n m c).symm),
      h20.trans ((congr (congrArg Cert.Kernel16Ideal.AdamSmallB.RQa e0) e14).trans (Cert.Kernel16Ideal.AdamSmallC.out7a m c).symm),
      h21.trans ((congr (congrArg Cert.Kernel16Ideal.AdamSmallB.RQd e0) e15).trans (Cert.Kernel16Ideal.AdamSmallC.out7d m c).symm),
      h22.trans ((congr (congrArg Cert.Kernel16Ideal.AdamSmallB.RQg e0) e16).trans (Cert.Kernel16Ideal.AdamSmallC.out7g m c).symm),
      h23.trans ((congr (congrArg Cert.Kernel16Ideal.AdamSmallB.RQq e0) e17).trans (Cert.Kernel16Ideal.AdamSmallC.out7q m c).symm),
      h24.trans ((congr (congrArg Cert.Kernel16Ideal.AdamSmallB.RQk e0) e18).trans (Cert.Kernel16Ideal.AdamSmallC.out7k m c).symm), hs⟩

/-! OutNorm -/

theorem frame_kernel17 : Cert.quiescent_Kernel17 := fun m ρ _ => Cert.Kernel17.Gen.frame m ρ

theorem frame_ideal17 : Cert.quiescent_Kernel17Ideal := fun m ρ _ => Cert.Kernel17Ideal.Gen.frame m ρ

theorem frame_reference17 : Cert.quiescent_Reference17Ideal := fun m ρ _ =>
  Idealize.ShloMosaic.θ_run_mono (Cert.Reference17Ideal.Value.run m ρ) fun r h =>
    ⟨fun c => (h c).2.2.2, sem_eq_zero_of_no_sems rfl r.2⟩

theorem value17 : Cert.algebraic_Kernel17Ideal_Reference17Ideal := by
  pair_intro
  · run_from Cert.Kernel17Ideal.Gen.run_main m g
    · exact Cert.Kernel17Ideal.Gen.V_main_arg0 m c
    · exact Cert.Kernel17Ideal.Gen.V_main_arg1 m c
    · exact Cert.Kernel17Ideal.Gen.V_main_arg3 m c
  · refine Idealize.ShloMosaic.θ_run_mono (Cert.Reference17Ideal.Value.run m' g') ?_
    intro r h c
    obtain ⟨h0, h1, h2, hs⟩ := h c
    obtain ⟨e0, e1, e2, e3⟩ := hagree c
    simp only [e0, e1, e2, e3] at h0 h1 h2
    exact ⟨h0.trans (Cert.Kernel17Ideal.OutNorm.final4 m c).symm,
      h1.trans (Cert.Kernel17Ideal.OutNorm.final5 m c).symm,
      h2.trans (Cert.Kernel17Ideal.OutNorm.final6 m c).symm, hs⟩

/-! Norm0 -/

theorem frame_kernel18 : Cert.quiescent_Kernel18 := fun m ρ _ => Cert.Kernel18.Gen.frame m ρ

theorem frame_ideal18 : Cert.quiescent_Kernel18Ideal := fun m ρ _ => Cert.Kernel18Ideal.Gen.frame m ρ

theorem frame_reference18 : Cert.quiescent_Reference18Ideal := fun m ρ _ =>
  Idealize.ShloMosaic.θ_run_mono (Cert.Reference18Ideal.Value.run m ρ) fun r h =>
    ⟨fun c => (h c).2.2, sem_eq_zero_of_no_sems rfl r.2⟩

theorem value18 : Cert.algebraic_Kernel18Ideal_Reference18Ideal := by
  pair_intro
  · run_from Cert.Kernel18Ideal.Gen.run_main m g
    · exact Cert.Kernel18Ideal.Gen.V_main_arg1 m c
  · refine Idealize.ShloMosaic.θ_run_mono (Cert.Reference18Ideal.Value.run m' g') ?_
    intro r h c
    obtain ⟨h0, h1, hs⟩ := h c
    obtain ⟨e0, e1⟩ := hagree c
    simp only [e0, e1] at h0 h1
    exact ⟨h0.trans (Cert.Kernel18Ideal.Norm0.final2 m c).symm,
      h1.trans (Cert.Kernel18Ideal.Norm0.final3 m c).symm, hs⟩

/-! DWAGates -/

theorem frame_kernel19 : Cert.quiescent_Kernel19 := fun m ρ _ => Cert.Kernel19.Gen.frame m ρ

theorem frame_ideal19 : Cert.quiescent_Kernel19Ideal := fun m ρ _ => Cert.Kernel19Ideal.Gen.frame m ρ

theorem frame_reference19 : Cert.quiescent_Reference19Ideal := fun m ρ _ =>
  Idealize.ShloMosaic.θ_run_mono (Cert.Reference19Ideal.Value.run m ρ) fun r h =>
    ⟨fun c => (h c).2, sem_eq_zero_of_no_sems rfl r.2⟩

theorem value19 : Cert.algebraic_Kernel19Ideal_Reference19Ideal := by
  pair_intro
  · run_from Cert.Kernel19Ideal.Gen.run_main m g
  · refine Idealize.ShloMosaic.θ_run_mono (Cert.Reference19Ideal.Value.run m' g') ?_
    intro r h c
    obtain ⟨h0, hs⟩ := h c
    obtain ⟨e0, e1⟩ := hagree c
    have e := congr (congrArg Cert.Kernel19Ideal.DWAGates.REF e0) e1
    exact ⟨(h0.trans e).trans (Cert.Kernel19Ideal.DWAGates.final m c).symm, hs⟩

/-! DH0Gates -/

theorem frame_kernel20 : Cert.quiescent_Kernel20 := fun m ρ _ => Cert.Kernel20.Gen.frame m ρ

theorem frame_ideal20 : Cert.quiescent_Kernel20Ideal := fun m ρ _ => Cert.Kernel20Ideal.Gen.frame m ρ

theorem frame_reference20 : Cert.quiescent_Reference20Ideal := fun m ρ _ =>
  Idealize.ShloMosaic.θ_run_mono (Cert.Reference20Ideal.Value.run m ρ) fun r h =>
    ⟨fun c => (h c).2, sem_eq_zero_of_no_sems rfl r.2⟩

theorem value20 : Cert.algebraic_Kernel20Ideal_Reference20Ideal := by
  pair_intro
  · run_from Cert.Kernel20Ideal.Gen.run_main m g
  · refine Idealize.ShloMosaic.θ_run_mono (Cert.Reference20Ideal.Value.run m' g') ?_
    intro r h c
    obtain ⟨h0, hs⟩ := h c
    obtain ⟨e0, e1, e2⟩ := hagree c
    have e := congr (congr (congrArg Cert.Kernel20Ideal.DH0Gates.REF e0) e1) e2
    exact ⟨(h0.trans e).trans (Cert.Kernel20Ideal.DH0Gates.final m c).symm, hs⟩

/-! OutLoss -/

theorem frame_kernel21 : Cert.quiescent_Kernel21 := fun m ρ _ => Cert.Kernel21.Gen.frame m ρ

theorem frame_ideal21 : Cert.quiescent_Kernel21Ideal := fun m ρ _ => Cert.Kernel21Ideal.Gen.frame m ρ

theorem frame_reference21 : Cert.quiescent_Reference21Ideal := fun m ρ _ =>
  Idealize.ShloMosaic.θ_run_mono (Cert.Reference21Ideal.Value.run m ρ) fun r h =>
    ⟨fun c => (h c).2.2, sem_eq_zero_of_no_sems rfl r.2⟩

set_option maxHeartbeats 2000000 in
theorem value21 : Cert.algebraic_Kernel21Ideal_Reference21Ideal := by
  pair_intro
  · run_from Cert.Kernel21Ideal.Gen.run_main m g
    · exact Cert.Kernel21Ideal.Gen.W_main_arg0 m (Cert.Kernel21Ideal.Gen.dats m) c
    · exact Cert.Kernel21Ideal.Gen.W_main_arg1 m (Cert.Kernel21Ideal.Gen.dats m) c
  · refine Idealize.ShloMosaic.θ_run_mono (Cert.Reference21Ideal.Value.run m' g') ?_
    intro r h c
    obtain ⟨h0, h1, hs⟩ := h c
    obtain ⟨e0, e1, e2, e3⟩ := hagree c
    exact ⟨h0.trans ((congr (congr (congr (congrArg Cert.Kernel21Ideal.OutLoss.DY e0) e1) e2) e3).trans (Cert.Kernel21Ideal.OutLoss.final4 m c).symm),
      h1.trans ((congr (congr (congr (congrArg Cert.Kernel21Ideal.OutLoss.LOSS e0) e1) e2) e3).trans (Cert.Kernel21Ideal.OutLoss.out5 m c).symm), hs⟩

/-! Rms0 -/

theorem frame_kernel22 : Cert.quiescent_Kernel22 := fun m ρ _ => Cert.Kernel22.Gen.frame m ρ

theorem frame_ideal22 : Cert.quiescent_Kernel22Ideal := fun m ρ _ => Cert.Kernel22Ideal.Gen.frame m ρ

theorem frame_reference22 : Cert.quiescent_Reference22Ideal := fun m ρ _ =>
  Idealize.ShloMosaic.θ_run_mono (Cert.Reference22Ideal.Value.run m ρ) fun r h =>
    ⟨fun c => (h c).2.2, sem_eq_zero_of_no_sems rfl r.2⟩

set_option maxHeartbeats 2000000 in
theorem value22 : Cert.algebraic_Kernel22Ideal_Reference22Ideal := by
  pair_intro
  · run_from Cert.Kernel22Ideal.Gen.run_main m g
    · exact Cert.Kernel22Ideal.Gen.W_main_arg1 m (Cert.Kernel22Ideal.Gen.dats m) c
  · refine Idealize.ShloMosaic.θ_run_mono (Cert.Reference22Ideal.Value.run m' g') ?_
    intro r h c
    obtain ⟨h0, h1, hs⟩ := h c
    obtain ⟨e0, e1, e2, e3⟩ := hagree c
    exact ⟨h0.trans ((congr (congr (congr (congrArg Cert.Kernel22Ideal.Rms0.RX e0) e1) e2) e3).trans (Cert.Kernel22Ideal.Rms0.final4 m c).symm),
      h1.trans ((congr (congrArg Cert.Kernel22Ideal.Rms0.RG e0) e2).trans (Cert.Kernel22Ideal.Rms0.out5 m c).symm), hs⟩

/-! Rms1 -/

theorem frame_kernel23 : Cert.quiescent_Kernel23 := fun m ρ _ => Cert.Kernel23.Gen.frame m ρ

theorem frame_ideal23 : Cert.quiescent_Kernel23Ideal := fun m ρ _ => Cert.Kernel23Ideal.Gen.frame m ρ

theorem frame_reference23 : Cert.quiescent_Reference23Ideal := fun m ρ _ =>
  Idealize.ShloMosaic.θ_run_mono (Cert.Reference23Ideal.Value.run m ρ) fun r h =>
    ⟨fun c => (h c).2.2, sem_eq_zero_of_no_sems rfl r.2⟩

set_option maxHeartbeats 2000000 in
theorem value23 : Cert.algebraic_Kernel23Ideal_Reference23Ideal := by
  pair_intro
  · run_from Cert.Kernel23Ideal.Gen.run_main m g
    · exact Cert.Kernel23Ideal.Gen.W_main_arg1 m (Cert.Kernel23Ideal.Gen.dats m) c
  · refine Idealize.ShloMosaic.θ_run_mono (Cert.Reference23Ideal.Value.run m' g') ?_
    intro r h c
    obtain ⟨h0, h1, hs⟩ := h c
    obtain ⟨e0, e1, e2, e3⟩ := hagree c
    exact ⟨h0.trans ((congr (congr (congr (congrArg Cert.Kernel23Ideal.Rms1.RX e0) e1) e2) e3).trans (Cert.Kernel23Ideal.Rms1.final4 m c).symm),
      h1.trans ((congr (congrArg Cert.Kernel23Ideal.Rms1.RG e0) e2).trans (Cert.Kernel23Ideal.Rms1.out5 m c).symm), hs⟩

/-! GatesFwd -/

theorem frame_kernel24 : Cert.quiescent_Kernel24 := fun m ρ _ => Cert.Kernel24.Gen.frame m ρ

theorem frame_ideal24 : Cert.quiescent_Kernel24Ideal := fun m ρ _ => Cert.Kernel24Ideal.Gen.frame m ρ

theorem frame_reference24 : Cert.quiescent_Reference24Ideal := fun m ρ _ =>
  Idealize.ShloMosaic.θ_run_mono (Cert.Reference24Ideal.Value.run m ρ) fun r h =>
    ⟨fun c => (h c).2.2, sem_eq_zero_of_no_sems rfl r.2⟩

set_option maxHeartbeats 2000000 in
theorem value24 : Cert.algebraic_Kernel24Ideal_Reference24Ideal := by
  pair_intro
  · run_from Cert.Kernel24Ideal.Gen.run_main m g
  · refine Idealize.ShloMosaic.θ_run_mono (Cert.Reference24Ideal.Value.run m' g') ?_
    intro r h c
    obtain ⟨h0, h1, hs⟩ := h c
    obtain ⟨e0, e1, e2⟩ := hagree c
    exact ⟨h0.trans ((congr (congr (congrArg Cert.Reference24Ideal.Terms.OUT0 e0) e1) e2).trans (Cert.Kernel24Ideal.GatesFwd.value0 m c).symm),
      h1.trans ((congr (congr (congrArg Cert.Reference24Ideal.Terms.OUT1 e0) e1) e2).trans (Cert.Kernel24Ideal.GatesFwd.value1 m c).symm), hs⟩

/-! GatesBwd -/

theorem frame_kernel25 : Cert.quiescent_Kernel25 := fun m ρ _ => Cert.Kernel25.Gen.frame m ρ

theorem frame_ideal25 : Cert.quiescent_Kernel25Ideal := fun m ρ _ => Cert.Kernel25Ideal.Gen.frame m ρ

theorem frame_reference25 : Cert.quiescent_Reference25Ideal := fun m ρ _ =>
  Idealize.ShloMosaic.θ_run_mono (Cert.Reference25Ideal.Value.run m ρ) fun r h =>
    ⟨fun c => (h c).2.2.2, sem_eq_zero_of_no_sems rfl r.2⟩

set_option maxHeartbeats 2000000 in
theorem value25 : Cert.algebraic_Kernel25Ideal_Reference25Ideal := by
  pair_intro
  · run_from Cert.Kernel25Ideal.Gen.run_main m g
    · exact Cert.Kernel25Ideal.Gen.W_main_arg1 m (Cert.Kernel25Ideal.Gen.dats m) c
    · exact Cert.Kernel25Ideal.Gen.W_main_arg2 m (Cert.Kernel25Ideal.Gen.dats m) c
  · refine Idealize.ShloMosaic.θ_run_mono (Cert.Reference25Ideal.Value.run m' g') ?_
    intro r h c
    obtain ⟨h0, h1, h2, hs⟩ := h c
    obtain ⟨e0, e1, e2, e3⟩ := hagree c
    exact ⟨h0.trans ((congr (congr (congr (congrArg Cert.Reference25Ideal.Terms.OUT0 e0) e1) e2) e3).trans (Cert.Kernel25Ideal.GatesBwd.value0 m c).symm),
      h1.trans ((congr (congr (congr (congrArg Cert.Reference25Ideal.Terms.OUT1 e0) e1) e2) e3).trans ((Cert.Kernel25Ideal.GatesBwd.tail1 m c).trans (Cert.Kernel25Ideal.GatesBwd.value1 m c)).symm),
      h2.trans ((congr (congr (congr (congrArg Cert.Reference25Ideal.Terms.OUT2 e0) e1) e2) e3).trans ((Cert.Kernel25Ideal.GatesBwd.tail2 m c).trans (Cert.Kernel25Ideal.GatesBwd.value2 m c)).symm), hs⟩

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    frame_kernel, frame_ideal, frame_reference,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, frame_reference19,
    frame_kernel20, frame_ideal20, frame_reference20,
    frame_kernel21, frame_ideal21, frame_reference21,
    frame_kernel22, frame_ideal22, frame_reference22,
    frame_kernel23, frame_ideal23, frame_reference23,
    frame_kernel24, frame_ideal24, frame_reference24,
    frame_kernel25, frame_ideal25, frame_reference25,
    trivial, value,
    trivial, value2,
    trivial, value3,
    trivial, value4,
    trivial, value5,
    trivial, value6,
    trivial, value7,
    trivial, value8,
    trivial, value9,
    trivial, value10,
    trivial, value11,
    trivial, value12,
    trivial, value13,
    trivial, value14,
    trivial, value15,
    trivial, value16,
    trivial, value17,
    trivial, value18,
    trivial, value19,
    trivial, value20,
    trivial, value21,
    trivial, value22,
    trivial, value23,
    trivial, value24,
    trivial, value25⟩

end Cert.Proof
